-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_above_minus_infinity [hPre_gate_above_minus_infinity : Cert.Pre_gate_above_minus_infinity.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_above_minus_infinity.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_above_minus_infinity [hPre_gate_above_minus_infinity : Cert.Pre_gate_above_minus_infinity.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_above_minus_infinity.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_inputs_in_range [hPre_inputs_in_range : Cert.Pre_inputs_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_inputs_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_inputs_in_range [hPre_inputs_in_range : Cert.Pre_inputs_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_inputs_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_gate_above_minus_infinity [hKernel2Ideal : Cert.Kernel2Ideal.Facts] [hPre_gate_above_minus_infinity : Cert.Pre_gate_above_minus_infinity.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_above_minus_infinity m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_gate_above_minus_infinity [hReference2Ideal : Cert.Reference2Ideal.Facts] [hPre_gate_above_minus_infinity : Cert.Pre_gate_above_minus_infinity.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_above_minus_infinity m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_inputs_in_range [hKernel3Ideal : Cert.Kernel3Ideal.Facts] [hPre_inputs_in_range : Cert.Pre_inputs_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_inputs_in_range m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_inputs_in_range [hReference3Ideal : Cert.Reference3Ideal.Facts] [hPre_inputs_in_range : Cert.Pre_inputs_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_inputs_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_gate_above_minus_infinity [hKernel2Ideal : Cert.Kernel2Ideal.Facts] [hReference2Ideal : Cert.Reference2Ideal.Facts] [hPre_gate_above_minus_infinity : Cert.Pre_gate_above_minus_infinity.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_above_minus_infinity m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_inputs_in_range [hKernel3Ideal : Cert.Kernel3Ideal.Facts] [hReference3Ideal : Cert.Reference3Ideal.Facts] [hPre_inputs_in_range : Cert.Pre_inputs_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_inputs_in_range m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v51_0)) (v1 : (c : Dev Cert.Kernel3Ideal.nD) → Buf (Elt Ideal) ((c.tc : Thread Cert.Kernel3Ideal.nD Cert.Kernel3Ideal.τ).loc Cert.Kernel3Ideal.main_v51_1)) (v2 : (c : Dev Cert.Kernel3Ideal.nD) → Buf (Elt Ideal) ((c.tc : Thread Cert.Kernel3Ideal.nD Cert.Kernel3Ideal.τ).loc Cert.Kernel3Ideal.main_v51_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v51_0) = v0 c
          ∧ r.2.mem ((c.tc : Thread Cert.Kernel3Ideal.nD Cert.Kernel3Ideal.τ).loc Cert.Kernel3Ideal.main_v51_1) = v1 c
          ∧ r.2.mem ((c.tc : Thread Cert.Kernel3Ideal.nD Cert.Kernel3Ideal.τ).loc Cert.Kernel3Ideal.main_v51_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v352) = v0 c
          ∧ r.2.mem ((c.tc : Thread Cert.Reference3Ideal.nD Cert.Reference3Ideal.τ).loc Cert.Reference3Ideal.main_v355) = v1 c
          ∧ r.2.mem ((c.tc : Thread Cert.Reference3Ideal.nD Cert.Reference3Ideal.τ).loc Cert.Reference3Ideal.main_v357) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gate_above_minus_infinity : Cert.Pre_gate_above_minus_infinity.Facts) (hPre_inputs_in_range : Cert.Pre_inputs_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_gate_above_minus_infinity (hKernel2Ideal := hKernel2Ideal) (hPre_gate_above_minus_infinity := hPre_gate_above_minus_infinity)
    ∧ quiescent_Reference2Ideal (hReference2Ideal := hReference2Ideal)
    ∧ quiescent_Reference2Ideal_pre_gate_above_minus_infinity (hReference2Ideal := hReference2Ideal) (hPre_gate_above_minus_infinity := hPre_gate_above_minus_infinity)
    ∧ quiescent_Kernel3 (hKernel3 := hKernel3)
    ∧ quiescent_Kernel3Ideal (hKernel3Ideal := hKernel3Ideal)
    ∧ quiescent_Kernel3Ideal_pre_inputs_in_range (hKernel3Ideal := hKernel3Ideal) (hPre_inputs_in_range := hPre_inputs_in_range)
    ∧ quiescent_Reference3Ideal (hReference3Ideal := hReference3Ideal)
    ∧ quiescent_Reference3Ideal_pre_inputs_in_range (hReference3Ideal := hReference3Ideal) (hPre_inputs_in_range := hPre_inputs_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_gate_above_minus_infinity (hKernel2Ideal := hKernel2Ideal) (hReference2Ideal := hReference2Ideal) (hPre_gate_above_minus_infinity := hPre_gate_above_minus_infinity)
    ∧ preserves_Kernel3_Kernel3Ideal
    ∧ algebraic_Kernel3Ideal_Reference3Ideal_pre_inputs_in_range (hKernel3Ideal := hKernel3Ideal) (hReference3Ideal := hReference3Ideal) (hPre_inputs_in_range := hPre_inputs_in_range)
-- ==== Pre_gate_above_minus_infinity.lean ====
abbrev S16384x16384 : Shape := ⟨2, ![16384, 16384]⟩
abbrev S1x2048 : Shape := ⟨2, ![1, 2048]⟩
abbrev S1x8x128x128 : Shape := ⟨4, ![1, 8, 128, 128]⟩
abbrev S1x8x128 : Shape := ⟨3, ![1, 8, 128]⟩
abbrev S16384x2048 : Shape := ⟨2, ![16384, 2048]⟩
abbrev S4x4096x2048 : Shape := ⟨3, ![4, 4096, 2048]⟩
abbrev S1x2x2048 : Shape := ⟨3, ![1, 2, 2048]⟩
abbrev S1x2x2048x2048 : Shape := ⟨4, ![1, 2, 2048, 2048]⟩
abbrev S1x2048x2048 : Shape := ⟨3, ![1, 2048, 2048]⟩
abbrev S2048 : Shape := ⟨1, ![2048]⟩
abbrev S_ : Shape := ⟨0, ![]⟩

class Facts : Prop where
  slices_S16384x16384_S16384x2048_0_4096 : S16384x16384.Slices ![0, 4096] S16384x2048
  bitsLt_bf16_f32 : FTy.bits .bf16 < FTy.bits .f32
  bcast_S_S16384x2048 : S_.BroadcastsInDim S16384x2048 (![] : Fin 0 → Fin S16384x2048.rank)

variable [Facts]

def fn {F : FTy → Type} [FloatOps F] (main_arg0 : FVec F S16384x16384 .bf16) (main_arg1 : FVec F S1x2048 .f32) (main_arg2 : FVec F S1x2048 .f32) (main_arg3 : FVec F S1x8x128x128 .f32) (main_arg4 : FVec F S1x8x128 .f32) (main_arg5 : FVec F S16384x2048 .bf16) (main_arg6 : FVec F S4x4096x2048 .f32) (main_arg7 : FVec F S1x2x2048 .f32) (main_arg8 : FVec F S1x2x2048x2048 .f32) (main_arg9 : FVec F S1x2048x2048 .f32) (main_arg10 : FVec F S2048 .f32) : IVec S16384x2048 1 :=
  let main_v0 : FVec F S16384x2048 .bf16 := (extractStridedSlice S16384x2048 ![0, 4096] · slices_S16384x16384_S16384x2048_0_4096) main_arg0
  let main_v1 : FVec F S16384x2048 .f32 := (extf .f32 · bitsLt_bf16_f32) main_v0
  let main_cst : FVec F S_ .f32 := constant S_ .f32 0xFF800000#32
  let main_v2 : FVec F S16384x2048 .f32 := broadcastInDim S16384x2048 ![] bcast_S_S16384x2048 main_cst
  let main_v3 : IVec S16384x2048 1 := cmpf .ogt main_v1 main_v2
  main_v3
-- ==== Pre_inputs_in_range.lean ====
abbrev S16384x16384 : Shape := ⟨2, ![16384, 16384]⟩
abbrev S32x16384 : Shape := ⟨2, ![32, 16384]⟩
abbrev S1x4x4096 : Shape := ⟨3, ![1, 4, 4096]⟩
abbrev S1x4096 : Shape := ⟨2, ![1, 4096]⟩
abbrev S1x32 : Shape := ⟨2, ![1, 32]⟩
abbrev S1x2048 : Shape := ⟨2, ![1, 2048]⟩
abbrev S1x2x2048x2048 : Shape := ⟨4, ![1, 2, 2048, 2048]⟩
abbrev S1x2048x2048 : Shape := ⟨3, ![1, 2048, 2048]⟩
abbrev S4x4096x16384 : Shape := ⟨3, ![4, 4096, 16384]⟩
abbrev S4x4096x4096 : Shape := ⟨3, ![4, 4096, 4096]⟩
abbrev S_ : Shape := ⟨0, ![]⟩
abbrev S4x4099x4096 : Shape := ⟨3, ![4, 4099, 4096]⟩
abbrev S4096 : Shape := ⟨1, ![4096]⟩
abbrev S1x1x4096 : Shape := ⟨3, ![1, 1, 4096]⟩
abbrev S4x4096x2048 : Shape := ⟨3, ![4, 4096, 2048]⟩
abbrev S16384x32 : Shape := ⟨2, ![16384, 32]⟩
abbrev S4x4096x32 : Shape := ⟨3, ![4, 4096, 32]⟩
abbrev S32 : Shape := ⟨1, ![32]⟩
abbrev S1x1x32 : Shape := ⟨3, ![1, 1, 32]⟩
abbrev S4x4096x6176 : Shape := ⟨3, ![4, 4096, 6176]⟩

class Facts : Prop where
  bitsLt_bf16_f32 : FTy.bits .bf16 < FTy.bits .f32
  shapeCasts_S16384x16384_S4x4096x16384 : S16384x16384.ShapeCasts S4x4096x16384
  slices_S4x4096x16384_S4x4096x4096_0_0_8192 : S4x4096x16384.Slices ![0, 0, 8192] S4x4096x4096
  pads_S4x4096x4096_S4x4099x4096_000_300_000 : S4x4096x4096.Pads (![0, 3, 0] : Fin 3 → Nat) ![0, 0, 0] ![0, 0, 0] S4x4099x4096
  h_S_ : 0 < S_.numel
  shapeCasts_S1x4096_S4096 : S1x4096.ShapeCasts S4096
  slices_S4x4099x4096_S4x4096x4096_0_0_0 : S4x4099x4096.Slices ![0, 0, 0] S4x4096x4096
  slices_S1x4x4096_S1x1x4096_0_0_0 : S1x4x4096.Slices ![0, 0, 0] S1x1x4096
  shapeCasts_S1x1x4096_S4096 : S1x1x4096.ShapeCasts S4096
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  slices_S4x4099x4096_S4x4096x4096_0_1_0 : S4x4099x4096.Slices ![0, 1, 0] S4x4096x4096
  slices_S1x4x4096_S1x1x4096_0_1_0 : S1x4x4096.Slices ![0, 1, 0] S1x1x4096
  slices_S4x4099x4096_S4x4096x4096_0_2_0 : S4x4099x4096.Slices ![0, 2, 0] S4x4096x4096
  slices_S1x4x4096_S1x1x4096_0_2_0 : S1x4x4096.Slices ![0, 2, 0] S1x1x4096
  slices_S4x4099x4096_S4x4096x4096_0_3_0 : S4x4099x4096.Slices ![0, 3, 0] S4x4096x4096
  slices_S1x4x4096_S1x1x4096_0_3_0 : S1x4x4096.Slices ![0, 3, 0] S1x1x4096
  slices_S4x4096x16384_S4x4096x2048_0_0_6144 : S4x4096x16384.Slices ![0, 0, 6144] S4x4096x2048
  bcast_S_S4x4096x2048 : S_.BroadcastsInDim S4x4096x2048 (![] : Fin 0 → Fin S4x4096x2048.rank)
  bcast_S_S4x4096x4096 : S_.BroadcastsInDim S4x4096x4096 (![] : Fin 0 → Fin S4x4096x4096.rank)
  transposes_S32x16384_S16384x32_1_0 : S32x16384.Transposes [1, 0] S16384x32
  shapeCasts_S16384x32_S4x4096x32 : S16384x32.ShapeCasts S4x4096x32
  shapeCasts_S1x32_S32 : S1x32.ShapeCasts S32
  bcast_S32_S1x1x32_2 : S32.BroadcastsInDim S1x1x32 (![2] : Fin 1 → Fin S1x1x32.rank)
  bcast_S1x1x32_S4x4096x32_0_1_2 : S1x1x32.BroadcastsInDim S4x4096x32 (![0, 1, 2] : Fin 3 → Fin S4x4096x32.rank)
  bcast_S_S4x4096x32 : S_.BroadcastsInDim S4x4096x32 (![] : Fin 0 → Fin S4x4096x32.rank)
  concatenates_S4x4096x2048_S4x4096x4096_S4x4096x32_S4x4096x6176_d2 : Shape.Concatenates [S4x4096x2048, S4x4096x4096, S4x4096x32] S4x4096x6176 2

variable [Facts]

def fn_pad {F : FTy → Type} [FloatOps F] (arg0 : FVec F S4x4096x4096 .f32) (arg1 : IVec S_ 32) : FVec F S4x4099x4096 .f32 :=
  let v0 : FVec F S_ .f32 := sitofp .f32 arg1
  let v1 : FVec F S4x4099x4096 .f32 := (fun x v => pad S4x4099x4096 ![0, 3, 0] ![0, 0, 0] ![0, 0, 0] x v pads_S4x4096x4096_S4x4099x4096_000_300_000 h_S_) arg0 v0
  v1

def fn_part2 {F : FTy → Type} [FloatOps F] (main_v37 : IVec S4x4096x2048 1) (main_v39 : IVec S4x4096x4096 1) (main_v41 : FVec F S4x4096x32 .f32) (main_v44 : FVec F S4x4096x32 .f32) : IVec S4x4096x6176 1 :=
  let main_v45 : FVec F S4x4096x32 .f32 := addf main_v41 main_v44
  let main_cst_1 : FVec F S_ .f32 := constant S_ .f32 0x7F800000#32
  let main_v46 : FVec F S4x4096x32 .f32 := broadcastInDim S4x4096x32 ![] bcast_S_S4x4096x32 main_cst_1
  let main_v47 : IVec S4x4096x32 1 := cmpf .olt main_v45 main_v46
  let main_v48 : IVec S4x4096x6176 1 := concatenate S4x4096x6176 2 [⟨S4x4096x2048, main_v37⟩, ⟨S4x4096x4096, main_v39⟩, ⟨S4x4096x32, main_v47⟩] concatenates_S4x4096x2048_S4x4096x4096_S4x4096x32_S4x4096x6176_d2
  main_v48

def fn_part1 {F : FTy → Type} [FloatOps F] (main_arg1 : FVec F S32x16384 .f32) (main_arg2 : FVec F S1x4x4096 .f32) (main_arg4 : FVec F S1x32 .f32) (main_v1 : FVec F S4x4096x16384 .f32) (main_v3 : FVec F S4x4099x4096 .f32) (main_v20 : FVec F S4x4096x4096 .f32) (main_v21 : FVec F S4x4096x4096 .f32) (main_v22 : FVec F S1x1x4096 .f32) : IVec S4x4096x6176 1 :=
  let main_v23 : FVec F S4096 .f32 := shapeCast S4096 main_v22 shapeCasts_S1x1x4096_S4096
  let main_v24 : FVec F S1x1x4096 .f32 := broadcastInDim S1x1x4096 ![2] bcast_S4096_S1x1x4096_2 main_v23
  let main_v25 : FVec F S4x4096x4096 .f32 := broadcastInDim S4x4096x4096 ![0, 1, 2] bcast_S1x1x4096_S4x4096x4096_0_1_2 main_v24
  let main_v26 : FVec F S4x4096x4096 .f32 := mulf main_v21 main_v25
  let main_v27 : FVec F S4x4096x4096 .f32 := addf main_v20 main_v26
  let main_v28 : FVec F S4x4096x4096 .f32 := (extractStridedSlice S4x4096x4096 ![0, 3, 0] · slices_S4x4099x4096_S4x4096x4096_0_3_0) main_v3
  let main_v29 : FVec F S1x1x4096 .f32 := (extractStridedSlice S1x1x4096 ![0, 3, 0] · slices_S1x4x4096_S1x1x4096_0_3_0) main_arg2
  let main_v30 : FVec F S4096 .f32 := shapeCast S4096 main_v29 shapeCasts_S1x1x4096_S4096
  let main_v31 : FVec F S1x1x4096 .f32 := broadcastInDim S1x1x4096 ![2] bcast_S4096_S1x1x4096_2 main_v30
  let main_v32 : FVec F S4x4096x4096 .f32 := broadcastInDim S4x4096x4096 ![0, 1, 2] bcast_S1x1x4096_S4x4096x4096_0_1_2 main_v31
  let main_v33 : FVec F S4x4096x4096 .f32 := mulf main_v28 main_v32
  let main_v34 : FVec F S4x4096x4096 .f32 := addf main_v27 main_v33
  let main_v35 : FVec F S4x4096x2048 .f32 := (extractStridedSlice S4x4096x2048 ![0, 0, 6144] · slices_S4x4096x16384_S4x4096x2048_0_0_6144) main_v1
  let main_cst : FVec F S_ .f32 := constant S_ .f32 0xFF800000#32
  let main_v36 : FVec F S4x4096x2048 .f32 := broadcastInDim S4x4096x2048 ![] bcast_S_S4x4096x2048 main_cst
  let main_v37 : IVec S4x4096x2048 1 := cmpf .ogt main_v35 main_v36
  let main_cst_0 : FVec F S_ .f32 := constant S_ .f32 0xFF800000#32
  let main_v38 : FVec F S4x4096x4096 .f32 := broadcastInDim S4x4096x4096 ![] bcast_S_S4x4096x4096 main_cst_0
  let main_v39 : IVec S4x4096x4096 1 := cmpf .ogt main_v34 main_v38
  let main_v40 : FVec F S16384x32 .f32 := (transpose S16384x32 [1, 0] · transposes_S32x16384_S16384x32_1_0) main_arg1
  let main_v41 : FVec F S4x4096x32 .f32 := shapeCast S4x4096x32 main_v40 shapeCasts_S16384x32_S4x4096x32
  let main_v42 : FVec F S32 .f32 := shapeCast S32 main_arg4 shapeCasts_S1x32_S32
  let main_v43 : FVec F S1x1x32 .f32 := broadcastInDim S1x1x32 ![2] bcast_S32_S1x1x32_2 main_v42
  let main_v44 : FVec F S4x4096x32 .f32 := broadcastInDim S4x4096x32 ![0, 1, 2] bcast_S1x1x32_S4x4096x32_0_1_2 main_v43
  fn_part2 (F := F) main_v37 main_v39 main_v41 main_v44

def fn {F : FTy → Type} [FloatOps F] (main_arg0 : FVec F S16384x16384 .bf16) (main_arg1 : FVec F S32x16384 .f32) (main_arg2 : FVec F S1x4x4096 .f32) (main_arg3 : FVec F S1x4096 .f32) (main_arg4 : FVec F S1x32 .f32) (main_arg5 : FVec F S1x32 .f32) (main_arg6 : FVec F S1x32 .f32) (main_arg7 : FVec F S1x2048 .f32) (main_arg8 : FVec F S1x2x2048x2048 .f32) (main_arg9 : FVec F S1x2048x2048 .f32) : IVec S4x4096x6176 1 :=
  let main_v0 : FVec F S16384x16384 .f32 := (extf .f32 · bitsLt_bf16_f32) main_arg0
  let main_v1 : FVec F S4x4096x16384 .f32 := shapeCast S4x4096x16384 main_v0 shapeCasts_S16384x16384_S4x4096x16384
  let main_v2 : FVec F S4x4096x4096 .f32 := (extractStridedSlice S4x4096x4096 ![0, 0, 8192] · slices_S4x4096x16384_S4x4096x4096_0_0_8192) main_v1
  let main_c : IVec S_ 32 := constantI S_ 32 0#32
  let main_v3 : FVec F S4x4099x4096 .f32 := fn_pad (F := F) main_v2 main_c
  let main_v4 : FVec F S4096 .f32 := shapeCast S4096 main_arg3 shapeCasts_S1x4096_S4096
  let main_v5 : FVec F S4x4096x4096 .f32 := (extractStridedSlice S4x4096x4096 ![0, 0, 0] · slices_S4x4099x4096_S4x4096x4096_0_0_0) main_v3
  let main_v6 : FVec F S1x1x4096 .f32 := (extractStridedSlice S1x1x4096 ![0, 0, 0] · slices_S1x4x4096_S1x1x4096_0_0_0) main_arg2
  let main_v7 : FVec F S4096 .f32 := shapeCast S4096 main_v6 shapeCasts_S1x1x4096_S4096
  let main_v8 : FVec F S1x1x4096 .f32 := broadcastInDim S1x1x4096 ![2] bcast_S4096_S1x1x4096_2 main_v7
  let main_v9 : FVec F S4x4096x4096 .f32 := broadcastInDim S4x4096x4096 ![0, 1, 2] bcast_S1x1x4096_S4x4096x4096_0_1_2 main_v8
  let main_v10 : FVec F S4x4096x4096 .f32 := mulf main_v5 main_v9
  let main_v11 : FVec F S1x1x4096 .f32 := broadcastInDim S1x1x4096 ![2] bcast_S4096_S1x1x4096_2 main_v4
  let main_v12 : FVec F S4x4096x4096 .f32 := broadcastInDim S4x4096x4096 ![0, 1, 2] bcast_S1x1x4096_S4x4096x4096_0_1_2 main_v11
  let main_v13 : FVec F S4x4096x4096 .f32 := addf main_v12 main_v10
  let main_v14 : FVec F S4x4096x4096 .f32 := (extractStridedSlice S4x4096x4096 ![0, 1, 0] · slices_S4x4099x4096_S4x4096x4096_0_1_0) main_v3
  let main_v15 : FVec F S1x1x4096 .f32 := (extractStridedSlice S1x1x4096 ![0, 1, 0] · slices_S1x4x4096_S1x1x4096_0_1_0) main_arg2
  let main_v16 : FVec F S4096 .f32 := shapeCast S4096 main_v15 shapeCasts_S1x1x4096_S4096
  let main_v17 : FVec F S1x1x4096 .f32 := broadcastInDim S1x1x4096 ![2] bcast_S4096_S1x1x4096_2 main_v16
  let main_v18 : FVec F S4x4096x4096 .f32 := broadcastInDim S4x4096x4096 ![0, 1, 2] bcast_S1x1x4096_S4x4096x4096_0_1_2 main_v17
  let main_v19 : FVec F S4x4096x4096 .f32 := mulf main_v14 main_v18
  let main_v20 : FVec F S4x4096x4096 .f32 := addf main_v13 main_v19
  let main_v21 : FVec F S4x4096x4096 .f32 := (extractStridedSlice S4x4096x4096 ![0, 2, 0] · slices_S4x4099x4096_S4x4096x4096_0_2_0) main_v3
  let main_v22 : FVec F S1x1x4096 .f32 := (extractStridedSlice S1x1x4096 ![0, 2, 0] · slices_S1x4x4096_S1x1x4096_0_2_0) main_arg2
  fn_part1 (F := F) main_arg1 main_arg2 main_arg4 main_v1 main_v3 main_v20 main_v21 main_v22
-- ==== Kernel.lean ====
abbrev S4x4096x2048 : Shape := ⟨3, ![4, 4096, 2048]⟩
abbrev S1x2048 : Shape := ⟨2, ![1, 2048]⟩
abbrev S1x2048x16416 : Shape := ⟨3, ![1, 2048, 16416]⟩
abbrev S16384x2048 : Shape := ⟨2, ![16384, 2048]⟩
abbrev S2048 : Shape := ⟨1, ![2048]⟩
abbrev S2048x16416 : Shape := ⟨2, ![2048, 16416]⟩
abbrev S16416x2048 : Shape := ⟨2, ![16416, 2048]⟩
abbrev S16384x16384 : Shape := ⟨2, ![16384, 16384]⟩
abbrev S32x16384 : Shape := ⟨2, ![32, 16384]⟩
abbrev S32x2048 : Shape := ⟨2, ![32, 2048]⟩
abbrev S2048x2048 : Shape := ⟨2, ![2048, 2048]⟩
abbrev S512x2048 : Shape := ⟨2, ![512, 2048]⟩
abbrev S2048x512 : Shape := ⟨2, ![2048, 512]⟩
abbrev S128x2048 : Shape := ⟨2, ![128, 2048]⟩
abbrev S128 : Shape := ⟨1, ![128]⟩
abbrev S128x1 : Shape := ⟨2, ![128, 1]⟩
abbrev S1024x2048 : Shape := ⟨2, ![1024, 2048]⟩
abbrev S32x1024 : Shape := ⟨2, ![32, 1024]⟩

abbrev nBuf : Space → Nat
  | .hbm => 14
  | .vmem => 23
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x16416, .f32⟩
  | .hbm, ⟨3, _⟩ => ⟨S16384x2048, .f32⟩
  | .hbm, ⟨4, _⟩ => ⟨S2048, .f32⟩
  | .hbm, ⟨5, _⟩ => ⟨S1x2048, .f32⟩
  | .hbm, ⟨6, _⟩ => ⟨S2048x16416, .f32⟩
  | .hbm, ⟨7, _⟩ => ⟨S16416x2048, .f32⟩
  | .hbm, ⟨8, _⟩ => ⟨S16384x16384, .bf16⟩
  | .hbm, ⟨9, _⟩ => ⟨S32x16384, .f32⟩
  | .hbm, ⟨10, _⟩ => ⟨S16384x2048, .bf16⟩
  | .hbm, ⟨11, _⟩ => ⟨S32x2048, .bf16⟩
  | .hbm, ⟨12, _⟩ => ⟨S16384x16384, .bf16⟩
  | .hbm, ⟨13, _⟩ => ⟨S32x16384, .f32⟩
  | .local _ .vmem, ⟨0, _⟩ => ⟨S2048x2048, .f32⟩
  | .local _ .vmem, ⟨1, _⟩ => ⟨S1x2048, .f32⟩
  | .local _ .vmem, ⟨2, _⟩ => ⟨S512x2048, .f32⟩
  | .local _ .vmem, ⟨3, _⟩ => ⟨S512x2048, .f32⟩
  | .local _ .vmem, ⟨4, _⟩ => ⟨S32x2048, .f32⟩
  | .local _ .vmem, ⟨5, _⟩ => ⟨S2048x512, .bf16⟩
  | .local _ .vmem, ⟨6, _⟩ => ⟨S2048x512, .bf16⟩
  | .local _ .vmem, ⟨7, _⟩ => ⟨S32x2048, .f32⟩
  | .local _ .vmem, ⟨8, _⟩ => ⟨S512x2048, .bf16⟩
  | .local _ .vmem, ⟨9, _⟩ => ⟨S512x2048, .bf16⟩
  | .local _ .vmem, ⟨10, _⟩ => ⟨S32x2048, .bf16⟩
  | .local _ .vmem, ⟨11, _⟩ => ⟨S2048x2048, .bf16⟩
  | .local _ .vmem, ⟨12, _⟩ => ⟨S1024x2048, .f32⟩
  | .local _ .vmem, ⟨13, _⟩ => ⟨S1024x2048, .f32⟩
  | .local _ .vmem, ⟨14, _⟩ => ⟨S1x2048, .f32⟩
  | .local _ .vmem, ⟨15, _⟩ => ⟨S2048x2048, .bf16⟩
  | .local _ .vmem, ⟨16, _⟩ => ⟨S2048x2048, .bf16⟩
  | .local _ .vmem, ⟨17, _⟩ => ⟨S32x2048, .bf16⟩
  | .local _ .vmem, ⟨18, _⟩ => ⟨S1024x2048, .bf16⟩
  | .local _ .vmem, ⟨19, _⟩ => ⟨S1024x2048, .bf16⟩
  | .local _ .vmem, ⟨20, _⟩ => ⟨S32x1024, .f32⟩
  | .local _ .vmem, ⟨21, _⟩ => ⟨S32x1024, .f32⟩
  | .local _ .vmem, ⟨22, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  let c512_i32_0 : BitVec 32 := 512#32
  let v1 : BitVec 32 := Scalar.muli arg0 c512_i32_0
  let c12288_i32 : BitVec 32 := 12288#32
  let v2 : BitVec 1 := Scalar.cmpi .sge v1 c12288_i32
  let c32_i32 : BitVec 32 := 32#32
  let c0_i32 : BitVec 32 := 0#32
  let v3 : BitVec 32 := Scalar.select v2 c32_i32 c0_i32
  let v4 : BitVec 32 := Scalar.addi v0 v3
  v4
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v11 : BitVec 32 := Scalar.addi c0_i32_8 c16_i32
  let c1_i32 : BitVec 32 := 1#32
  ⟨c0_i32_8, v11, c1_i32⟩
def k0_mult2 (k0_t1 : Fin k0_t1_loop.trips) : BitVec 32 :=
  let c0_i32_8 : BitVec 32 := 0#32
  let c1_i32 : BitVec 32 := 1#32
  let arg10 : BitVec 32 := Scf.iv c0_i32_8 c1_i32 k0_t1
  let c128_i32 : BitVec 32 := 128#32
  let v19 : BitVec 32 := Scalar.muli arg10 c128_i32
  v19
def k0_off1 (k0_t1 : Fin k0_t1_loop.trips) : Fin 2 → Nat :=
  let c0_i32_8 : BitVec 32 := 0#32
  let c1_i32 : BitVec 32 := 1#32
  let arg10 : BitVec 32 := Scf.iv c0_i32_8 c1_i32 k0_t1
  let c128_i32 : BitVec 32 := 128#32
  let v19 : BitVec 32 := Scalar.muli arg10 c128_i32
  let v20 : BitVec 32 := v19
  let v21 : Index := Scalar.indexCast v20
  let c0_19 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c512_i32 : BitVec 32 := 512#32
  let v0 : BitVec 32 := Scalar.muli arg0 c512_i32
  let c512_i32_0 : BitVec 32 := 512#32
  let v1 : BitVec 32 := Scalar.muli arg0 c512_i32_0
  let c12288_i32 : BitVec 32 := 12288#32
  let v2 : BitVec 1 := Scalar.cmpi .sge v1 c12288_i32
  let c32_i32 : BitVec 32 := 32#32
  let c0_i32 : BitVec 32 := 0#32
  let v3 : BitVec 32 := Scalar.select v2 c32_i32 c0_i32
  let v4 : BitVec 32 := Scalar.addi v0 v3
  let v5 : BitVec 32 := v4
  let c0_i32_1 : BitVec 32 := 0#32
  let c0_i32_2 : BitVec 32 := 0#32
  ![v5.toNat, c0_i32_1.toNat]

def cc0_transform_3 (i : grid0.Coords) : Fin 2 → Nat :=
  let arg0 : BitVec 32 := BitVec.ofNat 32 (i 0).val
  let c384_i32 : BitVec 32 := 384#32
  let c0_i32 : BitVec 32 := 0#32
  let c0_i32_0 : BitVec 32 := 0#32
  ![c384_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![14, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![v0.toNat, arg1.toNat]

def cc1_transform_7 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S32x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S32x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S4x4096x2048 : Shape := ⟨3, ![4, 4096, 2048]⟩
abbrev S1x2048 : Shape := ⟨2, ![1, 2048]⟩
abbrev S1x2048x16416 : Shape := ⟨3, ![1, 2048, 16416]⟩
abbrev S_ : Shape := ⟨0, ![]⟩
abbrev S4x4096 : Shape := ⟨2, ![4, 4096]⟩
abbrev S4x4096x1 : Shape := ⟨3, ![4, 4096, 1]⟩
abbrev S2048 : Shape := ⟨1, ![2048]⟩
abbrev S1x1x2048 : Shape := ⟨3, ![1, 1, 2048]⟩
abbrev S2048x16416 : Shape := ⟨2, ![2048, 16416]⟩
abbrev S4x4096x16416 : Shape := ⟨3, ![4, 4096, 16416]⟩
abbrev S4x4096x12288 : Shape := ⟨3, ![4, 4096, 12288]⟩
abbrev S4x4096x4096 : Shape := ⟨3, ![4, 4096, 4096]⟩
abbrev S4x4096x16384 : Shape := ⟨3, ![4, 4096, 16384]⟩
abbrev S16384x16384 : Shape := ⟨2, ![16384, 16384]⟩
abbrev S4x4096x32 : Shape := ⟨3, ![4, 4096, 32]⟩
abbrev S16384x32 : Shape := ⟨2, ![16384, 32]⟩
abbrev S32x16384 : Shape := ⟨2, ![32, 16384]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x16416, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S2048x16416, .f32⟩
  | .hbm, ⟨21, _⟩ => ⟨S4x4096x16416, .f32⟩
  | .hbm, ⟨22, _⟩ => ⟨S4x4096x12288, .f32⟩
  | .hbm, ⟨23, _⟩ => ⟨S4x4096x4096, .f32⟩
  | .hbm, ⟨24, _⟩ => ⟨S4x4096x16384, .f32⟩
  | .hbm, ⟨25, _⟩ => ⟨S16384x16384, .f32⟩
  | .hbm, ⟨26, _⟩ => ⟨S16384x16384, .bf16⟩
  | .hbm, ⟨27, _⟩ => ⟨S4x4096x32, .f32⟩
  | .hbm, ⟨28, _⟩ => ⟨S16384x32, .f32⟩
  | .hbm, ⟨29, _⟩ => ⟨S32x16384, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel2.lean ====
abbrev S16384x16384 : Shape := ⟨2, ![16384, 16384]⟩
abbrev S1x2048 : Shape := ⟨2, ![1, 2048]⟩
abbrev S1x8x128x128 : Shape := ⟨4, ![1, 8, 128, 128]⟩
abbrev S1x8x128 : Shape := ⟨3, ![1, 8, 128]⟩
abbrev S16384x2048 : Shape := ⟨2, ![16384, 2048]⟩
abbrev S4x4096x2048 : Shape := ⟨3, ![4, 4096, 2048]⟩
abbrev S1x2x2048 : Shape := ⟨3, ![1, 2, 2048]⟩
abbrev S1x2x2048x2048 : Shape := ⟨4, ![1, 2, 2048, 2048]⟩
abbrev S1x2048x2048 : Shape := ⟨3, ![1, 2048, 2048]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S2x2048 : Shape := ⟨2, ![2, 2048]⟩
abbrev S2x2048x2048 : Shape := ⟨3, ![2, 2048, 2048]⟩
abbrev S4096x2048 : Shape := ⟨2, ![4096, 2048]⟩
abbrev S2048x2048 : Shape := ⟨2, ![2048, 2048]⟩
abbrev S256x6144 : Shape := ⟨2, ![256, 6144]⟩
abbrev S256x2048 : Shape := ⟨2, ![256, 2048]⟩
abbrev S256x4096 : Shape := ⟨2, ![256, 4096]⟩
abbrev S128x128 : Shape := ⟨2, ![128, 128]⟩
abbrev S1x128x128 : Shape := ⟨3, ![1, 128, 128]⟩
abbrev S128x2048 : Shape := ⟨2, ![128, 2048]⟩
abbrev S128 : Shape := ⟨1, ![128]⟩
abbrev S128x1 : Shape := ⟨2, ![128, 1]⟩
abbrev S128x256 : Shape := ⟨2, ![128, 256]⟩
abbrev S256 : Shape := ⟨1, ![256]⟩
abbrev S256x1 : Shape := ⟨2, ![256, 1]⟩

abbrev nBuf : Space → Nat
  | .hbm => 27
  | .vmem => 19
  | .smem => 0
  | _ => 0

abbrev bufTy : (tb : Table) → Fin (tcTables nBuf tb) → BufTy
  | .hbm, ⟨0, _⟩ => ⟨S16384x16384, .bf16⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S16384x2048, .bf16⟩
  | .hbm, ⟨6, _⟩ => ⟨S4x4096x2048, .f32⟩
  | .hbm, ⟨7, _⟩ => ⟨S1x2x2048, .f32⟩
  | .hbm, ⟨8, _⟩ => ⟨S1x2x2048x2048, .f32⟩
  | .hbm, ⟨9, _⟩ => ⟨S1x2048x2048, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S8x128x128, .f32⟩
  | .hbm, ⟨16, _⟩ => ⟨S8x128, .f32⟩
  | .hbm, ⟨17, _⟩ => ⟨S128x8, .f32⟩
  | .hbm, ⟨18, _⟩ => ⟨S16384x2048, .f32⟩
  | .hbm, ⟨19, _⟩ => ⟨S2x2048, .f32⟩
  | .hbm, ⟨20, _⟩ => ⟨S2x2048x2048, .f32⟩
  | .hbm, ⟨21, _⟩ => ⟨S4096x2048, .f32⟩
  | .hbm, ⟨22, _⟩ => ⟨S4096x2048, .bf16⟩
  | .hbm, ⟨23, _⟩ => ⟨S2048x2048, .f32⟩
  | .hbm, ⟨24, _⟩ => ⟨S2048x2048, .bf16⟩
  | .hbm, ⟨25, _⟩ => ⟨S1x2048, .f32⟩
  | .hbm, ⟨26, _⟩ => ⟨S16384x2048, .f32⟩
  | .local _ .vmem, ⟨0, _⟩ => ⟨S256x6144, .bf16⟩
  | .local _ .vmem, ⟨1, _⟩ => ⟨S256x6144, .bf16⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S128x8, .f32⟩
  | .local _ .vmem, ⟨6, _⟩ => ⟨S256x2048, .bf16⟩
  | .local _ .vmem, ⟨7, _⟩ => ⟨S256x2048, .bf16⟩
  | .local _ .vmem, ⟨8, _⟩ => ⟨S256x4096, .bf16⟩
  | .local _ .vmem, ⟨9, _⟩ => ⟨S256x4096, .bf16⟩
  | .local _ .vmem, ⟨10, _⟩ => ⟨S256x2048, .f32⟩
  | .local _ .vmem, ⟨11, _⟩ => ⟨S256x2048, .f32⟩
  | .local _ .vmem, ⟨12, _⟩ => ⟨S2x2048, .f32⟩
  | .local _ .vmem, ⟨13, _⟩ => ⟨S4096x2048, .bf16⟩
  | .local _ .vmem, ⟨14, _⟩ => ⟨S2048x2048, .bf16⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16384x16384 : Shape := ⟨2, ![16384, 16384]⟩
abbrev S1x2048 : Shape := ⟨2, ![1, 2048]⟩
abbrev S1x8x128x128 : Shape := ⟨4, ![1, 8, 128, 128]⟩
abbrev S1x8x128 : Shape := ⟨3, ![1, 8, 128]⟩
abbrev S16384x2048 : Shape := ⟨2, ![16384, 2048]⟩
abbrev S4x4096x2048 : Shape := ⟨3, ![4, 4096, 2048]⟩
abbrev S1x2x2048 : Shape := ⟨3, ![1, 2, 2048]⟩
abbrev S1x2x2048x2048 : Shape := ⟨4, ![1, 2, 2048, 2048]⟩
abbrev S1x2048x2048 : Shape := ⟨3, ![1, 2048, 2048]⟩
abbrev S2048 : Shape := ⟨1, ![2048]⟩
abbrev S4x4096x16384 : Shape := ⟨3, ![4, 4096, 16384]⟩
abbrev S4x4096x4096 : Shape := ⟨3, ![4, 4096, 4096]⟩
abbrev S4x4096x2x2048 : Shape := ⟨4, ![4, 4096, 2, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x32x128x8x256 : Shape := ⟨5, ![4, 32, 128, 8, 256]⟩
abbrev S128x128 : Shape := ⟨2, ![128, 128]⟩
abbrev S1x128x128 : Shape := ⟨3, ![1, 128, 128]⟩
abbrev S8x128x128 : Shape := ⟨3, ![8, 128, 128]⟩
abbrev S8x4x32x256x128 : Shape := ⟨5, ![8, 4, 32, 256, 128]⟩
abbrev S8x128 : Shape := ⟨2, ![8, 128]⟩
abbrev S128x8 : Shape := ⟨2, ![128, 8]⟩
abbrev S1x1x128x8x1 : Shape := ⟨5, ![1, 1, 128, 8, 1]⟩
abbrev S4x4096x1x2048 : Shape := ⟨4, ![4, 4096, 1, 2048]⟩
abbrev S2x2048x2048 : Shape := ⟨3, ![2, 2048, 2048]⟩
abbrev S2x2048x4x4096 : Shape := ⟨4, ![2, 2048, 4, 4096]⟩
abbrev S2x2048 : Shape := ⟨2, ![2, 2048]⟩
abbrev S1x1x2x2048 : Shape := ⟨4, ![1, 1, 2, 2048]⟩
abbrev S2048x2048 : Shape := ⟨2, ![2048, 2048]⟩

abbrev nBuf : Space → Nat
  | .hbm => 130
  | .vmem => 0
  | .smem => 0
  | _ => 0

abbrev hbmTy0_0 (i : Nat) : BufTy := match i % 128 with
  | 0 => ⟨S16384x16384, .bf16⟩
  | 1 => ⟨S1x2048, .f32⟩
  | 2 => ⟨S1x2048, .f32⟩
  | 3 => ⟨S1x8x128x128, .f32⟩
  | 4 => ⟨S1x8x128, .f32⟩
  | 5 => ⟨S16384x2048, .bf16⟩
  | 6 => ⟨S4x4096x2048, .f32⟩
  | 7 => ⟨S1x2x2048, .f32⟩
  | 8 => ⟨S1x2x2048x2048, .f32⟩
  | 9 => ⟨S1x2048x2048, .f32⟩
  | 10 => ⟨S2048, .f32⟩
  | 11 => ⟨S4x4096x16384, .bf16⟩
  | 12 => ⟨S4x4096x16384, .f32⟩
  | 13 => ⟨S4x4096x2048, .f32⟩
  | 14 => ⟨S4x4096x2048, .f32⟩
  | 15 => ⟨S4x4096x2048, .f32⟩
  | 16 => ⟨S4x4096x4096, .f32⟩
  | 17 => ⟨S4x4096x2x2048, .f32⟩
  | 18 => ⟨S_, .f32⟩
  | 19 => ⟨S4x4096, .f32⟩
  | 20 => ⟨S4x4096x1, .f32⟩
  | 21 => ⟨S_, .f32⟩
  | 22 => ⟨S4x4096x1, .f32⟩
  | 23 => ⟨S4x4096x1, .f32⟩
  | 24 => ⟨S4x4096x2048, .f32⟩
  | 25 => ⟨S4x4096x2048, .f32⟩
  | 26 => ⟨S4x4096x2048, .f32⟩
  | 27 => ⟨S_, .f32⟩
  | 28 => ⟨S4x4096, .f32⟩
  | 29 => ⟨S4x4096x1, .f32⟩
  | 30 => ⟨S_, .f32⟩
  | 31 => ⟨S4x4096x1, .f32⟩
  | 32 => ⟨S4x4096x1, .f32⟩
  | 33 => ⟨S4x4096x2048, .f32⟩
  | 34 => ⟨S4x4096x2048, .f32⟩
  | 35 => ⟨S_, .f32⟩
  | 36 => ⟨S4x4096x1, .f32⟩
  | 37 => ⟨S4x4096x1, .f32⟩
  | 38 => ⟨S4x4096x1, .f32⟩
  | 39 => ⟨S4x4096x2048, .f32⟩
  | 40 => ⟨S4x4096x2048, .f32⟩
  | 41 => ⟨S2048, .f32⟩
  | 42 => ⟨S1x1x2048, .f32⟩
  | 43 => ⟨S4x4096x2048, .f32⟩
  | 44 => ⟨S4x4096x2048, .f32⟩
  | 45 => ⟨S2048, .f32⟩
  | 46 => ⟨S1x1x2048, .f32⟩
  | 47 => ⟨S4x4096x2048, .f32⟩
  | 48 => ⟨S4x4096x2048, .f32⟩
  | 49 => ⟨S4x32x128x8x256, .f32⟩
  | 50 => ⟨S_, .i1⟩
  | 51 => ⟨S128x128, .i1⟩
  | 52 => ⟨S128x128, .i32⟩
  | 53 => ⟨S_, .i32⟩
  | 54 => ⟨S128x128, .i32⟩
  | 55 => ⟨S128x128, .i32⟩
  | 56 => ⟨S128x128, .i32⟩
  | 57 => ⟨S128x128, .i1⟩
  | 58 => ⟨S_, .i1⟩
  | 59 => ⟨S128x128, .i1⟩
  | 60 => ⟨S128x128, .i1⟩
  | 61 => ⟨S1x128x128, .i1⟩
  | 62 => ⟨S8x128x128, .f32⟩
  | 63 => ⟨S8x128x128, .f32⟩
  | 64 => ⟨S_, .f32⟩
  | 65 => ⟨S8x128x128, .f32⟩
  | 66 => ⟨S8x128x128, .i1⟩
  | 67 => ⟨S8x128x128, .f32⟩
  | 68 => ⟨S8x4x32x256x128, .f32⟩
  | 69 => ⟨S4x32x128x8x256, .f32⟩
  | 70 => ⟨S8x128, .f32⟩
  | 71 => ⟨S128x8, .f32⟩
  | 72 => ⟨S1x1x128x8x1, .f32⟩
  | 73 => ⟨S4x32x128x8x256, .f32⟩
  | 74 => ⟨S4x32x128x8x256, .f32⟩
  | 75 => ⟨S4x4096x2048, .f32⟩
  | 76 => ⟨S4x4096x2048, .f32⟩
  | 77 => ⟨S_, .f32⟩
  | 78 => ⟨S4x4096x2048, .f32⟩
  | 79 => ⟨S4x4096x2048, .f32⟩
  | 80 => ⟨S_, .f32⟩
  | 81 => ⟨S4x4096x2048, .f32⟩
  | 82 => ⟨S4x4096x2048, .f32⟩
  | 83 => ⟨S4x4096x2048, .f32⟩
  | 84 => ⟨S4x4096x2048, .f32⟩
  | 85 => ⟨S4x4096x2048, .f32⟩
  | 86 => ⟨S4x4096x2048, .f32⟩
  | 87 => ⟨S4x4096x2048, .bf16⟩
  | 88 => ⟨S4x4096x2048, .f32⟩
  | 89 => ⟨S4x4096x1x2048, .f32⟩
  | 90 => ⟨S4x4096x1x2048, .f32⟩
  | 91 => ⟨S4x4096x2x2048, .f32⟩
  | 92 => ⟨S2x2048x2048, .f32⟩
  | 93 => ⟨S2x2048x4x4096, .f32⟩
  | 94 => ⟨S4x4096x2x2048, .f32⟩
  | 95 => ⟨S2x2048, .f32⟩
  | 96 => ⟨S1x1x2x2048, .f32⟩
  | 97 => ⟨S4x4096x2x2048, .f32⟩
  | 98 => ⟨S4x4096x2x2048, .f32⟩
  | 99 => ⟨S4x4096x2x2048, .f32⟩
  | 100 => ⟨S4x4096x2x2048, .f32⟩
  | 101 => ⟨S_, .f32⟩
  | 102 => ⟨S4x4096x2x2048, .f32⟩
  | 103 => ⟨S4x4096x2x2048, .f32⟩
  | 104 => ⟨S_, .f32⟩
  | 105 => ⟨S4x4096x2x2048, .f32⟩
  | 106 => ⟨S4x4096x2x2048, .f32⟩
  | 107 => ⟨S4x4096x2x2048, .f32⟩
  | 108 => ⟨S_, .f32⟩
  | 109 => ⟨S4x4096x2048, .f32⟩
  | 110 => ⟨S2048x2048, .f32⟩
  | 111 => ⟨S4x4096x2048, .f32⟩
  | 112 => ⟨S4x4096x2048, .f32⟩
  | 113 => ⟨S4x4096x2048, .f32⟩
  | 114 => ⟨S_, .f32⟩
  | 115 => ⟨S4x4096, .f32⟩
  | 116 => ⟨S4x4096x1, .f32⟩
  | 117 => ⟨S_, .f32⟩
  | 118 => ⟨S4x4096x1, .f32⟩
  | 119 => ⟨S4x4096x1, .f32⟩
  | 120 => ⟨S_, .f32⟩
  | 121 => ⟨S4x4096x1, .f32⟩
  | 122 => ⟨S4x4096x1, .f32⟩
  | 123 => ⟨S4x4096x1, .f32⟩
  | 124 => ⟨S4x4096x2048, .f32⟩
  | 125 => ⟨S4x4096x2048, .f32⟩
  | 126 => ⟨S1x1x2048, .f32⟩
  | 127 => ⟨S4x4096x2048, .f32⟩
  | _ => ⟨S16384x16384, .bf16⟩

abbrev hbmTy0_1 (i : Nat) : BufTy := match i % 128 with
  | 0 => ⟨S4x4096x2048, .f32⟩
  | 1 => ⟨S16384x2048, .f32⟩
  | _ => ⟨S16384x16384, .bf16⟩

abbrev hbmTy (i : Nat) : BufTy := match i / 128 with
  | 0 => hbmTy0_0 i
  | 1 => hbmTy0_1 i
  | _ => ⟨S16384x16384, .bf16⟩

abbrev bufTy : (tb : Table) → Fin (tcTables nBuf tb) → BufTy
  | .hbm, ⟨i, _⟩ => hbmTy i
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c : Ref sig .tc := ⟨.hbm, 50, rfl⟩
abbrev main_v34 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_0 : Ref sig .tc := ⟨.hbm, 58, rfl⟩
abbrev main_call0_v5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_call1_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_5 : Ref sig .tc := ⟨.hbm, 101, rfl⟩
abbrev main_v66 : Ref sig .tc := ⟨.hbm, 102, rfl⟩
abbrev main_v67 : Ref sig .tc := ⟨.hbm, 103, rfl⟩
abbrev main_cst_6 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_7 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_8 : Ref sig .tc := ⟨.hbm, 114, rfl⟩
abbrev main_v76 : Ref sig .tc := ⟨.hbm, 115, rfl⟩
abbrev main_v77 : Ref sig .tc := ⟨.hbm, 116, rfl⟩
abbrev main_cst_9 : Ref sig .tc := ⟨.hbm, 117, rfl⟩
abbrev main_v78 : Ref sig .tc := ⟨.hbm, 118, rfl⟩
abbrev main_v79 : Ref sig .tc := ⟨.hbm, 119, rfl⟩
abbrev main_cst_10 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩

abbrev nD : Nat := 1
abbrev τ : Topo := Topo.v7x

variable {F : FTy → Type} [FloatOps F]
-- ==== Kernel3.lean ====
abbrev S16384x16384 : Shape := ⟨2, ![16384, 16384]⟩
abbrev S32x16384 : Shape := ⟨2, ![32, 16384]⟩
abbrev S1x4x4096 : Shape := ⟨3, ![1, 4, 4096]⟩
abbrev S1x4096 : Shape := ⟨2, ![1, 4096]⟩
abbrev S1x32 : Shape := ⟨2, ![1, 32]⟩
abbrev S1x2048 : Shape := ⟨2, ![1, 2048]⟩
abbrev S1x2x2048x2048 : Shape := ⟨4, ![1, 2, 2048, 2048]⟩
abbrev S1x2048x2048 : Shape := ⟨3, ![1, 2048, 2048]⟩
abbrev S2048 : Shape := ⟨1, ![2048]⟩
abbrev S_ : Shape := ⟨0, ![]⟩
abbrev S128 : Shape := ⟨1, ![128]⟩
abbrev S128x1 : Shape := ⟨2, ![128, 1]⟩
abbrev S128x2048 : Shape := ⟨2, ![128, 2048]⟩
abbrev S384 : Shape := ⟨1, ![384]⟩
abbrev S384x1 : Shape := ⟨2, ![384, 1]⟩
abbrev S144 : Shape := ⟨1, ![144]⟩
abbrev S1x144 : Shape := ⟨2, ![1, 144]⟩
abbrev S384x144 : Shape := ⟨2, ![384, 144]⟩
abbrev S32 : Shape := ⟨1, ![32]⟩
abbrev S32x1 : Shape := ⟨2, ![32, 1]⟩
abbrev S4x4096 : Shape := ⟨2, ![4, 4096]⟩
abbrev S4096 : Shape := ⟨1, ![4096]⟩
abbrev S32x64 : Shape := ⟨2, ![32, 64]⟩
abbrev S2x2048x2048 : Shape := ⟨3, ![2, 2048, 2048]⟩
abbrev S4096x2048 : Shape := ⟨2, ![4096, 2048]⟩
abbrev S2048x2048 : Shape := ⟨2, ![2048, 2048]⟩
abbrev S16384x2048 : Shape := ⟨2, ![16384, 2048]⟩
abbrev S512x6144 : Shape := ⟨2, ![512, 6144]⟩
abbrev S32x512 : Shape := ⟨2, ![32, 512]⟩
abbrev S64x2048 : Shape := ⟨2, ![64, 2048]⟩
abbrev S512x2048 : Shape := ⟨2, ![512, 2048]⟩
abbrev S144x4096 : Shape := ⟨2, ![144, 4096]⟩
abbrev S128x4096 : Shape := ⟨2, ![128, 4096]⟩
abbrev S8x128x256 : Shape := ⟨3, ![8, 128, 256]⟩
abbrev S256x2048 : Shape := ⟨2, ![256, 2048]⟩
abbrev S16x4096 : Shape := ⟨2, ![16, 4096]⟩
abbrev S512x4096 : Shape := ⟨2, ![512, 4096]⟩
abbrev S384x4096 : Shape := ⟨2, ![384, 4096]⟩
abbrev S128x128 : Shape := ⟨2, ![128, 128]⟩
abbrev S32x128 : Shape := ⟨2, ![32, 128]⟩
abbrev S96x128 : Shape := ⟨2, ![96, 128]⟩
abbrev S128x256 : Shape := ⟨2, ![128, 256]⟩
abbrev S1x128 : Shape := ⟨2, ![1, 128]⟩
abbrev S128x512 : Shape := ⟨2, ![128, 512]⟩
abbrev S512x256 : Shape := ⟨2, ![512, 256]⟩
abbrev S1x128x256 : Shape := ⟨3, ![1, 128, 256]⟩
abbrev S1x256 : Shape := ⟨2, ![1, 256]⟩

abbrev nBuf : Space → Nat
  | .hbm => 182
  | .vmem => 26
  | .smem => 0
  | _ => 0

abbrev hbmTy0_0 (i : Nat) : BufTy := match i % 128 with
  | 0 => ⟨S16384x16384, .bf16⟩
  | 1 => ⟨S32x16384, .f32⟩
  | 2 => ⟨S1x4x4096, .f32⟩
  | 3 => ⟨S1x4096, .f32⟩
  | 4 => ⟨S1x32, .f32⟩
  | 5 => ⟨S1x32, .f32⟩
  | 6 => ⟨S1x32, .f32⟩
  | 7 => ⟨S1x2048, .f32⟩
  | 8 => ⟨S1x2x2048x2048, .f32⟩
  | 9 => ⟨S1x2048x2048, .f32⟩
  | 10 => ⟨S2048, .i32⟩
  | 11 => ⟨S_, .i32⟩
  | 12 => ⟨S_, .i32⟩
  | 13 => ⟨S2048, .i32⟩
  | 14 => ⟨S2048, .i32⟩
  | 15 => ⟨S2048, .i32⟩
  | 16 => ⟨S_, .i32⟩
  | 17 => ⟨S2048, .i32⟩
  | 18 => ⟨S2048, .i1⟩
  | 19 => ⟨S2048, .i32⟩
  | 20 => ⟨S2048, .i32⟩
  | 21 => ⟨S_, .i32⟩
  | 22 => ⟨S2048, .i32⟩
  | 23 => ⟨S2048, .i1⟩
  | 24 => ⟨S2048, .i1⟩
  | 25 => ⟨S_, .i32⟩
  | 26 => ⟨S2048, .i32⟩
  | 27 => ⟨S2048, .i32⟩
  | 28 => ⟨S2048, .i32⟩
  | 29 => ⟨S128, .i32⟩
  | 30 => ⟨S128x1, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S128x1, .i32⟩
  | 38 => ⟨S128x1, .i32⟩
  | 39 => ⟨S_, .i32⟩
  | 40 => ⟨S128x1, .i32⟩
  | 41 => ⟨S128x1, .i1⟩
  | 42 => ⟨S_, .i32⟩
  | 43 => ⟨S128x1, .i32⟩
  | 44 => ⟨S128x1, .i1⟩
  | 45 => ⟨S_, .i32⟩
  | 46 => ⟨S_, .i1⟩
  | 47 => ⟨S128x1, .i1⟩
  | 48 => ⟨S128x1, .i1⟩
  | 49 => ⟨S128x1, .i1⟩
  | 50 => ⟨S128x1, .i32⟩
  | 51 => ⟨S128x1, .i32⟩
  | 52 => ⟨S128x1, .i32⟩
  | 53 => ⟨S1x2048, .i32⟩
  | 54 => ⟨S128x2048, .i32⟩
  | 55 => ⟨S128x2048, .i32⟩
  | 56 => ⟨S128x2048, .i1⟩
  | 57 => ⟨S128x1, .i32⟩
  | 58 => ⟨S_, .i32⟩
  | 59 => ⟨S128x1, .i32⟩
  | 60 => ⟨S128x1, .i1⟩
  | 61 => ⟨S128x2048, .i1⟩
  | 62 => ⟨S128x2048, .i1⟩
  | 63 => ⟨S128x2048, .bf16⟩
  | 64 => ⟨S384, .i32⟩
  | 65 => ⟨S_, .i32⟩
  | 66 => ⟨S_, .i32⟩
  | 67 => ⟨S384, .i32⟩
  | 68 => ⟨S384, .i32⟩
  | 69 => ⟨S384, .i32⟩
  | 70 => ⟨S_, .i32⟩
  | 71 => ⟨S384, .i32⟩
  | 72 => ⟨S384, .i1⟩
  | 73 => ⟨S384, .i32⟩
  | 74 => ⟨S384, .i32⟩
  | 75 => ⟨S_, .i32⟩
  | 76 => ⟨S384, .i32⟩
  | 77 => ⟨S384, .i1⟩
  | 78 => ⟨S384, .i1⟩
  | 79 => ⟨S_, .i32⟩
  | 80 => ⟨S384, .i32⟩
  | 81 => ⟨S384, .i32⟩
  | 82 => ⟨S384, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S384, .i32⟩
  | 90 => ⟨S384, .i32⟩
  | 91 => ⟨S_, .i32⟩
  | 92 => ⟨S384, .i32⟩
  | 93 => ⟨S384, .i1⟩
  | 94 => ⟨S_, .i32⟩
  | 95 => ⟨S384, .i32⟩
  | 96 => ⟨S384, .i1⟩
  | 97 => ⟨S_, .i32⟩
  | 98 => ⟨S_, .i1⟩
  | 99 => ⟨S384, .i1⟩
  | 100 => ⟨S384, .i1⟩
  | 101 => ⟨S384, .i1⟩
  | 102 => ⟨S384, .i32⟩
  | 103 => ⟨S384, .i32⟩
  | 104 => ⟨S384, .i32⟩
  | 105 => ⟨S_, .i32⟩
  | 106 => ⟨S_, .i32⟩
  | 107 => ⟨S384, .i32⟩
  | 108 => ⟨S384, .i32⟩
  | 109 => ⟨S384, .i32⟩
  | 110 => ⟨S_, .i32⟩
  | 111 => ⟨S384, .i32⟩
  | 112 => ⟨S384, .i1⟩
  | 113 => ⟨S384, .i32⟩
  | 114 => ⟨S384, .i32⟩
  | 115 => ⟨S_, .i32⟩
  | 116 => ⟨S384, .i32⟩
  | 117 => ⟨S384, .i1⟩
  | 118 => ⟨S384, .i1⟩
  | 119 => ⟨S_, .i32⟩
  | 120 => ⟨S384, .i32⟩
  | 121 => ⟨S384, .i32⟩
  | 122 => ⟨S384, .i32⟩
  | 123 => ⟨S_, .i32⟩
  | 124 => ⟨S384, .i32⟩
  | 125 => ⟨S384, .i32⟩
  | 126 => ⟨S_, .i32⟩
  | 127 => ⟨S_, .i32⟩
  | _ => ⟨S16384x16384, .bf16⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S384, .i32⟩
  | 5 => ⟨S384, .i32⟩
  | 6 => ⟨S_, .i32⟩
  | 7 => ⟨S384, .i32⟩
  | 8 => ⟨S384, .i1⟩
  | 9 => ⟨S_, .i32⟩
  | 10 => ⟨S384, .i32⟩
  | 11 => ⟨S384, .i1⟩
  | 12 => ⟨S_, .i32⟩
  | 13 => ⟨S_, .i1⟩
  | 14 => ⟨S384, .i1⟩
  | 15 => ⟨S384, .i1⟩
  | 16 => ⟨S384, .i1⟩
  | 17 => ⟨S384, .i32⟩
  | 18 => ⟨S384, .i32⟩
  | 19 => ⟨S384, .i32⟩
  | 20 => ⟨S384, .i32⟩
  | 21 => ⟨S_, .i32⟩
  | 22 => ⟨S384, .i32⟩
  | 23 => ⟨S384, .i32⟩
  | 24 => ⟨S_, .i32⟩
  | 25 => ⟨S384, .i32⟩
  | 26 => ⟨S384, .i32⟩
  | 27 => ⟨S384, .i32⟩
  | 28 => ⟨S384x1, .i32⟩
  | 29 => ⟨S144, .i32⟩
  | 30 => ⟨S1x144, .i32⟩
  | 31 => ⟨S384x144, .i32⟩
  | 32 => ⟨S384x144, .i32⟩
  | 33 => ⟨S384x144, .i1⟩
  | 34 => ⟨S384x144, .bf16⟩
  | 35 => ⟨S32, .f32⟩
  | 36 => ⟨S32x1, .f32⟩
  | 37 => ⟨S32, .f32⟩
  | 38 => ⟨S32x1, .f32⟩
  | 39 => ⟨S4x4096, .f32⟩
  | 40 => ⟨S4096, .f32⟩
  | 41 => ⟨S1x4096, .f32⟩
  | 42 => ⟨S32, .f32⟩
  | 43 => ⟨S32x64, .f32⟩
  | 44 => ⟨S2048, .f32⟩
  | 45 => ⟨S1x2048, .f32⟩
  | 46 => ⟨S2048, .f32⟩
  | 47 => ⟨S1x2048, .f32⟩
  | 48 => ⟨S2x2048x2048, .f32⟩
  | 49 => ⟨S4096x2048, .f32⟩
  | 50 => ⟨S2048x2048, .f32⟩
  | 51 => ⟨S16384x2048, .bf16⟩
  | 52 => ⟨S4096x2048, .bf16⟩
  | 53 => ⟨S2048x2048, .bf16⟩
  | _ => ⟨S16384x16384, .bf16⟩

abbrev hbmTy (i : Nat) : BufTy := match i / 128 with
  | 0 => hbmTy0_0 i
  | 1 => hbmTy0_1 i
  | _ => ⟨S16384x16384, .bf16⟩

abbrev bufTy : (tb : Table) → Fin (tcTables nBuf tb) → BufTy
  | .hbm, ⟨i, _⟩ => hbmTy i
  | .local _ .vmem, ⟨0, _⟩ => ⟨S512x6144, .bf16⟩
  | .local _ .vmem, ⟨1, _⟩ => ⟨S512x6144, .bf16⟩
  | .local _ .vmem, ⟨2, _⟩ => ⟨S32x512, .f32⟩
  | .local _ .vmem, ⟨3, _⟩ => ⟨S32x512, .f32⟩
  | .local _ .vmem, ⟨4, _⟩ => ⟨S32x1, .f32⟩
  | .local _ .vmem, ⟨5, _⟩ => ⟨S32x1, .f32⟩
  | .local _ .vmem, ⟨6, _⟩ => ⟨S384x144, .bf16⟩
  | .local _ .vmem, ⟨7, _⟩ => ⟨S4x4096, .f32⟩
  | .local _ .vmem, ⟨8, _⟩ => ⟨S1x4096, .f32⟩
  | .local _ .vmem, ⟨9, _⟩ => ⟨S1x2048, .f32⟩
  | .local _ .vmem, ⟨10, _⟩ => ⟨S1x2048, .f32⟩
  | .local _ .vmem, ⟨11, _⟩ => ⟨S128x2048, .bf16⟩
  | .local _ .vmem, ⟨12, _⟩ => ⟨S128x2048, .f32⟩
  | .local _ .vmem, ⟨13, _⟩ => ⟨S128x2048, .f32⟩
  | .local _ .vmem, ⟨14, _⟩ => ⟨S64x2048, .f32⟩
  | .local _ .vmem, ⟨15, _⟩ => ⟨S64x2048, .f32⟩
  | .local _ .vmem, ⟨16, _⟩ => ⟨S512x2048, .bf16⟩
  | .local _ .vmem, ⟨17, _⟩ => ⟨S512x2048, .bf16⟩
  | .local _ .vmem, ⟨18, _⟩ => ⟨S128x2048, .bf16⟩
  | .local _ .vmem, ⟨19, _⟩ => ⟨S128x2048, .bf16⟩
  | .local _ .vmem, ⟨20, _⟩ => ⟨S64x2048, .bf16⟩
  | .local _ .vmem, ⟨21, _⟩ => ⟨S64x2048, .bf16⟩
  | .local _ .vmem, ⟨22, _⟩ => ⟨S144x4096, .bf16⟩
  | .local _ .vmem, ⟨23, _⟩ => ⟨S128x4096, .f32⟩
  | .local _ .vmem, ⟨24, _⟩ => ⟨S8x128x256, .f32⟩
  | .local _ .vmem, ⟨25, _⟩ => ⟨S256x2048, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_c_1 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_2 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_c : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_0 : Ref sig .tc := ⟨.hbm, 79, rfl⟩
abbrev main_call2_v12 : Ref sig .tc := ⟨.hbm, 80, rfl⟩
abbrev main_call2_v13 : Ref sig .tc := ⟨.hbm, 81, rfl⟩
abbrev main_v16 : Ref sig .tc := ⟨.hbm, 82, rfl⟩
abbrev main_c_3 : Ref sig .tc := ⟨.hbm, 83, rfl⟩
abbrev main_call3_v0 : Ref sig .tc := ⟨.hbm, 84, rfl⟩
abbrev main_call3_c : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_c_1 : Ref sig .tc := ⟨.hbm, 91, rfl⟩
abbrev main_call3_v5 : Ref sig .tc := ⟨.hbm, 92, rfl⟩
abbrev main_call3_v6 : Ref sig .tc := ⟨.hbm, 93, rfl⟩
abbrev main_call3_c_2 : Ref sig .tc := ⟨.hbm, 94, rfl⟩
abbrev main_call3_v7 : Ref sig .tc := ⟨.hbm, 95, rfl⟩
abbrev main_call3_v8 : Ref sig .tc := ⟨.hbm, 96, rfl⟩
abbrev main_call3_c_3 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_v17 : Ref sig .tc := ⟨.hbm, 104, rfl⟩
abbrev main_c_4 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_c : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_0 : Ref sig .tc := ⟨.hbm, 119, rfl⟩
abbrev main_call4_v12 : Ref sig .tc := ⟨.hbm, 120, rfl⟩
abbrev main_call4_v13 : Ref sig .tc := ⟨.hbm, 121, rfl⟩
abbrev main_v18 : Ref sig .tc := ⟨.hbm, 122, rfl⟩
abbrev main_c_5 : Ref sig .tc := ⟨.hbm, 123, rfl⟩
abbrev main_v19 : Ref sig .tc := ⟨.hbm, 124, rfl⟩
abbrev main_v20 : Ref sig .tc := ⟨.hbm, 125, rfl⟩
abbrev main_c_6 : Ref sig .tc := ⟨.hbm, 126, rfl⟩
abbrev main_call5_v0 : Ref sig .tc := ⟨.hbm, 127, rfl⟩
abbrev main_call5_c : Ref sig .tc := ⟨.hbm, 128, rfl⟩
abbrev main_call5_v1 : Ref sig .tc := ⟨.hbm, 129, rfl⟩
abbrev main_call5_c_0 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_call5_c_1 : Ref sig .tc := ⟨.hbm, 134, rfl⟩
abbrev main_call5_v5 : Ref sig .tc := ⟨.hbm, 135, rfl⟩
abbrev main_call5_v6 : Ref sig .tc := ⟨.hbm, 136, rfl⟩
abbrev main_call5_c_2 : Ref sig .tc := ⟨.hbm, 137, rfl⟩
abbrev main_call5_v7 : Ref sig .tc := ⟨.hbm, 138, rfl⟩
abbrev main_call5_v8 : Ref sig .tc := ⟨.hbm, 139, rfl⟩
abbrev main_call5_c_3 : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_call5_v12 : Ref sig .tc := ⟨.hbm, 144, rfl⟩
abbrev main_call5_v13 : Ref sig .tc := ⟨.hbm, 145, rfl⟩
abbrev main_call5_v14 : Ref sig .tc := ⟨.hbm, 146, rfl⟩
abbrev main_v21 : Ref sig .tc := ⟨.hbm, 147, rfl⟩
abbrev main_v22 : Ref sig .tc := ⟨.hbm, 148, rfl⟩
abbrev main_c_7 : Ref sig .tc := ⟨.hbm, 149, rfl⟩
abbrev main_v23 : Ref sig .tc := ⟨.hbm, 150, rfl⟩
abbrev main_v24 : Ref sig .tc := ⟨.hbm, 151, rfl⟩
abbrev main_c_8 : Ref sig .tc := ⟨.hbm, 152, rfl⟩
abbrev main_v25 : Ref sig .tc := ⟨.hbm, 153, rfl⟩
abbrev main_v26 : Ref sig .tc := ⟨.hbm, 154, rfl⟩
abbrev main_v27 : Ref sig .tc := ⟨.hbm, 155, rfl⟩
abbrev main_v28 : Ref sig .tc := ⟨.hbm, 156, rfl⟩
abbrev main_v29 : Ref sig .tc := ⟨.hbm, 157, rfl⟩
abbrev main_v30 : Ref sig .tc := ⟨.hbm, 158, rfl⟩
abbrev main_v31 : Ref sig .tc := ⟨.hbm, 159, rfl⟩
abbrev main_v32 : Ref sig .tc := ⟨.hbm, 160, rfl⟩
abbrev main_v33 : Ref sig .tc := ⟨.hbm, 161, rfl⟩
abbrev main_v34 : Ref sig .tc := ⟨.hbm, 162, rfl⟩
abbrev main_v35 : Ref sig .tc := ⟨.hbm, 163, rfl⟩
abbrev main_v36 : Ref sig .tc := ⟨.hbm, 164, rfl⟩
abbrev main_v37 : Ref sig .tc := ⟨.hbm, 165, rfl⟩
abbrev main_v38 : Ref sig .tc := ⟨.hbm, 166, rfl⟩
abbrev main_v39 : Ref sig .tc := ⟨.hbm, 167, rfl⟩
abbrev main_v40 : Ref sig .tc := ⟨.hbm, 168, rfl⟩
abbrev main_v41 : Ref sig .tc := ⟨.hbm, 169, rfl⟩
abbrev main_v42 : Ref sig .tc := ⟨.hbm, 170, rfl⟩
abbrev main_v43 : Ref sig .tc := ⟨.hbm, 171, rfl⟩
abbrev main_v44 : Ref sig .tc := ⟨.hbm, 172, rfl⟩
abbrev main_v45 : Ref sig .tc := ⟨.hbm, 173, rfl⟩
abbrev main_v46 : Ref sig .tc := ⟨.hbm, 174, rfl⟩
abbrev main_v47 : Ref sig .tc := ⟨.hbm, 175, rfl⟩
abbrev main_v48 : Ref sig .tc := ⟨.hbm, 176, rfl⟩
abbrev main_v49 : Ref sig .tc := ⟨.hbm, 177, rfl⟩
abbrev main_v50 : Ref sig .tc := ⟨.hbm, 178, rfl⟩
abbrev main_v51_0 : Ref sig .tc := ⟨.hbm, 179, rfl⟩
abbrev main_v51_1 : Ref sig .tc := ⟨.hbm, 180, rfl⟩
abbrev main_v51_2 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![4, 8], ![false, false]⟩

def k0_mult1 : BitVec 32 :=
  let c4_i32 : BitVec 32 := 4#32
  let c0_i32_8 : BitVec 32 := 0#32
  let v11 : BitVec 32 := Scalar.muli c4_i32 c0_i32_8
  let c0_i32_9 : BitVec 32 := 0#32
  let v12 : BitVec 32 := Scalar.addi v11 c0_i32_9
  let c128_i32 : BitVec 32 := 128#32
  let v13 : BitVec 32 := Scalar.muli v12 c128_i32
  v13
def k0_off1 (c0_i32_9 : BitVec 32) : Fin 2 → Nat :=
  let c4_i32 : BitVec 32 := 4#32
  let c0_i32_8 : BitVec 32 := 0#32
  let v11 : BitVec 32 := Scalar.muli c4_i32 c0_i32_8
  let v12 : BitVec 32 := Scalar.addi v11 c0_i32_9
  let c128_i32 : BitVec 32 := 128#32
  let v13 : BitVec 32 := Scalar.muli v12 c128_i32
  let v14 : BitVec 32 := v13
  let v16 : Index := Scalar.indexCast v14
  let c0_11 : Index := 0#32
  ![v16.toNat, 0]
def k0_off2 (c0_i32_9 : BitVec 32) : Fin 2 → Nat :=
  let c0_29 : Index := 0#32
  let c4_i32 : BitVec 32 := 4#32
  let c0_i32_8 : BitVec 32 := 0#32
  let v11 : BitVec 32 := Scalar.muli c4_i32 c0_i32_8
  let v12 : BitVec 32 := Scalar.addi v11 c0_i32_9
  let c128_i32 : BitVec 32 := 128#32
  let v13 : BitVec 32 := Scalar.muli v12 c128_i32
  let v14 : BitVec 32 := v13
  let v95 : Index := Scalar.indexCast v14
  ![0, v95.toNat]
def k0_off3 (c0_i32_9 : BitVec 32) : Fin 2 → Nat :=
  let c4_i32 : BitVec 32 := 4#32
  let c0_i32_8 : BitVec 32 := 0#32
  let v11 : BitVec 32 := Scalar.muli c4_i32 c0_i32_8
  let v12 : BitVec 32 := Scalar.addi v11 c0_i32_9
  let c128_i32 : BitVec 32 := 128#32
  let v13 : BitVec 32 := Scalar.muli v12 c128_i32
  let v14 : BitVec 32 := v13
  let v288 : Index := Scalar.indexCast v14
  let c0_88 : Index := 0#32
  ![v288.toNat, 0]
def k0_off4 (c0_i32_9 : BitVec 32) : Fin 2 → Nat :=
  let c4_i32 : BitVec 32 := 4#32
  let c0_i32_8 : BitVec 32 := 0#32
  let v11 : BitVec 32 := Scalar.muli c4_i32 c0_i32_8
  let v12 : BitVec 32 := Scalar.addi v11 c0_i32_9
  let c128_i32 : BitVec 32 := 128#32
  let v13 : BitVec 32 := Scalar.muli v12 c128_i32
  let v14 : BitVec 32 := v13
  let v418 : Index := Scalar.indexCast v14
  let c256_136 : Index := 256#32
  ![v418.toNat, 256]
def k0_off5 (c0_i32_9 : BitVec 32) : Fin 2 → Nat :=
  let c4_i32 : BitVec 32 := 4#32
  let c0_i32_8 : BitVec 32 := 0#32
  let v11 : BitVec 32 := Scalar.muli c4_i32 c0_i32_8
  let v12 : BitVec 32 := Scalar.addi v11 c0_i32_9
  let c128_i32 : BitVec 32 := 128#32
  let v13 : BitVec 32 := Scalar.muli v12 c128_i32
  let v14 : BitVec 32 := v13
  let v548 : Index := Scalar.indexCast v14
  let c512_184 : Index := 512#32
  ![v548.toNat, 512]
def k0_off6 (c0_i32_9 : BitVec 32) : Fin 2 → Nat :=
  let c4_i32 : BitVec 32 := 4#32
  let c0_i32_8 : BitVec 32 := 0#32
  let v11 : BitVec 32 := Scalar.muli c4_i32 c0_i32_8
  let v12 : BitVec 32 := Scalar.addi v11 c0_i32_9
  let c128_i32 : BitVec 32 := 128#32
  let v13 : BitVec 32 := Scalar.muli v12 c128_i32
  let v14 : BitVec 32 := v13
  let v678 : Index := Scalar.indexCast v14
  let c768_232 : Index := 768#32
  ![v678.toNat, 768]
def k0_off7 (c0_i32_9 : BitVec 32) : Fin 2 → Nat :=
  let c4_i32 : BitVec 32 := 4#32
  let c0_i32_8 : BitVec 32 := 0#32
  let v11 : BitVec 32 := Scalar.muli c4_i32 c0_i32_8
  let v12 : BitVec 32 := Scalar.addi v11 c0_i32_9
  let c128_i32 : BitVec 32 := 128#32
  let v13 : BitVec 32 := Scalar.muli v12 c128_i32
  let v14 : BitVec 32 := v13
  let v808 : Index := Scalar.indexCast v14
  let c1024_279 : Index := 1024#32
  ![v808.toNat, 1024]
def k0_off8 (c0_i32_9 : BitVec 32) : Fin 2 → Nat :=
  let c4_i32 : BitVec 32 := 4#32
  let c0_i32_8 : BitVec 32 := 0#32
  let v11 : BitVec 32 := Scalar.muli c4_i32 c0_i32_8
  let v12 : BitVec 32 := Scalar.addi v11 c0_i32_9
  let c128_i32 : BitVec 32 := 128#32
  let v13 : BitVec 32 := Scalar.muli v12 c128_i32
  let v14 : BitVec 32 := v13
  let v938 : Index := Scalar.indexCast v14
  let c1280_326 : Index := 1280#32
  ![v938.toNat, 1280]
def k0_off9 (c0_i32_9 : BitVec 32) : Fin 2 → Nat :=
  let c4_i32 : BitVec 32 := 4#32
  let c0_i32_8 : BitVec 32 := 0#32
  let v11 : BitVec 32 := Scalar.muli c4_i32 c0_i32_8
  let v12 : BitVec 32 := Scalar.addi v11 c0_i32_9
  let c128_i32 : BitVec 32 := 128#32
  let v13 : BitVec 32 := Scalar.muli v12 c128_i32
  let v14 : BitVec 32 := v13
  let v1068 : Index := Scalar.indexCast v14
  let c1536_373 : Index := 1536#32
  ![v1068.toNat, 1536]
def k0_off10 (c0_i32_9 : BitVec 32) : Fin 2 → Nat :=
  let c4_i32 : BitVec 32 := 4#32
  let c0_i32_8 : BitVec 32 := 0#32
  let v11 : BitVec 32 := Scalar.muli c4_i32 c0_i32_8
  let v12 : BitVec 32 := Scalar.addi v11 c0_i32_9
  let c128_i32 : BitVec 32 := 128#32
  let v13 : BitVec 32 := Scalar.muli v12 c128_i32
  let v14 : BitVec 32 := v13
  let v1198 : Index := Scalar.indexCast v14
  let c1792_420 : Index := 1792#32
  ![v1198.toNat, 1792]
def k0_mult2 : BitVec 32 :=
  let c4_i32_428 : BitVec 32 := 4#32
  let c0_i32_8 : BitVec 32 := 0#32
  let v1224 : BitVec 32 := Scalar.muli c4_i32_428 c0_i32_8
  let c1_i32 : BitVec 32 := 1#32
  let v1225 : BitVec 32 := Scalar.addi v1224 c1_i32
  let c128_i32_429 : BitVec 32 := 128#32
  let v1226 : BitVec 32 := Scalar.muli v1225 c128_i32_429
  v1226
def k0_mult3 : BitVec 32 :=
  let c4_i32_887 : BitVec 32 := 4#32
  let c0_i32_8 : BitVec 32 := 0#32
  let v2437 : BitVec 32 := Scalar.muli c4_i32_887 c0_i32_8
  let c2_i32 : BitVec 32 := 2#32
  let v2438 : BitVec 32 := Scalar.addi v2437 c2_i32
  let c128_i32_888 : BitVec 32 := 128#32
  let v2439 : BitVec 32 := Scalar.muli v2438 c128_i32_888
  v2439
def k0_mult4 : BitVec 32 :=
  let c4_i32_1346 : BitVec 32 := 4#32
  let c0_i32_8 : BitVec 32 := 0#32
  let v3650 : BitVec 32 := Scalar.muli c4_i32_1346 c0_i32_8
  let c3_i32 : BitVec 32 := 3#32
  let v3651 : BitVec 32 := Scalar.addi v3650 c3_i32
  let c128_i32_1347 : BitVec 32 := 128#32
  let v3652 : BitVec 32 := Scalar.muli v3651 c128_i32_1347
  v3652
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S16384x16384 : Shape := ⟨2, ![16384, 16384]⟩
abbrev S32x16384 : Shape := ⟨2, ![32, 16384]⟩
abbrev S1x4x4096 : Shape := ⟨3, ![1, 4, 4096]⟩
abbrev S1x4096 : Shape := ⟨2, ![1, 4096]⟩
abbrev S1x32 : Shape := ⟨2, ![1, 32]⟩
abbrev S1x2048 : Shape := ⟨2, ![1, 2048]⟩
abbrev S1x2x2048x2048 : Shape := ⟨4, ![1, 2, 2048, 2048]⟩
abbrev S1x2048x2048 : Shape := ⟨3, ![1, 2048, 2048]⟩
abbrev S4x4096x16384 : Shape := ⟨3, ![4, 4096, 16384]⟩
abbrev S4x4096x2048 : Shape := ⟨3, ![4, 4096, 2048]⟩
abbrev S4x4096x4096 : Shape := ⟨3, ![4, 4096, 4096]⟩
abbrev S_ : Shape := ⟨0, ![]⟩
abbrev S4x4099x4096 : Shape := ⟨3, ![4, 4099, 4096]⟩
abbrev S4096 : Shape := ⟨1, ![4096]⟩
abbrev S1x1x4096 : Shape := ⟨3, ![1, 1, 4096]⟩
abbrev S4x4096x32x64 : Shape := ⟨4, ![4, 4096, 32, 64]⟩
abbrev S4x4096x1024 : Shape := ⟨3, ![4, 4096, 1024]⟩
abbrev S4x32x128x8x128 : Shape := ⟨5, ![4, 32, 128, 8, 128]⟩
abbrev S16384x32 : Shape := ⟨2, ![16384, 32]⟩
abbrev S4x4096x32 : Shape := ⟨3, ![4, 4096, 32]⟩
abbrev S32 : Shape := ⟨1, ![32]⟩
abbrev S1x1x32 : Shape := ⟨3, ![1, 1, 32]⟩
abbrev S4x4096x32x1 : Shape := ⟨4, ![4, 4096, 32, 1]⟩
abbrev S4x32x128x8x4x64 : Shape := ⟨6, ![4, 32, 128, 8, 4, 64]⟩
abbrev S128x128 : Shape := ⟨2, ![128, 128]⟩
abbrev S4x32x128x8x4 : Shape := ⟨5, ![4, 32, 128, 8, 4]⟩
abbrev S4x32x8x4x128 : Shape := ⟨5, ![4, 32, 8, 4, 128]⟩
abbrev S4x32x8x4x1x128 : Shape := ⟨6, ![4, 32, 8, 4, 1, 128]⟩
abbrev S4x32x8x4x128x128 : Shape := ⟨6, ![4, 32, 8, 4, 128, 128]⟩
abbrev S4x32x8x4x128x1 : Shape := ⟨6, ![4, 32, 8, 4, 128, 1]⟩
abbrev S4x32x8x128x128 : Shape := ⟨5, ![4, 32, 8, 128, 128]⟩
abbrev S4x32x8x1x128x128 : Shape := ⟨6, ![4, 32, 8, 1, 128, 128]⟩
abbrev S4x32x8x4x64x128 : Shape := ⟨6, ![4, 32, 8, 4, 64, 128]⟩
abbrev S4x32x1x8x4 : Shape := ⟨5, ![4, 32, 1, 8, 4]⟩
abbrev S4x32x128x8x4x1 : Shape := ⟨6, ![4, 32, 128, 8, 4, 1]⟩
abbrev S4x32x8x4x1 : Shape := ⟨5, ![4, 32, 8, 4, 1]⟩
abbrev S4x32x8x4 : Shape := ⟨4, ![4, 32, 8, 4]⟩
abbrev S4x32x8x4x1x1 : Shape := ⟨6, ![4, 32, 8, 4, 1, 1]⟩
abbrev S4x8x4x64x128 : Shape := ⟨5, ![4, 8, 4, 64, 128]⟩
abbrev S4x1x8x4x64x128 : Shape := ⟨6, ![4, 1, 8, 4, 64, 128]⟩
abbrev S4x16x8x4x64x128 : Shape := ⟨6, ![4, 16, 8, 4, 64, 128]⟩
abbrev S32x1 : Shape := ⟨2, ![32, 1]⟩
abbrev S1x1x32x1 : Shape := ⟨4, ![1, 1, 32, 1]⟩
abbrev S4x4096x8x256 : Shape := ⟨4, ![4, 4096, 8, 256]⟩
abbrev S4x4096x8 : Shape := ⟨3, ![4, 4096, 8]⟩
abbrev S4x4096x8x1 : Shape := ⟨4, ![4, 4096, 8, 1]⟩
abbrev S16384x2048 : Shape := ⟨2, ![16384, 2048]⟩
abbrev S2048 : Shape := ⟨1, ![2048]⟩
abbrev S2x2048x2048 : Shape := ⟨3, ![2, 2048, 2048]⟩
abbrev S4096x2048 : Shape := ⟨2, ![4096, 2048]⟩
abbrev S2048x2048 : Shape := ⟨2, ![2048, 2048]⟩

abbrev nBuf : Space → Nat
  | .hbm => 422
  | .vmem => 0
  | .smem => 0
  | _ => 0

abbrev hbmTy0_0 (i : Nat) : BufTy := match i % 128 with
  | 0 => ⟨S16384x16384, .bf16⟩
  | 1 => ⟨S32x16384, .f32⟩
  | 2 => ⟨S1x4x4096, .f32⟩
  | 3 => ⟨S1x4096, .f32⟩
  | 4 => ⟨S1x32, .f32⟩
  | 5 => ⟨S1x32, .f32⟩
  | 6 => ⟨S1x32, .f32⟩
  | 7 => ⟨S1x2048, .f32⟩
  | 8 => ⟨S1x2x2048x2048, .f32⟩
  | 9 => ⟨S1x2048x2048, .f32⟩
  | 10 => ⟨S16384x16384, .f32⟩
  | 11 => ⟨S4x4096x16384, .f32⟩
  | 12 => ⟨S4x4096x2048, .f32⟩
  | 13 => ⟨S4x4096x4096, .f32⟩
  | 14 => ⟨S_, .i32⟩
  | 15 => ⟨S_, .f32⟩
  | 16 => ⟨S4x4099x4096, .f32⟩
  | 17 => ⟨S4096, .f32⟩
  | 18 => ⟨S4x4096x4096, .f32⟩
  | 19 => ⟨S1x1x4096, .f32⟩
  | 20 => ⟨S4096, .f32⟩
  | 21 => ⟨S1x1x4096, .f32⟩
  | 22 => ⟨S4x4096x4096, .f32⟩
  | 23 => ⟨S4x4096x4096, .f32⟩
  | 24 => ⟨S1x1x4096, .f32⟩
  | 25 => ⟨S4x4096x4096, .f32⟩
  | 26 => ⟨S4x4096x4096, .f32⟩
  | 27 => ⟨S4x4096x4096, .f32⟩
  | 28 => ⟨S1x1x4096, .f32⟩
  | 29 => ⟨S4096, .f32⟩
  | 30 => ⟨S1x1x4096, .f32⟩
  | 31 => ⟨S4x4096x4096, .f32⟩
  | 32 => ⟨S4x4096x4096, .f32⟩
  | 33 => ⟨S4x4096x4096, .f32⟩
  | 34 => ⟨S4x4096x4096, .f32⟩
  | 35 => ⟨S1x1x4096, .f32⟩
  | 36 => ⟨S4096, .f32⟩
  | 37 => ⟨S1x1x4096, .f32⟩
  | 38 => ⟨S4x4096x4096, .f32⟩
  | 39 => ⟨S4x4096x4096, .f32⟩
  | 40 => ⟨S4x4096x4096, .f32⟩
  | 41 => ⟨S4x4096x4096, .f32⟩
  | 42 => ⟨S1x1x4096, .f32⟩
  | 43 => ⟨S4096, .f32⟩
  | 44 => ⟨S1x1x4096, .f32⟩
  | 45 => ⟨S4x4096x4096, .f32⟩
  | 46 => ⟨S4x4096x4096, .f32⟩
  | 47 => ⟨S4x4096x4096, .f32⟩
  | 48 => ⟨S4x4096x4096, .f32⟩
  | 49 => ⟨S4x4096x4096, .f32⟩
  | 50 => ⟨S_, .f32⟩
  | 51 => ⟨S4x4096x4096, .f32⟩
  | 52 => ⟨S4x4096x4096, .f32⟩
  | 53 => ⟨S_, .f32⟩
  | 54 => ⟨S4x4096x4096, .f32⟩
  | 55 => ⟨S4x4096x4096, .f32⟩
  | 56 => ⟨S4x4096x4096, .f32⟩
  | 57 => ⟨S4x4096x2048, .f32⟩
  | 58 => ⟨S4x4096x32x64, .f32⟩
  | 59 => ⟨S4x4096x1024, .f32⟩
  | 60 => ⟨S4x32x128x8x128, .f32⟩
  | 61 => ⟨S4x4096x1024, .f32⟩
  | 62 => ⟨S4x32x128x8x128, .f32⟩
  | 63 => ⟨S16384x32, .f32⟩
  | 64 => ⟨S4x4096x32, .f32⟩
  | 65 => ⟨S32, .f32⟩
  | 66 => ⟨S1x1x32, .f32⟩
  | 67 => ⟨S4x4096x32, .f32⟩
  | 68 => ⟨S4x4096x32, .f32⟩
  | 69 => ⟨S_, .f32⟩
  | 70 => ⟨S4x4096x32, .f32⟩
  | 71 => ⟨S4x4096x32, .f32⟩
  | 72 => ⟨S4x4096x32, .f32⟩
  | 73 => ⟨S4x4096x32, .f32⟩
  | 74 => ⟨S4x4096x32, .i1⟩
  | 75 => ⟨S4x4096x32, .f32⟩
  | 76 => ⟨S4x4096x32, .f32⟩
  | 77 => ⟨S4x4096x32, .f32⟩
  | 78 => ⟨S4x4096x32, .f32⟩
  | 79 => ⟨S4x4096x32, .f32⟩
  | 80 => ⟨S4x4096x32, .f32⟩
  | 81 => ⟨S4x4096x32, .f32⟩
  | 82 => ⟨S4x4096x32, .f32⟩
  | 83 => ⟨S32, .f32⟩
  | 84 => ⟨S32, .f32⟩
  | 85 => ⟨S32, .f32⟩
  | 86 => ⟨S4x4096x32x1, .f32⟩
  | 87 => ⟨S4x4096x32x64, .f32⟩
  | 88 => ⟨S4x4096x32x64, .f32⟩
  | 89 => ⟨S4x32x128x8x4x64, .f32⟩
  | 90 => ⟨S_, .i1⟩
  | 91 => ⟨S128x128, .i1⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .i1⟩
  | 99 => ⟨S128x128, .i1⟩
  | 100 => ⟨S128x128, .i1⟩
  | 101 => ⟨S1x1x32, .f32⟩
  | 102 => ⟨S4x4096x32, .f32⟩
  | 103 => ⟨S4x4096x32, .f32⟩
  | 104 => ⟨S4x32x128x8x4, .f32⟩
  | 105 => ⟨S4x32x8x4x128, .f32⟩
  | 106 => ⟨S4x32x8x4x1x128, .f32⟩
  | 107 => ⟨S_, .f32⟩
  | 108 => ⟨S_, .f32⟩
  | 109 => ⟨S4x32x8x4x128x128, .i1⟩
  | 110 => ⟨S4x32x8x4x128x128, .f32⟩
  | 111 => ⟨S4x32x8x4x128x128, .f32⟩
  | 112 => ⟨S4x32x8x4x128x128, .f32⟩
  | 113 => ⟨S_, .f32⟩
  | 114 => ⟨S4x32x8x4x128, .f32⟩
  | 115 => ⟨S4x32x128x8x4, .f32⟩
  | 116 => ⟨S4x32x8x4x128x1, .f32⟩
  | 117 => ⟨S4x32x8x4x1x128, .f32⟩
  | 118 => ⟨S4x32x8x4x128x128, .f32⟩
  | 119 => ⟨S4x32x8x4x128x128, .f32⟩
  | 120 => ⟨S4x32x8x4x128x128, .f32⟩
  | 121 => ⟨S_, .f32⟩
  | 122 => ⟨S4x32x8x4x128x128, .f32⟩
  | 123 => ⟨S4x32x8x4x128x128, .i1⟩
  | 124 => ⟨S4x32x8x4x128x128, .f32⟩
  | 125 => ⟨S4x32x8x4x128x128, .f32⟩
  | 126 => ⟨S_, .f32⟩
  | 127 => ⟨S4x32x8x4x128x128, .f32⟩
  | _ => ⟨S16384x16384, .bf16⟩

abbrev hbmTy0_1 (i : Nat) : BufTy := match i % 128 with
  | 0 => ⟨S4x32x8x4x128x128, .i1⟩
  | 1 => ⟨S4x32x8x4x128x128, .f32⟩
  | 2 => ⟨S4x32x8x128x128, .f32⟩
  | 3 => ⟨S4x32x8x1x128x128, .f32⟩
  | 4 => ⟨S4x32x8x4x128x128, .f32⟩
  | 5 => ⟨S4x32x8x4x128x128, .f32⟩
  | 6 => ⟨S4x32x8x4x64x128, .f32⟩
  | 7 => ⟨S4x32x128x8x4x64, .f32⟩
  | 8 => ⟨S4x32x1x8x4, .f32⟩
  | 9 => ⟨S4x32x128x8x4, .f32⟩
  | 10 => ⟨S4x32x128x8x4, .f32⟩
  | 11 => ⟨S4x32x128x8x4, .f32⟩
  | 12 => ⟨S4x32x128x8x4x1, .f32⟩
  | 13 => ⟨S4x32x128x8x4x64, .f32⟩
  | 14 => ⟨S4x32x128x8x4x64, .f32⟩
  | 15 => ⟨S4x32x8x4x64x128, .f32⟩
  | 16 => ⟨S4x32x8x4x1, .f32⟩
  | 17 => ⟨S4x32x8x4, .f32⟩
  | 18 => ⟨S4x32x8x4, .f32⟩
  | 19 => ⟨S4x32x8x4x1x1, .f32⟩
  | 20 => ⟨S4x32x8x4x64x128, .f32⟩
  | 21 => ⟨S_, .f32⟩
  | 22 => ⟨S4x8x4x64x128, .f32⟩
  | 23 => ⟨S4x1x8x4x64x128, .f32⟩
  | 24 => ⟨S4x8x4x64x128, .f32⟩
  | 25 => ⟨S4x8x4x64x128, .f32⟩
  | 26 => ⟨S4x1x8x4x64x128, .f32⟩
  | 27 => ⟨S4x8x4x64x128, .f32⟩
  | 28 => ⟨S4x8x4x64x128, .f32⟩
  | 29 => ⟨S4x1x8x4x64x128, .f32⟩
  | 30 => ⟨S4x8x4x64x128, .f32⟩
  | 31 => ⟨S4x8x4x64x128, .f32⟩
  | 32 => ⟨S4x1x8x4x64x128, .f32⟩
  | 33 => ⟨S4x8x4x64x128, .f32⟩
  | 34 => ⟨S4x8x4x64x128, .f32⟩
  | 35 => ⟨S4x1x8x4x64x128, .f32⟩
  | 36 => ⟨S4x8x4x64x128, .f32⟩
  | 37 => ⟨S4x8x4x64x128, .f32⟩
  | 38 => ⟨S4x1x8x4x64x128, .f32⟩
  | 39 => ⟨S4x8x4x64x128, .f32⟩
  | 40 => ⟨S4x8x4x64x128, .f32⟩
  | 41 => ⟨S4x1x8x4x64x128, .f32⟩
  | 42 => ⟨S4x8x4x64x128, .f32⟩
  | 43 => ⟨S4x8x4x64x128, .f32⟩
  | 44 => ⟨S4x1x8x4x64x128, .f32⟩
  | 45 => ⟨S4x8x4x64x128, .f32⟩
  | 46 => ⟨S4x8x4x64x128, .f32⟩
  | 47 => ⟨S4x1x8x4x64x128, .f32⟩
  | 48 => ⟨S4x8x4x64x128, .f32⟩
  | 49 => ⟨S4x8x4x64x128, .f32⟩
  | 50 => ⟨S4x1x8x4x64x128, .f32⟩
  | 51 => ⟨S4x8x4x64x128, .f32⟩
  | 52 => ⟨S4x8x4x64x128, .f32⟩
  | 53 => ⟨S4x1x8x4x64x128, .f32⟩
  | 54 => ⟨S4x8x4x64x128, .f32⟩
  | 55 => ⟨S4x8x4x64x128, .f32⟩
  | 56 => ⟨S4x1x8x4x64x128, .f32⟩
  | 57 => ⟨S4x8x4x64x128, .f32⟩
  | 58 => ⟨S4x8x4x64x128, .f32⟩
  | 59 => ⟨S4x1x8x4x64x128, .f32⟩
  | 60 => ⟨S4x8x4x64x128, .f32⟩
  | 61 => ⟨S4x8x4x64x128, .f32⟩
  | 62 => ⟨S4x1x8x4x64x128, .f32⟩
  | 63 => ⟨S4x8x4x64x128, .f32⟩
  | 64 => ⟨S4x8x4x64x128, .f32⟩
  | 65 => ⟨S4x1x8x4x64x128, .f32⟩
  | 66 => ⟨S4x8x4x64x128, .f32⟩
  | 67 => ⟨S4x8x4x64x128, .f32⟩
  | 68 => ⟨S4x1x8x4x64x128, .f32⟩
  | 69 => ⟨S4x8x4x64x128, .f32⟩
  | 70 => ⟨S4x8x4x64x128, .f32⟩
  | 71 => ⟨S4x1x8x4x64x128, .f32⟩
  | 72 => ⟨S4x8x4x64x128, .f32⟩
  | 73 => ⟨S4x8x4x64x128, .f32⟩
  | 74 => ⟨S4x1x8x4x64x128, .f32⟩
  | 75 => ⟨S4x8x4x64x128, .f32⟩
  | 76 => ⟨S4x8x4x64x128, .f32⟩
  | 77 => ⟨S4x1x8x4x64x128, .f32⟩
  | 78 => ⟨S4x8x4x64x128, .f32⟩
  | 79 => ⟨S4x8x4x64x128, .f32⟩
  | 80 => ⟨S4x1x8x4x64x128, .f32⟩
  | 81 => ⟨S4x8x4x64x128, .f32⟩
  | 82 => ⟨S4x8x4x64x128, .f32⟩
  | 83 => ⟨S4x1x8x4x64x128, .f32⟩
  | 84 => ⟨S4x8x4x64x128, .f32⟩
  | 85 => ⟨S4x8x4x64x128, .f32⟩
  | 86 => ⟨S4x1x8x4x64x128, .f32⟩
  | 87 => ⟨S4x8x4x64x128, .f32⟩
  | 88 => ⟨S4x8x4x64x128, .f32⟩
  | 89 => ⟨S4x1x8x4x64x128, .f32⟩
  | 90 => ⟨S4x8x4x64x128, .f32⟩
  | 91 => ⟨S4x8x4x64x128, .f32⟩
  | 92 => ⟨S4x1x8x4x64x128, .f32⟩
  | 93 => ⟨S4x8x4x64x128, .f32⟩
  | 94 => ⟨S4x8x4x64x128, .f32⟩
  | 95 => ⟨S4x1x8x4x64x128, .f32⟩
  | 96 => ⟨S4x8x4x64x128, .f32⟩
  | 97 => ⟨S4x8x4x64x128, .f32⟩
  | 98 => ⟨S4x1x8x4x64x128, .f32⟩
  | 99 => ⟨S4x8x4x64x128, .f32⟩
  | 100 => ⟨S4x8x4x64x128, .f32⟩
  | 101 => ⟨S4x1x8x4x64x128, .f32⟩
  | 102 => ⟨S4x8x4x64x128, .f32⟩
  | 103 => ⟨S4x8x4x64x128, .f32⟩
  | 104 => ⟨S4x1x8x4x64x128, .f32⟩
  | 105 => ⟨S4x8x4x64x128, .f32⟩
  | 106 => ⟨S4x8x4x64x128, .f32⟩
  | 107 => ⟨S4x1x8x4x64x128, .f32⟩
  | 108 => ⟨S4x8x4x64x128, .f32⟩
  | 109 => ⟨S4x8x4x64x128, .f32⟩
  | 110 => ⟨S4x1x8x4x64x128, .f32⟩
  | 111 => ⟨S4x8x4x64x128, .f32⟩
  | 112 => ⟨S4x8x4x64x128, .f32⟩
  | 113 => ⟨S4x1x8x4x64x128, .f32⟩
  | 114 => ⟨S4x8x4x64x128, .f32⟩
  | 115 => ⟨S4x8x4x64x128, .f32⟩
  | 116 => ⟨S4x1x8x4x64x128, .f32⟩
  | 117 => ⟨S4x8x4x64x128, .f32⟩
  | 118 => ⟨S4x8x4x64x128, .f32⟩
  | 119 => ⟨S4x1x8x4x64x128, .f32⟩
  | 120 => ⟨S4x8x4x64x128, .f32⟩
  | 121 => ⟨S4x8x4x64x128, .f32⟩
  | 122 => ⟨S4x1x8x4x64x128, .f32⟩
  | 123 => ⟨S4x8x4x64x128, .f32⟩
  | 124 => ⟨S4x8x4x64x128, .f32⟩
  | 125 => ⟨S4x1x8x4x64x128, .f32⟩
  | 126 => ⟨S4x8x4x64x128, .f32⟩
  | 127 => ⟨S4x8x4x64x128, .f32⟩
  | _ => ⟨S16384x16384, .bf16⟩

abbrev hbmTy0_2 (i : Nat) : BufTy := match i % 128 with
  | 0 => ⟨S4x1x8x4x64x128, .f32⟩
  | 1 => ⟨S4x8x4x64x128, .f32⟩
  | 2 => ⟨S4x8x4x64x128, .f32⟩
  | 3 => ⟨S4x1x8x4x64x128, .f32⟩
  | 4 => ⟨S4x8x4x64x128, .f32⟩
  | 5 => ⟨S4x8x4x64x128, .f32⟩
  | 6 => ⟨S4x1x8x4x64x128, .f32⟩
  | 7 => ⟨S4x8x4x64x128, .f32⟩
  | 8 => ⟨S4x8x4x64x128, .f32⟩
  | 9 => ⟨S4x1x8x4x64x128, .f32⟩
  | 10 => ⟨S4x8x4x64x128, .f32⟩
  | 11 => ⟨S4x8x4x64x128, .f32⟩
  | 12 => ⟨S4x1x8x4x64x128, .f32⟩
  | 13 => ⟨S4x8x4x64x128, .f32⟩
  | 14 => ⟨S4x8x4x64x128, .f32⟩
  | 15 => ⟨S4x1x8x4x64x128, .f32⟩
  | 16 => ⟨S4x8x4x64x128, .f32⟩
  | 17 => ⟨S4x8x4x64x128, .f32⟩
  | 18 => ⟨S4x1x8x4x64x128, .f32⟩
  | 19 => ⟨S4x8x4x64x128, .f32⟩
  | 20 => ⟨S4x8x4x64x128, .f32⟩
  | 21 => ⟨S4x1x8x4x64x128, .f32⟩
  | 22 => ⟨S4x8x4x64x128, .f32⟩
  | 23 => ⟨S4x8x4x64x128, .f32⟩
  | 24 => ⟨S4x1x8x4x64x128, .f32⟩
  | 25 => ⟨S4x8x4x64x128, .f32⟩
  | 26 => ⟨S4x8x4x64x128, .f32⟩
  | 27 => ⟨S4x1x8x4x64x128, .f32⟩
  | 28 => ⟨S4x8x4x64x128, .f32⟩
  | 29 => ⟨S4x8x4x64x128, .f32⟩
  | 30 => ⟨S4x1x8x4x64x128, .f32⟩
  | 31 => ⟨S4x8x4x64x128, .f32⟩
  | 32 => ⟨S4x8x4x64x128, .f32⟩
  | 33 => ⟨S4x1x8x4x64x128, .f32⟩
  | 34 => ⟨S4x8x4x64x128, .f32⟩
  | 35 => ⟨S4x8x4x64x128, .f32⟩
  | 36 => ⟨S4x1x8x4x64x128, .f32⟩
  | 37 => ⟨S4x8x4x64x128, .f32⟩
  | 38 => ⟨S4x8x4x64x128, .f32⟩
  | 39 => ⟨S4x1x8x4x64x128, .f32⟩
  | 40 => ⟨S4x8x4x64x128, .f32⟩
  | 41 => ⟨S4x8x4x64x128, .f32⟩
  | 42 => ⟨S4x1x8x4x64x128, .f32⟩
  | 43 => ⟨S4x8x4x64x128, .f32⟩
  | 44 => ⟨S4x8x4x64x128, .f32⟩
  | 45 => ⟨S4x1x8x4x64x128, .f32⟩
  | 46 => ⟨S4x8x4x64x128, .f32⟩
  | 47 => ⟨S4x8x4x64x128, .f32⟩
  | 48 => ⟨S4x1x8x4x64x128, .f32⟩
  | 49 => ⟨S4x8x4x64x128, .f32⟩
  | 50 => ⟨S4x8x4x64x128, .f32⟩
  | 51 => ⟨S4x1x8x4x64x128, .f32⟩
  | 52 => ⟨S4x8x4x64x128, .f32⟩
  | 53 => ⟨S4x8x4x64x128, .f32⟩
  | 54 => ⟨S4x1x8x4x64x128, .f32⟩
  | 55 => ⟨S4x8x4x64x128, .f32⟩
  | 56 => ⟨S4x8x4x64x128, .f32⟩
  | 57 => ⟨S4x1x8x4x64x128, .f32⟩
  | 58 => ⟨S4x8x4x64x128, .f32⟩
  | 59 => ⟨S4x8x4x64x128, .f32⟩
  | 60 => ⟨S4x1x8x4x64x128, .f32⟩
  | 61 => ⟨S4x8x4x64x128, .f32⟩
  | 62 => ⟨S4x8x4x64x128, .f32⟩
  | 63 => ⟨S4x1x8x4x64x128, .f32⟩
  | 64 => ⟨S4x8x4x64x128, .f32⟩
  | 65 => ⟨S4x8x4x64x128, .f32⟩
  | 66 => ⟨S4x1x8x4x64x128, .f32⟩
  | 67 => ⟨S4x8x4x64x128, .f32⟩
  | 68 => ⟨S4x8x4x64x128, .f32⟩
  | 69 => ⟨S4x1x8x4x64x128, .f32⟩
  | 70 => ⟨S4x8x4x64x128, .f32⟩
  | 71 => ⟨S4x8x4x64x128, .f32⟩
  | 72 => ⟨S4x1x8x4x64x128, .f32⟩
  | 73 => ⟨S4x8x4x64x128, .f32⟩
  | 74 => ⟨S4x8x4x64x128, .f32⟩
  | 75 => ⟨S4x1x8x4x64x128, .f32⟩
  | 76 => ⟨S4x8x4x64x128, .f32⟩
  | 77 => ⟨S4x8x4x64x128, .f32⟩
  | 78 => ⟨S4x1x8x4x64x128, .f32⟩
  | 79 => ⟨S4x8x4x64x128, .f32⟩
  | 80 => ⟨S4x8x4x64x128, .f32⟩
  | 81 => ⟨S4x1x8x4x64x128, .f32⟩
  | 82 => ⟨S4x1x8x4x64x128, .f32⟩
  | 83 => ⟨S4x1x8x4x64x128, .f32⟩
  | 84 => ⟨S4x1x8x4x64x128, .f32⟩
  | 85 => ⟨S4x1x8x4x64x128, .f32⟩
  | 86 => ⟨S4x1x8x4x64x128, .f32⟩
  | 87 => ⟨S4x1x8x4x64x128, .f32⟩
  | 88 => ⟨S4x1x8x4x64x128, .f32⟩
  | 89 => ⟨S4x1x8x4x64x128, .f32⟩
  | 90 => ⟨S4x1x8x4x64x128, .f32⟩
  | 91 => ⟨S4x1x8x4x64x128, .f32⟩
  | 92 => ⟨S4x1x8x4x64x128, .f32⟩
  | 93 => ⟨S4x1x8x4x64x128, .f32⟩
  | 94 => ⟨S4x1x8x4x64x128, .f32⟩
  | 95 => ⟨S4x1x8x4x64x128, .f32⟩
  | 96 => ⟨S4x1x8x4x64x128, .f32⟩
  | 97 => ⟨S4x1x8x4x64x128, .f32⟩
  | 98 => ⟨S4x1x8x4x64x128, .f32⟩
  | 99 => ⟨S4x1x8x4x64x128, .f32⟩
  | 100 => ⟨S4x1x8x4x64x128, .f32⟩
  | 101 => ⟨S4x1x8x4x64x128, .f32⟩
  | 102 => ⟨S4x1x8x4x64x128, .f32⟩
  | 103 => ⟨S4x1x8x4x64x128, .f32⟩
  | 104 => ⟨S4x1x8x4x64x128, .f32⟩
  | 105 => ⟨S4x1x8x4x64x128, .f32⟩
  | 106 => ⟨S4x1x8x4x64x128, .f32⟩
  | 107 => ⟨S4x1x8x4x64x128, .f32⟩
  | 108 => ⟨S4x1x8x4x64x128, .f32⟩
  | 109 => ⟨S4x1x8x4x64x128, .f32⟩
  | 110 => ⟨S4x1x8x4x64x128, .f32⟩
  | 111 => ⟨S4x1x8x4x64x128, .f32⟩
  | 112 => ⟨S4x1x8x4x64x128, .f32⟩
  | 113 => ⟨S4x16x8x4x64x128, .f32⟩
  | 114 => ⟨S4x16x8x4x64x128, .f32⟩
  | 115 => ⟨S4x32x8x4x64x128, .f32⟩
  | 116 => ⟨S4x32x8x4x64x128, .f32⟩
  | 117 => ⟨S4x32x128x8x4x64, .f32⟩
  | 118 => ⟨S4x32x128x8x4, .f32⟩
  | 119 => ⟨S4x32x128x8x4x1, .f32⟩
  | 120 => ⟨S4x32x128x8x4x64, .f32⟩
  | 121 => ⟨S4x32x128x8x4x64, .f32⟩
  | 122 => ⟨S4x32x128x8x4x64, .f32⟩
  | 123 => ⟨S4x4096x32x64, .f32⟩
  | 124 => ⟨S32, .f32⟩
  | 125 => ⟨S32x1, .f32⟩
  | 126 => ⟨S1x1x32x1, .f32⟩
  | 127 => ⟨S4x4096x32x64, .f32⟩
  | _ => ⟨S16384x16384, .bf16⟩

abbrev hbmTy0_3 (i : Nat) : BufTy := match i % 128 with
  | 0 => ⟨S4x4096x32x64, .f32⟩
  | 1 => ⟨S4x4096x32x64, .f32⟩
  | 2 => ⟨S4x4096x2048, .f32⟩
  | 3 => ⟨S4x4096x2048, .f32⟩
  | 4 => ⟨S4x4096x2048, .f32⟩
  | 5 => ⟨S_, .f32⟩
  | 6 => ⟨S4x4096x2048, .f32⟩
  | 7 => ⟨S4x4096x2048, .f32⟩
  | 8 => ⟨S_, .f32⟩
  | 9 => ⟨S4x4096x2048, .f32⟩
  | 10 => ⟨S4x4096x2048, .f32⟩
  | 11 => ⟨S4x4096x2048, .f32⟩
  | 12 => ⟨S4x4096x2048, .f32⟩
  | 13 => ⟨S4x4096x8x256, .f32⟩
  | 14 => ⟨S4x4096x8x256, .f32⟩
  | 15 => ⟨S_, .f32⟩
  | 16 => ⟨S4x4096x8, .f32⟩
  | 17 => ⟨S4x4096x8x1, .f32⟩
  | 18 => ⟨S_, .f32⟩
  | 19 => ⟨S4x4096x8x1, .f32⟩
  | 20 => ⟨S4x4096x8x1, .f32⟩
  | 21 => ⟨S_, .f32⟩
  | 22 => ⟨S4x4096x8x1, .f32⟩
  | 23 => ⟨S4x4096x8x1, .f32⟩
  | 24 => ⟨S4x4096x8x1, .f32⟩
  | 25 => ⟨S4x4096x8x256, .f32⟩
  | 26 => ⟨S4x4096x8x256, .f32⟩
  | 27 => ⟨S16384x2048, .f32⟩
  | 28 => ⟨S2048, .f32⟩
  | 29 => ⟨S1x2048, .f32⟩
  | 30 => ⟨S16384x2048, .f32⟩
  | 31 => ⟨S16384x2048, .f32⟩
  | 32 => ⟨S16384x2048, .bf16⟩
  | 33 => ⟨S2x2048x2048, .f32⟩
  | 34 => ⟨S4096x2048, .f32⟩
  | 35 => ⟨S4096x2048, .bf16⟩
  | 36 => ⟨S2048x2048, .f32⟩
  | 37 => ⟨S2048x2048, .bf16⟩
  | _ => ⟨S16384x16384, .bf16⟩

abbrev hbmTy (i : Nat) : BufTy := match i / 128 with
  | 0 => hbmTy0_0 i
  | 1 => hbmTy0_1 i
  | 2 => hbmTy0_2 i
  | 3 => hbmTy0_3 i
  | _ => ⟨S16384x16384, .bf16⟩

abbrev bufTy : (tb : Table) → Fin (tcTables nBuf tb) → BufTy
  | .hbm, ⟨i, _⟩ => hbmTy i
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_0 : Ref sig .tc := ⟨.hbm, 90, rfl⟩
abbrev main_v57 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_c_0 : Ref sig .tc := ⟨.hbm, 98, rfl⟩
abbrev main_call3_v5 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_v65 : Ref sig .tc := ⟨.hbm, 112, rfl⟩
abbrev main_cst_1 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_2 : Ref sig .tc := ⟨.hbm, 121, rfl⟩
abbrev main_v73 : Ref sig .tc := ⟨.hbm, 122, rfl⟩
abbrev main_call5_v0 : Ref sig .tc := ⟨.hbm, 123, rfl⟩
abbrev main_v74 : Ref sig .tc := ⟨.hbm, 124, rfl⟩
abbrev main_v75 : Ref sig .tc := ⟨.hbm, 125, rfl⟩
abbrev main_cst_3 : Ref sig .tc := ⟨.hbm, 126, rfl⟩
abbrev main_v76 : Ref sig .tc := ⟨.hbm, 127, rfl⟩
abbrev main_call6_v0 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_4 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_v307 : Ref sig .tc := ⟨.hbm, 360, rfl⟩
abbrev main_v308 : Ref sig .tc := ⟨.hbm, 361, rfl⟩
abbrev main_v309 : Ref sig .tc := ⟨.hbm, 362, rfl⟩
abbrev main_v310 : Ref sig .tc := ⟨.hbm, 363, rfl⟩
abbrev main_v311 : Ref sig .tc := ⟨.hbm, 364, rfl⟩
abbrev main_v312 : Ref sig .tc := ⟨.hbm, 365, rfl⟩
abbrev main_v313 : Ref sig .tc := ⟨.hbm, 366, rfl⟩
abbrev main_v314 : Ref sig .tc := ⟨.hbm, 367, rfl⟩
abbrev main_v315 : Ref sig .tc := ⟨.hbm, 368, rfl⟩
abbrev main_v316 : Ref sig .tc := ⟨.hbm, 369, rfl⟩
abbrev main_v317 : Ref sig .tc := ⟨.hbm, 370, rfl⟩
abbrev main_v318 : Ref sig .tc := ⟨.hbm, 371, rfl⟩
abbrev main_v319 : Ref sig .tc := ⟨.hbm, 372, rfl⟩
abbrev main_v320 : Ref sig .tc := ⟨.hbm, 373, rfl⟩
abbrev main_v321 : Ref sig .tc := ⟨.hbm, 374, rfl⟩
abbrev main_v322 : Ref sig .tc := ⟨.hbm, 375, rfl⟩
abbrev main_v323 : Ref sig .tc := ⟨.hbm, 376, rfl⟩
abbrev main_v324 : Ref sig .tc := ⟨.hbm, 377, rfl⟩
abbrev main_v325 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev main_v329 : Ref sig .tc := ⟨.hbm, 382, rfl⟩
abbrev main_v330 : Ref sig .tc := ⟨.hbm, 383, rfl⟩
abbrev main_v331 : Ref sig .tc := ⟨.hbm, 384, rfl⟩
abbrev main_v332 : Ref sig .tc := ⟨.hbm, 385, rfl⟩
abbrev main_v333 : Ref sig .tc := ⟨.hbm, 386, rfl⟩
abbrev main_call7_v0 : Ref sig .tc := ⟨.hbm, 387, rfl⟩
abbrev main_call7_v1 : Ref sig .tc := ⟨.hbm, 388, rfl⟩
abbrev main_call7_cst : Ref sig .tc := ⟨.hbm, 389, rfl⟩
abbrev main_call7_v2 : Ref sig .tc := ⟨.hbm, 390, rfl⟩
abbrev main_call7_v3 : Ref sig .tc := ⟨.hbm, 391, rfl⟩
abbrev main_call7_cst_0 : Ref sig .tc := ⟨.hbm, 392, rfl⟩
abbrev main_call7_v4 : Ref sig .tc := ⟨.hbm, 393, rfl⟩
abbrev main_call7_v5 : Ref sig .tc := ⟨.hbm, 394, rfl⟩
abbrev main_v334 : Ref sig .tc := ⟨.hbm, 395, rfl⟩
abbrev main_v335 : Ref sig .tc := ⟨.hbm, 396, rfl⟩
abbrev main_v336 : Ref sig .tc := ⟨.hbm, 397, rfl⟩
abbrev main_v337 : Ref sig .tc := ⟨.hbm, 398, rfl⟩
abbrev main_cst_5 : Ref sig .tc := ⟨.hbm, 399, rfl⟩
abbrev main_v338 : Ref sig .tc := ⟨.hbm, 400, rfl⟩
abbrev main_v339 : Ref sig .tc := ⟨.hbm, 401, rfl⟩
abbrev main_cst_6 : Ref sig .tc := ⟨.hbm, 402, rfl⟩
abbrev main_v340 : Ref sig .tc := ⟨.hbm, 403, rfl⟩
abbrev main_v341 : Ref sig .tc := ⟨.hbm, 404, rfl⟩
abbrev main_cst_7 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_v345 : Ref sig .tc := ⟨.hbm, 409, rfl⟩
abbrev main_v346 : Ref sig .tc := ⟨.hbm, 410, rfl⟩
abbrev main_v347 : Ref sig .tc := ⟨.hbm, 411, rfl⟩
abbrev main_v348 : Ref sig .tc := ⟨.hbm, 412, rfl⟩
abbrev main_v349 : Ref sig .tc := ⟨.hbm, 413, rfl⟩
abbrev main_v350 : Ref sig .tc := ⟨.hbm, 414, rfl⟩
abbrev main_v351 : Ref sig .tc := ⟨.hbm, 415, rfl⟩
abbrev main_v352 : Ref sig .tc := ⟨.hbm, 416, rfl⟩
abbrev main_v353 : Ref sig .tc := ⟨.hbm, 417, rfl⟩
abbrev main_v354 : Ref sig .tc := ⟨.hbm, 418, rfl⟩
abbrev main_v355 : Ref sig .tc := ⟨.hbm, 419, rfl⟩
abbrev main_v356 : Ref sig .tc := ⟨.hbm, 420, rfl⟩
abbrev main_v357 : Ref sig .tc := ⟨.hbm, 421, rfl⟩

abbrev nD : Nat := 1
abbrev τ : Topo := Topo.v7x

variable {F : FTy → Type} [FloatOps F]
-- ==== Proof.SameText.lean ====
/- The kernel and its idealization have the same text, so their bodies, and the programs around them, are equal at words. -/
module

public import proofs.«01_k».proof.Defs
public import proofs.«01_k».proof.Proof.Gen.Kernel
public import proofs.«01_k».proof.Proof.Gen.KernelIdeal

@[expose] public section

set_option maxRecDepth 16384

noncomputable section

namespace Cert.Inproj

open Idealize.ShloMosaic Idealize.ShloMosaic.TcCoe Idealize.SL.Sem

theorem head_same : @Cert.Kernel.cc0_inproj_head Bits _ _ = @Cert.KernelIdeal.cc0_inproj_head Bits _ _ := rfl
theorem rows_same : @Cert.Kernel.cc1_inproj Bits _ _ = @Cert.KernelIdeal.cc1_inproj Bits _ _ := rfl

theorem defs₀_same : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) (funext fun l => funext fun x => ?_)
  match l, x with
  | 0, (t, s) =>
    rw [head_same]; dsimp only; rfl
  | 1, (t, s) =>
    rw [rows_same]; dsimp only; rfl
  | ⟨_ + 2, h⟩, _ => exact absurd h (Nat.not_lt.2 (Nat.le_add_left _ _))

theorem defs_same : Cert.Kernel.defs (F := Bits) = Cert.KernelIdeal.defs (F := Bits) := by
  unfold Cert.Kernel.defs Cert.KernelIdeal.defs
  rw [defs₀_same]
  rfl
theorem main_same : Cert.Kernel.main (F := Bits) = Cert.KernelIdeal.main (F := Bits) := rfl

end Cert.Inproj
end
-- ==== Proof.NormRows.lean ====
/- The row normalisation both kernels do 128 rows at a time, as one function of the whole block of rows, and what a
   store of one 128-row chunk leaves in the buffer that collects the chunks. -/
module

public import proofs.«01_k».proof.Proof.Gen.KernelIdeal.Skeleton
public import Idealize.ShloMosaic.Lib.VecWindow
public import Idealize.ShloMosaic.Lib.WritesUnit
public import Idealize.ShloMosaic.Lib.Pipeline.Frame

@[expose] public section

noncomputable section

namespace Cert.KernelIdeal.Inproj

open Idealize.ShloMosaic Idealize.ShloMosaic.TcCoe
open Cert.KernelIdeal.Gen

variable {F : FTy → Type} [FloatOps F]

/-- A block of `R` rows of 2048 entries. -/
abbrev Rows (R : ℕ) : Shape := ⟨2, ![R, 2048]⟩

/-- The chunk of 128 rows that holds an index lies inside the block, the number of rows being a multiple of 128. -/
theorem chunk_inb {R : ℕ} (hR : 128 ∣ R) (y : (Rows R).Idx) :
    ∀ a : Fin 2, (![128 * ((y 0).val / 128), 0] : Fin 2 → ℕ) a + S128x2048.size a ≤ (Rows R).size a := by
  obtain ⟨n, rfl⟩ := hR
  have h0 : (y 0).val < 128 * n := (y 0).isLt
  refine Fin.forall_fin_two.mpr ⟨?_, le_refl _⟩
  show 128 * ((y 0).val / 128) + 128 ≤ 128 * n
  omega

/-- An index lies in its own chunk. -/
theorem chunk_mem {R : ℕ} (y : (Rows R).Idx) :
    ∀ a : Fin 2, (![128 * ((y 0).val / 128), 0] : Fin 2 → ℕ) a ≤ (y a).val
      ∧ (y a).val < (![128 * ((y 0).val / 128), 0] : Fin 2 → ℕ) a + S128x2048.size a := by
  have h1 : (y 1).val < 2048 := (y 1).isLt
  refine Fin.forall_fin_two.mpr ⟨⟨?_, ?_⟩, Nat.zero_le _, ?_⟩
  · show 128 * ((y 0).val / 128) ≤ (y 0).val
    omega
  · show (y 0).val < 128 * ((y 0).val / 128) + 128
    omega
  · show (y 1).val < 0 + 2048
    omega

/-- The rows of `x`, each divided by its root mean square and multiplied by the weights `nw`: row by row what the
kernels' chunk computation gives on the chunk the row lies in. -/
def normRows {R : ℕ} (hR : 128 ∣ R) (x : Vec F (Rows R) .f32) (nw : Vec F S1x2048 .f32) : Vec F (Rows R) .bf16 :=
  fun y => k0_pay1 (VecWindow.window x ![128 * ((y 0).val / 128), 0] S128x2048.size (chunk_inb hR y)) nw
    (Rect.unitLocal (s := Rows R) (off := ![128 * ((y 0).val / 128), 0]) (size := S128x2048.size) y (chunk_mem y))

/-- The normalised rows at an index of chunk `k`. -/
theorem normRows_chunk {R : ℕ} (hR : 128 ∣ R) (x : Vec F (Rows R) .f32) (nw : Vec F S1x2048 .f32) (k : ℕ)
    (inb : ∀ a : Fin 2, (![128 * k, 0] : Fin 2 → ℕ) a + S128x2048.size a ≤ (Rows R).size a) (y : (Rows R).Idx)
    (z : S128x2048.Idx) (h0 : (y 0).val = 128 * k + (z 0).val) (h1 : (y 1).val = (z 1).val) :
    normRows hR x nw y = k0_pay1 (VecWindow.window x ![128 * k, 0] S128x2048.size inb) nw z := by
  have hz : (z 0).val < 128 := (z 0).isLt
  have hk : (y 0).val / 128 = k := by omega
  subst hk
  unfold normRows
  refine congrArg _ ?_
  funext a
  refine Fin.ext ?_
  revert a
  refine Fin.forall_fin_two.mpr ⟨?_, ?_⟩
  · show (y 0).val - 128 * ((y 0).val / 128) = (z 0).val
    omega
  · show (y 1).val - 0 = (z 1).val
    omega

section Chunk

variable {κ : Kind} {sp : Space} {R : ℕ} (hR : 128 ∣ R) (v : View sig κ sp (Rows R) .bf16) (f : v.ty.Contents (Elt F))
  (x : Vec F (Rows R) .f32) (nw : Vec F S1x2048 .f32)

/-- A buffer that agrees with the normalised rows on the rows before chunk `k` agrees with them on the rows before chunk
`k + 1` once chunk `k` is stored. -/
theorem read_chunk {off : Fin 2 → ℕ} (k : ℕ) (hoff : off = ![128 * k, 0])
    (inb : ∀ a : Fin 2, off a + S128x2048.size a ≤ (Rows R).size a)
    (inb' : ∀ a : Fin 2, (![128 * k, 0] : Fin 2 → ℕ) a + S128x2048.size a ≤ (Rows R).size a)
    (w : S128x2048.Idx → Elt F .bf16)
    (hw : w = k0_pay1 (VecWindow.window x ![128 * k, 0] S128x2048.size inb') nw)
    (L : List (View.Piece (Elt F) (Rows R) .bf16))
    (ih : ∀ y : (Rows R).Idx, (y 0).val < 128 * k → v.read (Elt F) (v.writes (Elt F) f L) y = normRows hR x nw y)
    (y : (Rows R).Idx) (hy : (y 0).val < 128 * (k + 1)) :
    v.read (Elt F) (v.writes (Elt F) f (⟨Rect.unit (s := Rows R) off S128x2048.size inb, w⟩ :: L)) y = normRows hR x nw y := by
  have hy1 : (y 1).val < 2048 := (y 1).isLt
  subst hoff hw
  by_cases h : (y 0).val < 128 * k
  · rw [View.read_writes_cons_unit_of_not_mem v f inb _ L y rfl (0 : Fin 2) (Or.inl h)]
    exact ih y h
  · have hm : ∀ a : Fin 2, (![128 * k, 0] : Fin 2 → ℕ) a ≤ (y a).val
        ∧ (y a).val < (![128 * k, 0] : Fin 2 → ℕ) a + S128x2048.size a :=
      Fin.forall_fin_two.mpr ⟨⟨Nat.le_of_not_lt h, show (y 0).val < 128 * k + 128 by omega⟩, Nat.zero_le _,
        show (y 1).val < 0 + 2048 by omega⟩
    rw [View.read_writes_cons_unit_of_mem v f inb _ L y
      (Rect.unitLocal (s := Rows R) (off := ![128 * k, 0]) (size := S128x2048.size) y hm) rfl
      (fun a => by rw [Rect.unitLocal_val]; have := hm a; omega)]
    refine (normRows_chunk hR x nw k inb' y _ ?_ ?_).symm
    · show (y 0).val = 128 * k + ((y 0).val - 128 * k)
      omega
    · show (y 1).val = (y 1).val - 0
      omega

end Chunk

end Cert.KernelIdeal.Inproj

end
-- ==== Proof.RowsRun.lean ====
/- One grid point of the row kernel: what its body leaves in the staging buffers and in the scratch, at the first column
   of a row block (which normalises the rows) and at every later one (which reads them back). -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.NormRows
public import Idealize.ShloMosaic.Lib.Pipeline.FrameBody
public import Idealize.ShloMosaic.Lib.WordCmp
public import Idealize.ShloMosaic.Lib.Ring
public import Idealize.ShloMosaic.Lib.Tactic

@[expose] public section

set_option maxRecDepth 16384

noncomputable section

namespace Cert.KernelIdeal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem dvd_1024 : 128 ∣ 1024 := ⟨8, rfl⟩

/-- A block of 1024 rows, normalised. -/
abbrev blockRows (x : Vec F S1024x2048 .f32) (nw : Vec F S1x2048 .f32) : Vec F S1024x2048 .bf16 :=
  normRows (R := 1024) dvd_1024 x nw

section Body

variable (c : Dev nD) (i : grid1.Coords) (arg2 : Memref sig .tc .vmem S1024x2048 .f32) (harg2 : arg2.IsWhole)
  (arg3 : Memref sig .tc .vmem S1x2048 .f32) (harg3 : arg3.IsWhole) (arg4 : Memref sig .tc .vmem S2048x2048 .bf16)
  (harg4 : arg4.IsWhole) (arg5 : Memref sig .tc .vmem S32x2048 .bf16) (harg5 : arg5.IsWhole)
  (arg6 : Memref sig .tc .hbm S16384x16384 .bf16) (harg6 : arg6.IsWhole) (arg7 : Memref sig .tc .hbm S32x16384 .f32)
  (harg7 : arg7.IsWhole) (arg8 : Memref sig .tc .vmem S1024x2048 .bf16) (harg8 : arg8.IsWhole)
  (arg9 : Memref sig .tc .vmem S32x1024 .f32) (harg9 : arg9.IsWhole) (arg10 : Memref sig .tc .vmem S1024x2048 .bf16)
  (harg10 : arg10.IsWhole)

/-- The chunk computation on a loaded chunk and the loaded weights is the one on the chunk of what the buffers read. -/
theorem chunk_payload (x0 : Vec F S1024x2048 .f32) (x1 : Vec F S1x2048 .f32) (k : ℕ) {off : Fin 2 → ℕ} (hoff : off = ![128 * k, 0])
    (inb : ∀ a : Fin 2, off a + S128x2048.size a ≤ S1024x2048.size a)
    (inb' : ∀ a : Fin 2, (![128 * k, 0] : Fin 2 → ℕ) a + S128x2048.size a ≤ (Rows 1024).size a) :
    k0_pay1 (arg2.view.readAt (Elt F) (Rect.unit (s := S1024x2048) off S128x2048.size inb).toLoadRect (harg2.unread x0))
        (arg3.view.readAt (Elt F) (Rect.unit (s := S1x2048) ![0, 0] S1x2048.size inb_S1x2048_S1x2048_0_0).toLoadRect (harg3.unread x1))
      = k0_pay1 (VecWindow.window (s := Rows 1024) x0 ![128 * k, 0] S128x2048.size inb') x1 := by
  rw [View.readAt_unit _ _ _ hoff inb', View.readAt_full, harg2.read_unread, harg3.read_unread]

theorem inb_chunk (k : ℕ) (hk : k < 8) :
    ∀ a : Fin 2, (![128 * k, 0] : Fin 2 → ℕ) a + S128x2048.size a ≤ (Rows 1024).size a :=
  Fin.forall_fin_two.mpr ⟨show 128 * k + 128 ≤ 1024 by omega, le_refl _⟩

set_option maxHeartbeats 2000000 in
/-- The first column of a row block: from any contents of the outputs and the scratch, the body leaves the normalised rows
in the scratch and both outputs at their payloads of them. -/
theorem rows_first (hc : k1_cond1 i = 1#1) (hc' : ¬k1_cond2 i = 1#1)
    (x0 : Vec F S1024x2048 .f32) (x1 : Vec F S1x2048 .f32) (x2 : Vec F S2048x2048 .bf16) (x3 : Vec F S32x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare (k1_pay2 (blockRows x0 x1) x2) ∗ owns (c : Thread nD τ) arg9 fullShare (k1_pay1 x3 (blockRows x0 x1)) ∗ owns (c : Thread nD τ) arg10 fullShare (blockRows x0 x1)) -∗ K ⟨⟩))
          ⊢ wp frame (wpE (defs₀ (F := F)) Variants.none c none) E (cc1_inproj i arg2 harg2 arg3 harg3 arg4 harg4 arg5 harg5 arg6 harg6 arg7 harg7 arg8 harg8 arg9 harg9 arg10 harg10) K := by
    intro E K
    simp only [cc1_inproj_eq_skeleton]; unfold cc1_inproj_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc | sl_exact hc')
    sl_step
    iapply Hk
    have hr : ∀ f : arg10.view.ty.Contents (Elt F), View.read (Elt F) arg10.view (arg10.view.writes (Elt F) f (rows_first.sl.HS0_8 c arg2 harg2 arg3 harg3 x0 x1))
        = blockRows x0 x1 := by
      intro f
      funext y
      exact read_chunk dvd_1024 _ f x0 x1 7 rfl _ (inb_chunk 7 (by decide)) _ (chunk_payload arg2 harg2 arg3 harg3 x0 x1 7 rfl _ (inb_chunk 7 (by decide))) _
        (read_chunk dvd_1024 _ f x0 x1 6 rfl _ (inb_chunk 6 (by decide)) _ (chunk_payload arg2 harg2 arg3 harg3 x0 x1 6 rfl _ (inb_chunk 6 (by decide))) _
        (read_chunk dvd_1024 _ f x0 x1 5 rfl _ (inb_chunk 5 (by decide)) _ (chunk_payload arg2 harg2 arg3 harg3 x0 x1 5 rfl _ (inb_chunk 5 (by decide))) _
        (read_chunk dvd_1024 _ f x0 x1 4 rfl _ (inb_chunk 4 (by decide)) _ (chunk_payload arg2 harg2 arg3 harg3 x0 x1 4 rfl _ (inb_chunk 4 (by decide))) _
        (read_chunk dvd_1024 _ f x0 x1 3 rfl _ (inb_chunk 3 (by decide)) _ (chunk_payload arg2 harg2 arg3 harg3 x0 x1 3 rfl _ (inb_chunk 3 (by decide))) _
        (read_chunk dvd_1024 _ f x0 x1 2 rfl _ (inb_chunk 2 (by decide)) _ (chunk_payload arg2 harg2 arg3 harg3 x0 x1 2 rfl _ (inb_chunk 2 (by decide))) _
        (read_chunk dvd_1024 _ f x0 x1 1 rfl _ (inb_chunk 1 (by decide)) _ (chunk_payload arg2 harg2 arg3 harg3 x0 x1 1 rfl _ (inb_chunk 1 (by decide))) _
        (read_chunk dvd_1024 _ f x0 x1 0 rfl _ (inb_chunk 0 (by decide)) _ (chunk_payload arg2 harg2 arg3 harg3 x0 x1 0 rfl _ (inb_chunk 0 (by decide))) _
        (fun y hy => absurd hy (by simp))))))))) y (y 0).isLt
    have hv : rows_first.sl.v168 c arg2 harg2 arg3 harg3 arg10 x0 x1 = blockRows x0 x1 := by
      refine Eq.trans ?_ (hr arg10.view.junk)
      exact View.readAt_full _ _ _
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_full _ _ _ _ _).trans (congrArg₂ k1_pay2 hv ?_)
      refine (View.readAt_full _ _ _).trans ?_
      rw [harg4.read_unread]
    isplitl [H5]
    · iexists _; isplitr; swap; · iexact H5
      ipureintro
      refine (View.read_writes_full _ _ _ _ _).trans (congrArg₂ k1_pay1 ?_ hv)
      refine (View.readAt_full _ _ _).trans ?_
      rw [harg5.read_unread]
    iexists _; isplitr; swap; · iexact HS0
    ipureintro
    exact hr fs0

set_option maxHeartbeats 2000000 in
/-- A later column of the row block: the scratch already reads `h`; the body leaves it and the second output alone. -/
theorem rows_later (hc : ¬k1_cond1 i = 1#1) (hc' : k1_cond2 i = 1#1)
    (x0 : Vec F S1024x2048 .f32) (x1 : Vec F S1x2048 .f32) (x2 : Vec F S2048x2048 .bf16) (x3 : Vec F S32x2048 .bf16)
    (h : Vec F S1024x2048 .bf16) (x5 : Vec F S32x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ owns (c : Thread nD τ) arg9 fullShare x5 ∗ owns (c : Thread nD τ) arg10 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare (k1_pay3 h x2) ∗ owns (c : Thread nD τ) arg9 fullShare x5 ∗ owns (c : Thread nD τ) arg10 fullShare h) -∗ K ⟨⟩))
          ⊢ wp frame (wpE (defs₀ (F := F)) Variants.none c none) E (cc1_inproj i arg2 harg2 arg3 harg3 arg4 harg4 arg5 harg5 arg6 harg6 arg7 harg7 arg8 harg8 arg9 harg9 arg10 harg10) K := by
    intro E K
    simp only [cc1_inproj_eq_skeleton]; unfold cc1_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs, HS0⟩, Hk⟩
    obtain rfl := harg4.eq_unread hf2; obtain rfl := harg10.eq_unread hfs
    sl_exec (disch := first | sl_exact hc | sl_exact hc')
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; · ipureintro; exact harg4.read_unread _
      iexact H2
    isplitl [H3]
    · iexists _; isplitr; swap; · iexact H3
      ipureintro; exact hf3
    isplitl [H4]
    · iexists _; isplitr; swap; · iexact H4
      ipureintro
      rw [View.read_writes_full, View.readAt_full, View.readAt_full, harg4.read_unread, harg10.read_unread]
    isplitl [H5]
    · iexists _; isplitr; swap; · iexact H5
      ipureintro; exact hf5
    iexists _; isplitr; swap; · iexact HS0
    ipureintro; exact harg10.read_unread _

end Body

end Cert.KernelIdeal.Inproj

end
-- ==== Proof.HeadRun.lean ====
/- One grid point of the head kernel: what its body leaves in the staging buffers and in the scratch, at the first point
   (which normalises the rows) and at every later one (which reads them back). -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.NormRows
public import Idealize.ShloMosaic.Lib.Pipeline.FrameBody
public import Idealize.ShloMosaic.Lib.WordCmp
public import Idealize.ShloMosaic.Lib.Ring
public import Idealize.ShloMosaic.Lib.Tactic

@[expose] public section

set_option maxRecDepth 16384

noncomputable section

namespace Cert.KernelIdeal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem dvd_2048 : 128 ∣ 2048 := ⟨16, rfl⟩

/-- The 2048 rows of the head, normalised. -/
abbrev headRows (x : Vec F S2048x2048 .f32) (nw : Vec F S1x2048 .f32) : Vec F S2048x2048 .bf16 :=
  normRows (R := 2048) dvd_2048 x nw

section Body

variable (c : Dev nD) (i : grid0.Coords) (arg1 : Memref sig .tc .vmem S2048x2048 .f32) (harg1 : arg1.IsWhole)
  (arg2 : Memref sig .tc .vmem S1x2048 .f32) (harg2 : arg2.IsWhole) (arg3 : Memref sig .tc .vmem S512x2048 .f32)
  (harg3 : arg3.IsWhole) (arg4 : Memref sig .tc .vmem S32x2048 .f32) (harg4 : arg4.IsWhole)
  (arg5 : Memref sig .tc .vmem S2048x512 .bf16) (harg5 : arg5.IsWhole) (arg6 : Memref sig .tc .vmem S32x2048 .f32)
  (harg6 : arg6.IsWhole) (arg7 : Memref sig .tc .vmem S512x2048 .bf16) (harg7 : arg7.IsWhole)
  (arg8 : Memref sig .tc .vmem S32x2048 .bf16) (harg8 : arg8.IsWhole) (arg9 : Memref sig .tc .vmem S2048x2048 .bf16)
  (harg9 : arg9.IsWhole)

/-- One trip of the normalising loop stores one chunk. -/
theorem trip_pieces (hc : k0_cond1 i = 1#1) (X1 : BufTy.Contents (Elt F) arg1.view.ty)
    (X2 : BufTy.Contents (Elt F) arg2.view.ty) (k : Fin k0_t1_loop.trips) :
    tripL_k0_t1 (F := F) Variants.none c none i arg1 harg1 arg2 harg2 arg3 harg3 arg4 harg4 arg5 harg5 arg6 harg6 arg7 harg7 arg8 harg8 arg9 harg9 hc X1 X2 k
      = [⟨Rect.unit (s := S2048x2048) (k0_off1 k) S128x2048.size (k0_off1_inb i k hc),
          k0_pay1 (arg1.view.readAt (Elt F) (Rect.unit (s := S2048x2048) (k0_off1 k) S128x2048.size (k0_off1_inb i k hc)).toLoadRect X1)
            (arg2.view.readAt (Elt F) (Rect.unit (s := S1x2048) ![0, 0] S1x2048.size inb_S1x2048_S1x2048_0_0).toLoadRect X2)⟩] := by
  unfold tripL_k0_t1 trip_k0_t1
  rfl

/-- After `k` trips the rows before chunk `k` are normalised. -/
theorem read_trips (hc : k0_cond1 i = 1#1) (x0 : Vec F S2048x2048 .f32) (x1 : Vec F S1x2048 .f32)
    (f : arg9.view.ty.Contents (Elt F)) :
    ∀ k : ℕ, k ≤ 16 → ∀ y : S2048x2048.Idx, (y 0).val < 128 * k →
      arg9.view.read (Elt F) (arg9.view.writes (Elt F) f
        (pb_k0_t1 (F := F) Variants.none c none i arg1 harg1 arg2 harg2 arg3 harg3 arg4 harg4 arg5 harg5 arg6 harg6 arg7 harg7 arg8 harg8 arg9 harg9 hc (harg1.unread x0) (harg2.unread x1) k)) y
        = headRows x0 x1 y
  | 0, _, y, hy => absurd hy (by simp)
  | k + 1, hk, y, hy => by
    have ht : k0_t1_loop.trips = 16 := by decide +kernel
    have hk' : k < k0_t1_loop.trips := by omega
    rw [pb_k0_t1_succ Variants.none c none i arg1 harg1 arg2 harg2 arg3 harg3 arg4 harg4 arg5 harg5 arg6 harg6 arg7 harg7 arg8 harg8 arg9 harg9 hc _ _ ⟨k, hk'⟩,
      trip_pieces, List.singleton_append]
    have inb' : ∀ a : Fin 2, (![128 * k, 0] : Fin 2 → ℕ) a + S128x2048.size a ≤ (Rows 2048).size a :=
      Fin.forall_fin_two.mpr ⟨show 128 * k + 128 ≤ 2048 by omega, le_refl _⟩
    refine read_chunk dvd_2048 arg9.view f x0 x1 k (k0_off1_eq ⟨k, hk'⟩) _ inb' _ ?_ _
      (read_trips hc x0 x1 f k (by omega)) y hy
    rw [View.readAt_unit _ _ _ (k0_off1_eq ⟨k, hk'⟩) inb', View.readAt_full]
    rw [harg1.read_unread, harg2.read_unread]

/-- After the whole loop the scratch reads the normalised rows. -/
theorem read_loop (hc : k0_cond1 i = 1#1) (x0 : Vec F S2048x2048 .f32) (x1 : Vec F S1x2048 .f32)
    (f : arg9.view.ty.Contents (Elt F)) (n : ℕ) (hn : n = 16) :
    arg9.view.read (Elt F) (arg9.view.writes (Elt F) f
        (pb_k0_t1 (F := F) Variants.none c none i arg1 harg1 arg2 harg2 arg3 harg3 arg4 harg4 arg5 harg5 arg6 harg6 arg7 harg7 arg8 harg8 arg9 harg9 hc (harg1.unread x0) (harg2.unread x1) n))
      = headRows x0 x1 := by
  subst hn
  funext y
  exact read_trips c i arg1 harg1 arg2 harg2 arg3 harg3 arg4 harg4 arg5 harg5 arg6 harg6 arg7 harg7 arg8 harg8 arg9 harg9 hc x0 x1 f 16 (le_refl _) y (y 0).isLt

set_option maxHeartbeats 2000000 in
/-- The first point: from any contents of the outputs and the scratch, the body leaves the normalised rows in the scratch
and every output at its payload of them. -/
theorem head_first (hc : k0_cond1 i = 1#1)
    (x0 : Vec F S2048x2048 .f32) (x1 : Vec F S1x2048 .f32) (x2 : Vec F S512x2048 .f32) (x3 : Vec F S32x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay5 x2 (headRows x0 x1)) ∗ owns (c : Thread nD τ) arg6 fullShare (k0_pay3 x3 (headRows x0 x1)) ∗ owns (c : Thread nD τ) arg7 fullShare (k0_pay4 x2) ∗ owns (c : Thread nD τ) arg8 fullShare (k0_pay2 x3) ∗ owns (c : Thread nD τ) arg9 fullShare (headRows x0 x1)) -∗ K ⟨⟩))
          ⊢ wp frame (wpE (defs₀ (F := F)) Variants.none c none) E (cc0_inproj_head i arg1 harg1 arg2 harg2 arg3 harg3 arg4 harg4 arg5 harg5 arg6 harg6 arg7 harg7 arg8 harg8 arg9 harg9) K := by
    intro E K
    simp only [cc0_inproj_head_eq_skeleton]; unfold cc0_inproj_head_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    have hv : View.readAt (Elt F) arg9.view (Rect.unit (s := S2048x2048) ![0, 0] S2048x2048.size inb_S2048x2048_S2048x2048_0_0).toLoadRect
        (arg9.view.writes (Elt F) fs0 (pb_k0_t1 (F := F) Variants.none c none i arg1 harg1 arg2 harg2 arg3 harg3 arg4 harg4 arg5 harg5 arg6 harg6 arg7 harg7 arg8 harg8 arg9 harg9 hc (harg1.unread x0) (harg2.unread x1) (Scf.trips k0_t1_loop.lb k0_t1_loop.ub k0_t1_loop.st)))
        = headRows x0 x1 := by
      rw [View.readAt_full]
      exact read_loop c i arg1 harg1 arg2 harg2 arg3 harg3 arg4 harg4 arg5 harg5 arg6 harg6 arg7 harg7 arg8 harg8 arg9 harg9 hc x0 x1 fs0 _ (by decide +kernel)
    isplitl [H4]
    · iexists _; isplitr; swap; · iexact H4
      ipureintro
      rw [View.read_writes_full]
      refine congrArg₂ k0_pay5 ?_ hv
      rw [View.readAt_full, harg3.read_unread]
    isplitl [H5]
    · iexists _; isplitr; swap; · iexact H5
      ipureintro
      rw [View.read_writes_full]
      refine congrArg₂ k0_pay3 ?_ hv
      rw [View.readAt_full, harg4.read_unread]
    isplitl [H6]
    · iexists _; isplitr; swap; · iexact H6
      ipureintro
      rw [View.read_writes_full]
      refine congrArg k0_pay4 ?_
      rw [View.readAt_full, harg3.read_unread]
    isplitl [H7]
    · iexists _; isplitr; swap; · iexact H7
      ipureintro
      rw [View.read_writes_full]
      refine congrArg k0_pay2 ?_
      rw [View.readAt_full, harg4.read_unread]
    iexists _; isplitr; swap; · iexact HS0
    ipureintro
    exact read_loop c i arg1 harg1 arg2 harg2 arg3 harg3 arg4 harg4 arg5 harg5 arg6 harg6 arg7 harg7 arg8 harg8 arg9 harg9 hc x0 x1 fs0 _ (by decide +kernel)

set_option maxHeartbeats 2000000 in
/-- A later point: the scratch already reads `h`; the body leaves it, leaves the two outputs of the first point alone and
stores the other two. -/
theorem head_later (hc : ¬k0_cond1 i = 1#1)
    (x0 : Vec F S2048x2048 .f32) (x1 : Vec F S1x2048 .f32) (x2 : Vec F S512x2048 .f32) (x3 : Vec F S32x2048 .f32)
    (h : Vec F S2048x2048 .bf16) (x5 : Vec F S32x2048 .f32) (x7 : Vec F S32x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ (∃ d, owns (c : Thread nD τ) arg7 fullShare d) ∗ owns (c : Thread nD τ) arg8 fullShare x7 ∗ owns (c : Thread nD τ) arg9 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay5 x2 h) ∗ owns (c : Thread nD τ) arg6 fullShare x5 ∗ owns (c : Thread nD τ) arg7 fullShare (k0_pay4 x2) ∗ owns (c : Thread nD τ) arg8 fullShare x7 ∗ owns (c : Thread nD τ) arg9 fullShare h) -∗ K ⟨⟩))
          ⊢ wp frame (wpE (defs₀ (F := F)) Variants.none c none) E (cc0_inproj_head i arg1 harg1 arg2 harg2 arg3 harg3 arg4 harg4 arg5 harg5 arg6 harg6 arg7 harg7 arg8 harg8 arg9 harg9) K := by
    intro E K
    simp only [cc0_inproj_head_eq_skeleton]; unfold cc0_inproj_head_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%f7, %hf7, H7⟩, ⟨%fs0, %hfs, HS0⟩, Hk⟩
    obtain rfl := harg3.eq_unread hf2; obtain rfl := harg9.eq_unread hfs
    sl_exec (disch := first | sl_exact hc)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; · ipureintro; exact harg3.read_unread _
      iexact H2
    isplitl [H3]
    · iexists _; isplitr; swap; · iexact H3
      ipureintro; exact hf3
    isplitl [H4]
    · iexists _; isplitr; swap; · iexact H4
      ipureintro
      rw [View.read_writes_full, View.readAt_full, View.readAt_full, harg3.read_unread, harg9.read_unread]
    isplitl [H5]
    · iexists _; isplitr; swap; · iexact H5
      ipureintro; exact hf5
    isplitl [H6]
    · iexists _; isplitr; swap; · iexact H6
      ipureintro
      rw [View.read_writes_full, View.readAt_full, harg3.read_unread]
    isplitl [H7]
    · iexists _; isplitr; swap; · iexact H7
      ipureintro; exact hf7
    iexists _; isplitr; swap; · iexact HS0
    ipureintro; exact harg9.read_unread _

end Body

end Cert.KernelIdeal.Inproj

end
-- ==== Proof.HeadRegion.lean ====
/- The head kernel's region: what each staging buffer and the scratch hold point by point, from any contents of the arrays
   at entry, and the body's obligation at every point. -/
module

public import proofs.«01_k».proof.Proof.HeadRun
public import Idealize.ShloMosaic.Lib.Pipeline.RegionArrays
public import Idealize.ShloMosaic.Lib.Pipeline.TableIdle
public import Idealize.ShloMosaic.Lib.Claim

@[expose] public section

set_option maxRecDepth 16384

noncomputable section

namespace Cert.KernelIdeal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Where the buffer a point finds is, at idle points, what the point is to leave, leaving that is enough. -/
theorem leaves_of_after {Λ₁ : Labels} {cfg : Cfg sig Λ₁} {c : Dev nD} (dat : Dat τ (Elt F) Unit ℕ (UR sig nD τ) ℕ cfg c)
    (w : Fin cfg.W) (t : Fin cfg.N) (h : cfg.idle w (cfg.grid.coords t) = true → ∀ d, dat.before w t d = dat.after w t) :
    (owns (c : Thread nD τ) ((cfg.win w).stage (cfg.slots t w)) fullShare (dat.after w t) : sProp 𝕄) ⊢ dat.leavesExact w t := by
  cases hi : cfg.idle w (cfg.grid.coords t)
  · unfold Dat.leavesExact; rw [hi]
  · cases hf : (cfg.win w).flush t
    · rw [dat.leavesExact_idle w t hi hf]
      refine Entails.trans ?_ (exists_intro (dat.after w t))
      rw [h hi]
    · unfold Dat.leavesExact; rw [hi, hf]

variable (V : Dev nD → Valuation τ sig (Elt F))

/-- Window `w`'s block at point `t`, read off its array as the region finds it. -/
def headBlk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

theorem headBefore0_of {c : Dev nD} (dat : Dat τ (Elt F) Unit ℕ (UR sig nD τ) ℕ cfg0 c) (hA : dat.A 0 = V c (Proc.devRef .tc (Pipeline.arrRef spec0 0)))
    (hafter : ∀ t, dat.after 0 t = headBlk V c 0 t) (t : Fin cfg0.N) (d) : dat.before 0 t d = headBlk V c 0 t :=
  (dat.before_in_eq_fetched 0 rfl (fun _ => rfl) (fun _ _ _ => rfl) (fun t => by rw [hafter]; unfold Dat.blockOf headBlk; rw [hA]; try rfl) t d).trans
    (by unfold Dat.fetched Dat.blockOf headBlk; rw [hA]; try rfl)
theorem headBefore1_of {c : Dev nD} (dat : Dat τ (Elt F) Unit ℕ (UR sig nD τ) ℕ cfg0 c) (hA : dat.A 1 = V c (Proc.devRef .tc (Pipeline.arrRef spec0 1)))
    (hafter : ∀ t, dat.after 1 t = headBlk V c 1 t) (t : Fin cfg0.N) (d) : dat.before 1 t d = headBlk V c 1 t :=
  (dat.before_in_eq_fetched 1 rfl (fun _ => rfl) (fun _ _ _ => rfl) (fun t => by rw [hafter]; unfold Dat.blockOf headBlk; rw [hA]; try rfl) t d).trans
    (by unfold Dat.fetched Dat.blockOf headBlk; rw [hA]; try rfl)
theorem headBefore2_of {c : Dev nD} (dat : Dat τ (Elt F) Unit ℕ (UR sig nD τ) ℕ cfg0 c) (hA : dat.A 2 = V c (Proc.devRef .tc (Pipeline.arrRef spec0 2)))
    (hafter : ∀ t, dat.after 2 t = headBlk V c 2 t) (t : Fin cfg0.N) (d) : dat.before 2 t d = headBlk V c 2 t :=
  (dat.before_in_eq_fetched 2 rfl (fun _ => rfl) (fun _ _ _ => rfl) (fun t => by rw [hafter]; unfold Dat.blockOf headBlk; rw [hA]; try rfl) t d).trans
    (by unfold Dat.fetched Dat.blockOf headBlk; rw [hA]; try rfl)
theorem headBefore3_of {c : Dev nD} (dat : Dat τ (Elt F) Unit ℕ (UR sig nD τ) ℕ cfg0 c) (hA : dat.A 3 = V c (Proc.devRef .tc (Pipeline.arrRef spec0 3)))
    (hafter : ∀ t, dat.after 3 t = headBlk V c 3 t) (t : Fin cfg0.N) (d) : dat.before 3 t d = headBlk V c 3 t :=
  (dat.before_in_eq_fetched 3 rfl (fun _ => rfl) (fun _ _ _ => rfl) (fun t => by rw [hafter]; unfold Dat.blockOf headBlk; rw [hA]; try rfl) t d).trans
    (by unfold Dat.fetched Dat.blockOf headBlk; rw [hA]; try rfl)

/-- The first point. -/
def headStart : Fin cfg0.N := ⟨0, by show 0 < grid0.N; rw [N_0]; decide⟩

/-- The normalised rows the scratch carries. -/
def headNormed (c : Dev nD) : Vec F S2048x2048 .bf16 := headRows (headBlk V c 0 headStart) (headBlk V c 1 headStart)

/-- The kernel's own scratch buffer. -/
abbrev headScratch : Memref sig .tc .vmem S2048x2048 .bf16 := Memref.whole cc0_scratch0

/-- The other region's scoped buffers, each at some contents. -/
def headRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

theorem headScoped (c : Dev nD) :
    (Pipeline.scopedRest spec0 c : sProp 𝕄) = iprop((∃ d, owns (c : Thread nD τ) headScratch fullShare d) ∗ headRest (F := F) c) := by
  rw [scopedRest0_eq]; unfold headRest; simp only [headScratch, owns_whole]; try rfl

/-- The invariant before point `n`: the scratch at anything before the first, at the normalised rows afterwards. -/
def headPhi (c : Dev nD) : ℕ → sProp 𝕄
  | 0 => iprop((∃ d, owns (c : Thread nD τ) headScratch fullShare d) ∗ headRest (F := F) c ∗ ∃ r, prngReg c r)
  | _ + 1 => iprop(owns (c : Thread nD τ) headScratch fullShare (headNormed V c) ∗ headRest (F := F) c ∗ ∃ r, prngReg c r)

/-- The region's proof data. -/
def headDat (c : Dev nD) : Dat τ (Elt F) Unit ℕ (UR sig nD τ) ℕ cfg0 c where
  A w := V c (Proc.devRef .tc (Pipeline.arrRef spec0 w))
  after w t := match w with
    | ⟨0, _⟩ => headBlk V c 0 t
    | ⟨1, _⟩ => headBlk V c 1 t
    | ⟨2, _⟩ => headBlk V c 2 t
    | ⟨3, _⟩ => headBlk V c 3 t
    | ⟨4, _⟩ => k0_pay5 (headBlk V c 2 t) (headNormed V c)
    | ⟨5, _⟩ => k0_pay3 (headBlk V c 3 headStart) (headNormed V c)
    | ⟨6, _⟩ => k0_pay4 (headBlk V c 2 t)
    | ⟨7, _⟩ => k0_pay2 (headBlk V c 3 headStart)
  Φ t := headPhi V c t.val
  q w := Pipeline.shareOf spec0 w
  owed _ := 0

theorem headDat_A (c : Dev nD) (w : Fin cfg0.W) : (headDat V c).A w = V c (Proc.devRef .tc (Pipeline.arrRef spec0 w)) := by
  dsimp only [headDat]

theorem headAfter0 (c : Dev nD) (t : Fin cfg0.N) : (headDat V c).after 0 t = headBlk V c 0 t := by dsimp only [headDat]
theorem headAfter1 (c : Dev nD) (t : Fin cfg0.N) : (headDat V c).after 1 t = headBlk V c 1 t := by dsimp only [headDat]
theorem headAfter2 (c : Dev nD) (t : Fin cfg0.N) : (headDat V c).after 2 t = headBlk V c 2 t := by dsimp only [headDat]
theorem headAfter3 (c : Dev nD) (t : Fin cfg0.N) : (headDat V c).after 3 t = headBlk V c 3 t := by dsimp only [headDat]
theorem headAfter4 (c : Dev nD) (t : Fin cfg0.N) : (headDat V c).after 4 t = k0_pay5 (headBlk V c 2 t) (headNormed V c) := by dsimp only [headDat]
theorem headAfter5 (c : Dev nD) (t : Fin cfg0.N) : (headDat V c).after 5 t = k0_pay3 (headBlk V c 3 headStart) (headNormed V c) := by dsimp only [headDat]
theorem headAfter6 (c : Dev nD) (t : Fin cfg0.N) : (headDat V c).after 6 t = k0_pay4 (headBlk V c 2 t) := by dsimp only [headDat]
theorem headAfter7 (c : Dev nD) (t : Fin cfg0.N) : (headDat V c).after 7 t = k0_pay2 (headBlk V c 3 headStart) := by dsimp only [headDat]

theorem headBefore0 (c : Dev nD) (t : Fin cfg0.N) (d) : (headDat V c).before 0 t d = headBlk V c 0 t :=
  headBefore0_of V (headDat V c) (headDat_A V c 0) (headAfter0 V c) t d
theorem headBefore1 (c : Dev nD) (t : Fin cfg0.N) (d) : (headDat V c).before 1 t d = headBlk V c 1 t :=
  headBefore1_of V (headDat V c) (headDat_A V c 1) (headAfter1 V c) t d
theorem headBefore2 (c : Dev nD) (t : Fin cfg0.N) (d) : (headDat V c).before 2 t d = headBlk V c 2 t :=
  headBefore2_of V (headDat V c) (headDat_A V c 2) (headAfter2 V c) t d
theorem headBefore3 (c : Dev nD) (t : Fin cfg0.N) (d) : (headDat V c).before 3 t d = headBlk V c 3 t :=
  headBefore3_of V (headDat V c) (headDat_A V c 3) (headAfter3 V c) t d

/-- The body's condition holds at the first point only. -/
theorem headCond : ∀ t : Fin cfg0.N, k0_cond1 (grid0.coords t) = 1#1 ↔ t.val = 0 :=
  (fun t => by
    have ht : t.val < 32 := Nat.lt_of_lt_of_eq t.isLt N_0
    have e0 : (grid0.coords t 0).val = t.val / 1 % 32 := Pipeline.Grid.coords_val t 0 (by decide) rfl
    have e : k0_cond1 (grid0.coords t) = 1#1 ↔ t.val % 32 = 0 := by
      simp only [k0_cond1, e0]
      word_cmp
    rw [e, Nat.mod_eq_of_lt ht]
   : ∀ t : Fin grid0.N, k0_cond1 (grid0.coords t) = 1#1 ↔ t.val = 0)

theorem headFresh5 (n : ℕ) (hn : n ≤ cfg0.N) : cfg0.fresh 5 n = (n == 0 || n == 32) :=
  cfg0.fresh_tab 5 (fun n => n == 0 || n == 32) rfl
    (by decide +kernel : ∀ t : Fin grid0.N, (t.val + 1 == 0 || t.val + 1 == 32) = (win0_5.flush t || (idle0 5 (grid0.coords t) && (t.val == 0 || t.val == 32)))) n hn
theorem headFresh7 (n : ℕ) (hn : n ≤ cfg0.N) : cfg0.fresh 7 n = (n == 0 || n == 32) :=
  cfg0.fresh_tab 7 (fun n => n == 0 || n == 32) rfl
    (by decide +kernel : ∀ t : Fin grid0.N, (t.val + 1 == 0 || t.val + 1 == 32) = (win0_7.flush t || (idle0 7 (grid0.coords t) && (t.val == 0 || t.val == 32)))) n hn

/-- After the first point the buffer of window 5 holds what that point stored. -/
theorem headBefore5 (c : Dev nD) (t : Fin cfg0.N) (ht : t.val ≠ 0) (d) : (headDat V c).before 5 t d = (headDat V c).after 5 t := by
  rw [(headDat V c).before_out_traj 5 rfl (fun _ _ => rfl) (fun t _ _ _ => by rw [headAfter5, headAfter5]) t.val t rfl d,
    headFresh5 _ t.isLt.le, if_neg, headAfter5, headAfter5]
  have hN : t.val < 32 := lt_of_lt_of_eq t.isLt (show cfg0.N = 32 from N_0)
  simp only [Bool.or_eq_true, beq_iff_eq]; omega

/-- After the first point the buffer of window 7 holds what that point stored. -/
theorem headBefore7 (c : Dev nD) (t : Fin cfg0.N) (ht : t.val ≠ 0) (d) : (headDat V c).before 7 t d = (headDat V c).after 7 t := by
  rw [(headDat V c).before_out_traj 7 rfl (fun _ _ => rfl) (fun t _ _ _ => by rw [headAfter7, headAfter7]) t.val t rfl d,
    headFresh7 _ t.isLt.le, if_neg, headAfter7, headAfter7]
  have hN : t.val < 32 := lt_of_lt_of_eq t.isLt (show cfg0.N = 32 from N_0)
  simp only [Bool.or_eq_true, beq_iff_eq]; omega

abbrev headStage0 (t : Fin cfg0.N) : Memref sig .tc .vmem S2048x2048 .f32 := win0_0.stage (cfg0.slots t 0)
abbrev headStage1 (t : Fin cfg0.N) : Memref sig .tc .vmem S1x2048 .f32 := win0_1.stage (cfg0.slots t 1)
abbrev headStage2 (t : Fin cfg0.N) : Memref sig .tc .vmem S512x2048 .f32 := win0_2.stage (cfg0.slots t 2)
abbrev headStage3 (t : Fin cfg0.N) : Memref sig .tc .vmem S32x2048 .f32 := win0_3.stage (cfg0.slots t 3)
abbrev headStage4 (t : Fin cfg0.N) : Memref sig .tc .vmem S2048x512 .bf16 := win0_4.stage (cfg0.slots t 4)
abbrev headStage5 (t : Fin cfg0.N) : Memref sig .tc .vmem S32x2048 .f32 := win0_5.stage (cfg0.slots t 5)
abbrev headStage6 (t : Fin cfg0.N) : Memref sig .tc .vmem S512x2048 .bf16 := win0_6.stage (cfg0.slots t 6)
abbrev headStage7 (t : Fin cfg0.N) : Memref sig .tc .vmem S32x2048 .bf16 := win0_7.stage (cfg0.slots t 7)

/-- What the body is called with at point `t`, the windows one by one, -/
def headPre (c : Dev nD) (t : Fin cfg0.N) : sProp 𝕄 :=
  iprop((headDat V c).Φ t.castSucc ∗ (headDat V c).owesAt () t.castSucc
    ∗ (∃ d, owns (c : Thread nD τ) (headStage0 t) fullShare ((headDat V c).before 0 t d))
    ∗ (∃ d, owns (c : Thread nD τ) (headStage1 t) fullShare ((headDat V c).before 1 t d))
    ∗ (∃ d, owns (c : Thread nD τ) (headStage2 t) fullShare ((headDat V c).before 2 t d))
    ∗ (∃ d, owns (c : Thread nD τ) (headStage3 t) fullShare ((headDat V c).before 3 t d))
    ∗ (∃ d, owns (c : Thread nD τ) (headStage4 t) fullShare ((headDat V c).before 4 t d))
    ∗ (∃ d, owns (c : Thread nD τ) (headStage5 t) fullShare ((headDat V c).before 5 t d))
    ∗ (∃ d, owns (c : Thread nD τ) (headStage6 t) fullShare ((headDat V c).before 6 t d))
    ∗ (∃ d, owns (c : Thread nD τ) (headStage7 t) fullShare ((headDat V c).before 7 t d)))

/-- and what it returns. -/
def headPost (c : Dev nD) (t : Fin cfg0.N) : sProp 𝕄 :=
  iprop((headDat V c).Φ t.succ ∗ (headDat V c).owesAt () t.succ
    ∗ (headDat V c).leavesExact 0 t
    ∗ (headDat V c).leavesExact 1 t
    ∗ (headDat V c).leavesExact 2 t
    ∗ (headDat V c).leavesExact 3 t
    ∗ (headDat V c).leavesExact 4 t
    ∗ (headDat V c).leavesExact 5 t
    ∗ (headDat V c).leavesExact 6 t
    ∗ (headDat V c).leavesExact 7 t)

theorem headLive (c : Dev nD) (t : Fin cfg0.N) (w : Fin cfg0.W) (h : cfg0.idle w (grid0.coords t) = false) :
    (headDat V c).leavesExact w t = owns (c : Thread nD τ) ((cfg0.win w).stage (cfg0.slots t w)) fullShare ((headDat V c).after w t) := by
  unfold Dat.leavesExact; rw [h]

theorem headPhi_castSucc (c : Dev nD) (t : Fin cfg0.N) : (headDat V c).Φ t.castSucc = headPhi V c t.val := by
  dsimp only [headDat]; rfl
theorem headPhi_succ (c : Dev nD) (t : Fin cfg0.N) : (headDat V c).Φ t.succ = headPhi V c (t.val + 1) := by
  dsimp only [headDat]; rfl

set_option maxHeartbeats 1600000 in
/-- The body at any point. -/
theorem head_body (c : Dev nD) (t : Fin cfg0.N) :
    headPre V c t ⊢ wp frame (wpE (defs₀ (F := F)) Variants.none c none) Set.univ (bodyAt0 t) (fun _ => headPost V c t) := by
  unfold headPre headPost bodyAt0
  simp only [headBefore0, headBefore1, headBefore2, headBefore3]
  rw [show (headDat V c).owesAt () t.succ = (headDat V c).owesAt () t.castSucc from rfl, headPhi_castSucc, headPhi_succ]
  rw [headLive V c t 0 rfl, headLive V c t 1 rfl, headLive V c t 2 rfl, headLive V c t 3 rfl, headLive V c t 4 rfl, headLive V c t 6 rfl,
    headAfter0, headAfter1, headAfter2, headAfter3, headAfter4, headAfter6]
  by_cases h0 : t.val = 0
  · obtain rfl : t = headStart := Fin.ext h0
    have hc : k0_cond1 (grid0.coords headStart) = 1#1 := (headCond headStart).mpr rfl
    have hi5 : cfg0.idle 5 (grid0.coords headStart) = false := by
      show (!(k0_cond1 (grid0.coords headStart) == 1#1)) = false
      rw [hc]; rfl
    have hi7 : cfg0.idle 7 (grid0.coords headStart) = false := hi5
    rw [headLive V c headStart 5 hi5, headLive V c headStart 7 hi7, headAfter5, headAfter7,
      show headPhi V c (headStart.val) = headPhi V c 0 from rfl]
    unfold headPhi headNormed
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((head_first c (grid0.coords headStart) _ _ _ _ _ _ _ _ _ _ _ _ _ _ _ _ _ _ hc (headBlk V c 0 headStart) (headBlk V c 1 headStart) (headBlk V c 2 headStart) (headBlk V c 3 headStart)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]
      · iexact HS
      isplitl [HR]
      · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc : ¬k0_cond1 (grid0.coords t) = 1#1 := fun h => h0 ((headCond t).mp h)
    simp only [headBefore5 V c t h0, headBefore7 V c t h0]
    obtain ⟨n, hn⟩ := Nat.exists_eq_succ_of_ne_zero h0
    rw [hn]
    unfold headPhi
    rw [headAfter5, headAfter7]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((head_later c (grid0.coords t) _ _ _ _ _ _ _ _ _ _ _ _ _ _ _ _ _ _ hc (headBlk V c 0 t) (headBlk V c 1 t) (headBlk V c 2 t) (headBlk V c 3 t) (headNormed V c) _ _) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [H7]; · iexact H7
    isplitl [HS]; · iexact HS
    iintro ⟨H0, H1, H2, H3, H4, H5, H6, H7, HS⟩
    isplitl [HS HR Hg]
    · isplitl [HS]
      · iexact HS
      isplitl [HR]
      · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_of_after (headDat V c) 5 t (fun _ => headBefore5 V c t h0)); rw [headAfter5]; iexact H5
    isplitl [H6]; · iexact H6
    iapply (leaves_of_after (headDat V c) 7 t (fun _ => headBefore7 V c t h0)); rw [headAfter7]; iexact H7

theorem head_row (t : Fin cfg0.N) :
    defs₀ (F := F) .tc cfg0.body (cfg0.bodyArgs t (cfg0.slots t)) = bodyAt0 t := by
  unfold defs₀; rw [Defs.onTc_tc]

/-- The body's obligation at every point. -/
theorem head_obligation (c : Dev nD) : BodyObligation (headDat V c) (defs₀ (F := F)) Variants.none () Set.univ := fun t => by
  rw [bigSep_W0, bigSep_W0, head_row]
  exact triple_restated (head_body V c t) rfl .rfl fun _ => .rfl

/-- The scoped buffers no window stages, and the generator, make the invariant before the first point, -/
theorem head_in (c : Dev nD) : iprop(Pipeline.scopedRest spec0 c ∗ ∃ r, prngReg c r) ⊢ (headDat V c).Φ 0 := by
  rw [headScoped, show (headDat V c).Φ 0 = headPhi V c 0 from rfl]; unfold headPhi
  exact Laws.sep_assoc.1

/-- and the invariant after the last gives them back. -/
theorem head_out (c : Dev nD) : (headDat V c).Φ (Fin.last cfg0.N) ⊢ iprop(Pipeline.scopedRest spec0 c ∗ ∃ r, prngReg c r) := by
  rw [headScoped, show (headDat V c).Φ (Fin.last cfg0.N) = headPhi V c (31 + 1) from by dsimp only [headDat]; exact congrArg (headPhi V c) N_0]; unfold headPhi
  iintro ⟨HS, HR, Hg⟩
  isplitl [HS HR]
  · isplitl [HS]
    · iexists _; iexact HS
    iexact HR
  iexact Hg

end Cert.KernelIdeal.Inproj

end
-- ==== Proof.RowsRegion.lean ====
/- The row kernel's region: what each staging buffer and the scratch hold point by point, from any contents of the arrays
   at entry, and the body's obligation at every point. -/
module

public import proofs.«01_k».proof.Proof.RowsRun
public import proofs.«01_k».proof.Proof.HeadRegion

@[expose] public section

set_option maxRecDepth 16384

noncomputable section

namespace Cert.KernelIdeal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def rowsBlk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem rowsBefore0_of {c : Dev nD} (dat : Dat τ (Elt F) Unit ℕ (UR sig nD τ) ℕ cfg1 c) (hA : dat.A 0 = V c (Proc.devRef .tc (Pipeline.arrRef spec1 0)))
    (hafter : ∀ t, dat.after 0 t = rowsBlk V c 0 t) (t : Fin cfg1.N) (d) : dat.before 0 t d = rowsBlk V c 0 t :=
  (dat.before_in_eq_fetched 0 rfl (fun _ => rfl) (fun _ _ _ => rfl) (fun t => by rw [hafter]; unfold Dat.blockOf rowsBlk; rw [hA]; try rfl) t d).trans
    (by unfold Dat.fetched Dat.blockOf rowsBlk; rw [hA]; try rfl)
theorem rowsBefore1_of {c : Dev nD} (dat : Dat τ (Elt F) Unit ℕ (UR sig nD τ) ℕ cfg1 c) (hA : dat.A 1 = V c (Proc.devRef .tc (Pipeline.arrRef spec1 1)))
    (hafter : ∀ t, dat.after 1 t = rowsBlk V c 1 t) (t : Fin cfg1.N) (d) : dat.before 1 t d = rowsBlk V c 1 t :=
  (dat.before_in_eq_fetched 1 rfl (fun _ => rfl) (fun _ _ _ => rfl) (fun t => by rw [hafter]; unfold Dat.blockOf rowsBlk; rw [hA]; try rfl) t d).trans
    (by unfold Dat.fetched Dat.blockOf rowsBlk; rw [hA]; try rfl)
theorem rowsBefore2_of {c : Dev nD} (dat : Dat τ (Elt F) Unit ℕ (UR sig nD τ) ℕ cfg1 c) (hA : dat.A 2 = V c (Proc.devRef .tc (Pipeline.arrRef spec1 2)))
    (hafter : ∀ t, dat.after 2 t = rowsBlk V c 2 t) (t : Fin cfg1.N) (d) : dat.before 2 t d = rowsBlk V c 2 t :=
  (dat.before_in_eq_fetched 2 rfl (fun _ => rfl) (fun _ _ _ => rfl) (fun t => by rw [hafter]; unfold Dat.blockOf rowsBlk; rw [hA]; try rfl) t d).trans
    (by unfold Dat.fetched Dat.blockOf rowsBlk; rw [hA]; try rfl)
theorem rowsBefore3_of {c : Dev nD} (dat : Dat τ (Elt F) Unit ℕ (UR sig nD τ) ℕ cfg1 c) (hA : dat.A 3 = V c (Proc.devRef .tc (Pipeline.arrRef spec1 3)))
    (hafter : ∀ t, dat.after 3 t = rowsBlk V c 3 t) (t : Fin cfg1.N) (d) : dat.before 3 t d = rowsBlk V c 3 t :=
  (dat.before_in_eq_fetched 3 rfl (fun _ => rfl) (fun _ _ _ => rfl) (fun t => by rw [hafter]; unfold Dat.blockOf rowsBlk; rw [hA]; try rfl) t d).trans
    (by unfold Dat.fetched Dat.blockOf rowsBlk; rw [hA]; try rfl)

/-- The first point of the row block that point `n` belongs to. -/
def rowsStart (n : ℕ) : Fin cfg1.N := ⟨(n - n % 8) % 112, by show _ < grid1.N; rw [N_1]; exact Nat.mod_lt _ (by decide)⟩

theorem rowsStart_self (t : Fin cfg1.N) (h : t.val % 8 = 0) : rowsStart t.val = t := by
  have hN : t.val < 112 := lt_of_lt_of_eq t.isLt (show cfg1.N = 112 from N_1)
  exact Fin.ext (by show (t.val - t.val % 8) % 112 = t.val; omega)

theorem rowsStart_pred (n : ℕ) (h : (n + 1) % 8 ≠ 0) : rowsStart (n + 1) = rowsStart n :=
  Fin.ext (by show (n + 1 - (n + 1) % 8) % 112 = (n - n % 8) % 112; congr 1; omega)

/-- The normalised rows the scratch carries through the row block of point `n`. -/
def rowsNormed (c : Dev nD) (n : ℕ) : Vec F S1024x2048 .bf16 := blockRows (rowsBlk V c 0 (rowsStart n)) (rowsBlk V c 1 (rowsStart n))

/-- The kernel's own scratch buffer. -/
abbrev rowsScratch : Memref sig .tc .vmem S1024x2048 .bf16 := Memref.whole cc1_scratch0

/-- The other region's scoped buffers, each at some contents. -/
def rowsRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f))

theorem last_first (A0 A1 A2 A3 A4 A5 A6 A7 A8 A9 A10 A11 S : sProp 𝕄) : iprop(A0 ∗ A1 ∗ A2 ∗ A3 ∗ A4 ∗ A5 ∗ A6 ∗ A7 ∗ A8 ∗ A9 ∗ A10 ∗ A11 ∗ S) = iprop(S ∗ A0 ∗ A1 ∗ A2 ∗ A3 ∗ A4 ∗ A5 ∗ A6 ∗ A7 ∗ A8 ∗ A9 ∗ A10 ∗ A11) := by
  have h1 : iprop(A0 ∗ A1 ∗ A2 ∗ A3 ∗ A4 ∗ A5 ∗ A6 ∗ A7 ∗ A8 ∗ A9 ∗ A10 ∗ A11 ∗ S) ⊢ iprop(S ∗ A0 ∗ A1 ∗ A2 ∗ A3 ∗ A4 ∗ A5 ∗ A6 ∗ A7 ∗ A8 ∗ A9 ∗ A10 ∗ A11) := by
    iintro ⟨H0, H1, H2, H3, H4, H5, H6, H7, H8, H9, H10, H11, HS⟩
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  have h2 : iprop(S ∗ A0 ∗ A1 ∗ A2 ∗ A3 ∗ A4 ∗ A5 ∗ A6 ∗ A7 ∗ A8 ∗ A9 ∗ A10 ∗ A11) ⊢ iprop(A0 ∗ A1 ∗ A2 ∗ A3 ∗ A4 ∗ A5 ∗ A6 ∗ A7 ∗ A8 ∗ A9 ∗ A10 ∗ A11 ∗ S) := by
    iintro ⟨HS, H0, H1, H2, H3, H4, H5, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  exact BI.Entails.antisymm h1 h2

theorem rowsScoped (c : Dev nD) :
    (Pipeline.scopedRest spec1 c : sProp 𝕄) = iprop((∃ d, owns (c : Thread nD τ) rowsScratch fullShare d) ∗ rowsRest (F := F) c) := by
  rw [scopedRest1_eq]; unfold rowsRest; simp only [rowsScratch, owns_whole]
  exact last_first _ _ _ _ _ _ _ _ _ _ _ _ _

/-- The invariant before point `n`: the scratch at anything where a row block begins, at its normalised rows inside it. -/
def rowsPhi (c : Dev nD) (n : ℕ) : sProp 𝕄 :=
  if n % 8 = 0 then iprop((∃ d, owns (c : Thread nD τ) rowsScratch fullShare d) ∗ rowsRest (F := F) c ∗ ∃ r, prngReg c r)
  else iprop(owns (c : Thread nD τ) rowsScratch fullShare (rowsNormed V c n) ∗ rowsRest (F := F) c ∗ ∃ r, prngReg c r)

theorem rowsPhi_begin (c : Dev nD) (n : ℕ) (h : n % 8 = 0) :
    rowsPhi V c n = iprop((∃ d, owns (c : Thread nD τ) rowsScratch fullShare d) ∗ rowsRest (F := F) c ∗ ∃ r, prngReg c r) := if_pos h
theorem rowsPhi_inside (c : Dev nD) (n : ℕ) (h : n % 8 ≠ 0) :
    rowsPhi V c n = iprop(owns (c : Thread nD τ) rowsScratch fullShare (rowsNormed V c n) ∗ rowsRest (F := F) c ∗ ∃ r, prngReg c r) := if_neg h

/-- The scratch at the row block's normalised rows is enough for the next point. -/
theorem rowsPhi_next (c : Dev nD) (n : ℕ) :
    iprop(owns (c : Thread nD τ) rowsScratch fullShare (rowsNormed V c n) ∗ rowsRest (F := F) c ∗ ∃ r, prngReg c r) ⊢ rowsPhi V c (n + 1) := by
  by_cases h : (n + 1) % 8 = 0
  · rw [rowsPhi_begin V c _ h]
    iintro ⟨HS, HR⟩
    isplitl [HS]
    · iexists _; iexact HS
    iexact HR
  · rw [rowsPhi_inside V c _ h]; unfold rowsNormed; rw [rowsStart_pred n h]

/-- The region's proof data. -/
def rowsDat (c : Dev nD) : Dat τ (Elt F) Unit ℕ (UR sig nD τ) ℕ cfg1 c where
  A w := V c (Proc.devRef .tc (Pipeline.arrRef spec1 w))
  after w t := match w with
    | ⟨0, _⟩ => rowsBlk V c 0 t
    | ⟨1, _⟩ => rowsBlk V c 1 t
    | ⟨2, _⟩ => rowsBlk V c 2 t
    | ⟨3, _⟩ => rowsBlk V c 3 t
    | ⟨4, _⟩ => k1_pay2 (rowsNormed V c t.val) (rowsBlk V c 2 t)
    | ⟨5, _⟩ => k1_pay1 (rowsBlk V c 3 (rowsStart t.val)) (rowsNormed V c t.val)
  Φ t := rowsPhi V c t.val
  q w := Pipeline.shareOf spec1 w
  owed _ := 0

theorem rowsDat_A (c : Dev nD) (w : Fin cfg1.W) : (rowsDat V c).A w = V c (Proc.devRef .tc (Pipeline.arrRef spec1 w)) := by
  dsimp only [rowsDat]

theorem rowsAfter0 (c : Dev nD) (t : Fin cfg1.N) : (rowsDat V c).after 0 t = rowsBlk V c 0 t := by dsimp only [rowsDat]
theorem rowsAfter1 (c : Dev nD) (t : Fin cfg1.N) : (rowsDat V c).after 1 t = rowsBlk V c 1 t := by dsimp only [rowsDat]
theorem rowsAfter2 (c : Dev nD) (t : Fin cfg1.N) : (rowsDat V c).after 2 t = rowsBlk V c 2 t := by dsimp only [rowsDat]
theorem rowsAfter3 (c : Dev nD) (t : Fin cfg1.N) : (rowsDat V c).after 3 t = rowsBlk V c 3 t := by dsimp only [rowsDat]
theorem rowsAfter4 (c : Dev nD) (t : Fin cfg1.N) : (rowsDat V c).after 4 t = k1_pay2 (rowsNormed V c t.val) (rowsBlk V c 2 t) := by dsimp only [rowsDat]
theorem rowsAfter5 (c : Dev nD) (t : Fin cfg1.N) : (rowsDat V c).after 5 t = k1_pay1 (rowsBlk V c 3 (rowsStart t.val)) (rowsNormed V c t.val) := by dsimp only [rowsDat]

theorem rowsBefore0 (c : Dev nD) (t : Fin cfg1.N) (d) : (rowsDat V c).before 0 t d = rowsBlk V c 0 t :=
  rowsBefore0_of V (rowsDat V c) (rowsDat_A V c 0) (rowsAfter0 V c) t d
theorem rowsBefore1 (c : Dev nD) (t : Fin cfg1.N) (d) : (rowsDat V c).before 1 t d = rowsBlk V c 1 t :=
  rowsBefore1_of V (rowsDat V c) (rowsDat_A V c 1) (rowsAfter1 V c) t d
theorem rowsBefore2 (c : Dev nD) (t : Fin cfg1.N) (d) : (rowsDat V c).before 2 t d = rowsBlk V c 2 t :=
  rowsBefore2_of V (rowsDat V c) (rowsDat_A V c 2) (rowsAfter2 V c) t d
theorem rowsBefore3 (c : Dev nD) (t : Fin cfg1.N) (d) : (rowsDat V c).before 3 t d = rowsBlk V c 3 t :=
  rowsBefore3_of V (rowsDat V c) (rowsDat_A V c 3) (rowsAfter3 V c) t d

/-- The body's first condition holds where a row block begins, -/
theorem rowsCond1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- its second everywhere else. -/
theorem rowsCond2 : ∀ t : Fin cfg1.N, k1_cond2 (grid1.coords t) = 1#1 ↔ t.val % 8 ≠ 0 :=
  (by decide +kernel : ∀ t : Fin grid1.N, k1_cond2 (grid1.coords t) = 1#1 ↔ t.val % 8 ≠ 0)

theorem rowsFresh5 (n : ℕ) (hn : n ≤ cfg1.N) : cfg1.fresh 5 n = (n % 8 == 0) :=
  cfg1.fresh_tab 5 (fun n => n % 8 == 0) rfl
    (by decide +kernel : ∀ t : Fin grid1.N, ((t.val + 1) % 8 == 0) = (win1_5.flush t || (idle1 5 (grid1.coords t) && (t.val % 8 == 0)))) n hn

/-- Inside a row block the buffer of window 5 holds what its first point stored. -/
theorem rowsBefore5 (c : Dev nD) (t : Fin cfg1.N) (ht : t.val % 8 ≠ 0) (d) : (rowsDat V c).before 5 t d = (rowsDat V c).after 5 t := by
  have hs : ∀ t : Fin cfg1.N, t.val % 8 ≠ 0 → ∀ h, (rowsDat V c).after 5 t = (rowsDat V c).after 5 ⟨t.val - 1, h⟩ := fun t ht h => by
    obtain ⟨n, hn⟩ := Nat.exists_eq_succ_of_ne_zero (show t.val ≠ 0 by omega)
    rw [rowsAfter5, rowsAfter5]; unfold rowsNormed
    have e : rowsStart t.val = rowsStart (t.val - 1) := by rw [hn]; exact rowsStart_pred n (by omega)
    exact congrArg (fun s => k1_pay1 (rowsBlk V c 3 s) (blockRows (rowsBlk V c 0 s) (rowsBlk V c 1 s))) e
  rw [(rowsDat V c).before_out_traj 5 rfl (fun _ _ => rfl) (fun t _ hi _ => hs t (fun h0 => by
      have hi' : (!(k1_cond1 (grid1.coords t) == 1#1)) = true := hi
      rw [(rowsCond1 t).mpr h0] at hi'; exact absurd hi' (by decide)) _) t.val t rfl d,
    rowsFresh5 _ t.isLt.le, if_neg (by simp only [beq_iff_eq]; exact ht)]
  exact (hs t ht _).symm

abbrev rowsStage0 (t : Fin cfg1.N) : Memref sig .tc .vmem S1024x2048 .f32 := win1_0.stage (cfg1.slots t 0)
abbrev rowsStage1 (t : Fin cfg1.N) : Memref sig .tc .vmem S1x2048 .f32 := win1_1.stage (cfg1.slots t 1)
abbrev rowsStage2 (t : Fin cfg1.N) : Memref sig .tc .vmem S2048x2048 .bf16 := win1_2.stage (cfg1.slots t 2)
abbrev rowsStage3 (t : Fin cfg1.N) : Memref sig .tc .vmem S32x2048 .bf16 := win1_3.stage (cfg1.slots t 3)
abbrev rowsStage4 (t : Fin cfg1.N) : Memref sig .tc .vmem S1024x2048 .bf16 := win1_4.stage (cfg1.slots t 4)
abbrev rowsStage5 (t : Fin cfg1.N) : Memref sig .tc .vmem S32x1024 .f32 := win1_5.stage (cfg1.slots t 5)

/-- What the body is called with at point `t`, the windows one by one, -/
def rowsPre (c : Dev nD) (t : Fin cfg1.N) : sProp 𝕄 :=
  iprop((rowsDat V c).Φ t.castSucc ∗ (rowsDat V c).owesAt () t.castSucc
    ∗ (∃ d, owns (c : Thread nD τ) (rowsStage0 t) fullShare ((rowsDat V c).before 0 t d))
    ∗ (∃ d, owns (c : Thread nD τ) (rowsStage1 t) fullShare ((rowsDat V c).before 1 t d))
    ∗ (∃ d, owns (c : Thread nD τ) (rowsStage2 t) fullShare ((rowsDat V c).before 2 t d))
    ∗ (∃ d, owns (c : Thread nD τ) (rowsStage3 t) fullShare ((rowsDat V c).before 3 t d))
    ∗ (∃ d, owns (c : Thread nD τ) (rowsStage4 t) fullShare ((rowsDat V c).before 4 t d))
    ∗ (∃ d, owns (c : Thread nD τ) (rowsStage5 t) fullShare ((rowsDat V c).before 5 t d)))

/-- and what it returns. -/
def rowsPost (c : Dev nD) (t : Fin cfg1.N) : sProp 𝕄 :=
  iprop((rowsDat V c).Φ t.succ ∗ (rowsDat V c).owesAt () t.succ
    ∗ (rowsDat V c).leavesExact 0 t
    ∗ (rowsDat V c).leavesExact 1 t
    ∗ (rowsDat V c).leavesExact 2 t
    ∗ (rowsDat V c).leavesExact 3 t
    ∗ (rowsDat V c).leavesExact 4 t
    ∗ (rowsDat V c).leavesExact 5 t)

theorem rowsLive (c : Dev nD) (t : Fin cfg1.N) (w : Fin cfg1.W) (h : cfg1.idle w (grid1.coords t) = false) :
    (rowsDat V c).leavesExact w t = owns (c : Thread nD τ) ((cfg1.win w).stage (cfg1.slots t w)) fullShare ((rowsDat V c).after w t) := by
  unfold Dat.leavesExact; rw [h]

theorem rowsPhi_castSucc (c : Dev nD) (t : Fin cfg1.N) : (rowsDat V c).Φ t.castSucc = rowsPhi V c t.val := by
  dsimp only [rowsDat]; rfl
theorem rowsPhi_succ (c : Dev nD) (t : Fin cfg1.N) : (rowsDat V c).Φ t.succ = rowsPhi V c (t.val + 1) := by
  dsimp only [rowsDat]; rfl

/-- Window 4 is stored at every point. -/
theorem rowsIdle4 (t : Fin cfg1.N) : cfg1.idle 4 (grid1.coords t) = false := by
  show (!(k1_cond1 (grid1.coords t) == 1#1) && !(k1_cond2 (grid1.coords t) == 1#1)) = false
  by_cases h : t.val % 8 = 0
  · rw [(rowsCond1 t).mpr h]; rfl
  · rw [(rowsCond2 t).mpr h]; exact Bool.and_false _

set_option maxHeartbeats 1600000 in
/-- The body at any point. -/
theorem rows_body (c : Dev nD) (t : Fin cfg1.N) :
    rowsPre V c t ⊢ wp frame (wpE (defs₀ (F := F)) Variants.none c none) Set.univ (bodyAt1 t) (fun _ => rowsPost V c t) := by
  unfold rowsPre rowsPost bodyAt1
  simp only [rowsBefore0, rowsBefore1, rowsBefore2, rowsBefore3]
  rw [show (rowsDat V c).owesAt () t.succ = (rowsDat V c).owesAt () t.castSucc from rfl, rowsPhi_castSucc, rowsPhi_succ]
  rw [rowsLive V c t 0 rfl, rowsLive V c t 1 rfl, rowsLive V c t 2 rfl, rowsLive V c t 3 rfl, rowsLive V c t 4 (rowsIdle4 t),
    rowsAfter0, rowsAfter1, rowsAfter2, rowsAfter3, rowsAfter4]
  by_cases h0 : t.val % 8 = 0
  · have hc : k1_cond1 (grid1.coords t) = 1#1 := (rowsCond1 t).mpr h0
    have hc' : ¬k1_cond2 (grid1.coords t) = 1#1 := fun h => (rowsCond2 t).mp h h0
    have hi5 : cfg1.idle 5 (grid1.coords t) = false := by
      show (!(k1_cond1 (grid1.coords t) == 1#1)) = false
      rw [hc]; rfl
    have en : rowsNormed V c t.val = blockRows (rowsBlk V c 0 t) (rowsBlk V c 1 t) := by
      unfold rowsNormed; rw [rowsStart_self t h0]
    rw [rowsLive V c t 5 hi5, rowsAfter5, rowsStart_self t h0, rowsPhi_begin V c _ h0, en]
    iintro ⟨⟨HS, HR, Hg⟩, Ho, ⟨%d0, H0⟩, ⟨%d1, H1⟩, ⟨%d2, H2⟩, ⟨%d3, H3⟩, ⟨%d4, H4⟩, ⟨%d5, H5⟩⟩
    iapply ((rows_first c (grid1.coords t) _ _ _ _ _ _ _ _ _ _ _ _ _ _ _ _ _ _ hc hc' (rowsBlk V c 0 t) (rowsBlk V c 1 t) (rowsBlk V c 2 t) (rowsBlk V c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HR Hg]
    · iapply (rowsPhi_next V c t.val)
      rw [en]
      isplitl [HS]
      · iexact HS
      isplitl [HR]
      · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc : ¬k1_cond1 (grid1.coords t) = 1#1 := fun h => h0 ((rowsCond1 t).mp h)
    have hc' : k1_cond2 (grid1.coords t) = 1#1 := (rowsCond2 t).mpr h0
    simp only [rowsBefore5 V c t h0]
    rw [rowsAfter5, rowsPhi_inside V c _ h0]
    iintro ⟨⟨HS, HR, Hg⟩, Ho, ⟨%d0, H0⟩, ⟨%d1, H1⟩, ⟨%d2, H2⟩, ⟨%d3, H3⟩, ⟨%d4, H4⟩, ⟨%d5, H5⟩⟩
    iapply ((rows_later c (grid1.coords t) _ _ _ _ _ _ _ _ _ _ _ _ _ _ _ _ _ _ hc hc' (rowsBlk V c 0 t) (rowsBlk V c 1 t) (rowsBlk V c 2 t) (rowsBlk V c 3 t) (rowsNormed V c t.val) _) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS HR Hg]
    · iapply (rowsPhi_next V c t.val)
      isplitl [HS]
      · iexact HS
      isplitl [HR]
      · iexact HR
      iexact Hg
    isplitl [Ho]; · iexact Ho
    isplitl [H0]; · iexact H0
    isplitl [H1]; · iexact H1
    isplitl [H2]; · iexact H2
    isplitl [H3]; · iexact H3
    isplitl [H4]; · iexact H4
    iapply (leaves_of_after (rowsDat V c) 5 t (fun _ => rowsBefore5 V c t h0)); rw [rowsAfter5]; iexact H5

theorem rows_row (t : Fin cfg1.N) :
    defs₀ (F := F) .tc cfg1.body (cfg1.bodyArgs t (cfg1.slots t)) = bodyAt1 t := by
  unfold defs₀; rw [Defs.onTc_tc]

/-- The body's obligation at every point. -/
theorem rows_obligation (c : Dev nD) : BodyObligation (rowsDat V c) (defs₀ (F := F)) Variants.none () Set.univ := fun t => by
  rw [bigSep_W1, bigSep_W1, rows_row]
  exact triple_restated (rows_body V c t) rfl .rfl fun _ => .rfl

/-- The scoped buffers no window stages, and the generator, make the invariant before the first point, -/
theorem rows_in (c : Dev nD) : iprop(Pipeline.scopedRest spec1 c ∗ ∃ r, prngReg c r) ⊢ (rowsDat V c).Φ 0 := by
  rw [rowsScoped, show (rowsDat V c).Φ 0 = rowsPhi V c 0 from rfl, rowsPhi_begin V c 0 rfl]
  exact Laws.sep_assoc.1

/-- and the invariant after the last gives them back. -/
theorem rows_out (c : Dev nD) : (rowsDat V c).Φ (Fin.last cfg1.N) ⊢ iprop(Pipeline.scopedRest spec1 c ∗ ∃ r, prngReg c r) := by
  rw [rowsScoped, show (rowsDat V c).Φ (Fin.last cfg1.N) = rowsPhi V c 112 from by dsimp only [rowsDat]; exact congrArg (rowsPhi V c) N_1, rowsPhi_begin V c 112 rfl]
  exact Laws.sep_assoc.2

end Cert.KernelIdeal.Inproj

end
-- ==== Proof.Run.lean ====
/- The whole program's run: the host operations, the head kernel's region, the two copies and the row kernel's region, one
   after another. Every fair execution terminates and leaves each unscoped buffer at a named value. -/
module

public import proofs.«01_k».proof.Proof.RowsRegion
public import proofs.«01_k».proof.Proof.Gen.KernelIdeal.Regions
public import Idealize.ShloMosaic.Lib.Pipeline.FrameTail
public import Idealize.ShloMosaic.Lib.Pipeline.RegionsLoop
public import Idealize.ShloMosaic.Lib.Pipeline.RegionArraysS

@[expose] public section

set_option maxRecDepth 16384

noncomputable section

namespace Cert.KernelIdeal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each unscoped buffer holds between the items -/

/-- At launch. -/
abbrev U0 (c : Dev nD) : Valuation τ sig (Elt F) := fun b => m (c, b)
/-- After the host operations before the head kernel. -/
def U1 (c : Dev nD) : Valuation τ sig (Elt F) := StableHlo.after hostOps0 (U0 m c)
/-- After the head kernel: its four results written. -/
def U2 (c : Dev nD) : Valuation τ sig (Elt F) :=
  Function.update (Function.update (Function.update (Function.update (U1 m c) main_v5_0 ((headDat (U1 m) c).arrAt 4 cfg0.N))
    main_v5_1 ((headDat (U1 m) c).arrAt 5 cfg0.N)) main_v5_2 ((headDat (U1 m) c).arrAt 6 cfg0.N)) main_v5_3 ((headDat (U1 m) c).arrAt 7 cfg0.N)
/-- After the two copies. -/
def U3 (c : Dev nD) : Valuation τ sig (Elt F) := StableHlo.after hostOps1 (U2 m c)
/-- After the row kernel. -/
def U4 (c : Dev nD) : Valuation τ sig (Elt F) := Pipeline.afterRegion (rowsDat (U3 m) c) (U3 m c)

theorem U2_of (c : Dev nD) (r : Ref sig .tc) (h : r ∉ ([main_v5_0, main_v5_1, main_v5_2, main_v5_3] : List (Ref sig .tc))) : U2 m c r = U1 m c r := by
  simp only [List.mem_cons, List.not_mem_nil, or_false, not_or] at h
  unfold U2
  rw [Function.update_of_ne (StableHlo.devRef_ne_of_ne h.2.2.2), Function.update_of_ne (StableHlo.devRef_ne_of_ne h.2.2.1),
    Function.update_of_ne (StableHlo.devRef_ne_of_ne h.2.1), Function.update_of_ne (StableHlo.devRef_ne_of_ne h.1)]

theorem U2_res0 (c : Dev nD) : U2 m c main_v5_0 = (headDat (U1 m) c).arrAt 4 cfg0.N := by
  unfold U2
  rw [Function.update_of_ne (StableHlo.devRef_ne_of_ne (by decide)), Function.update_of_ne (StableHlo.devRef_ne_of_ne (by decide)),
    Function.update_of_ne (StableHlo.devRef_ne_of_ne (by decide)), Function.update_self]
theorem U2_res1 (c : Dev nD) : U2 m c main_v5_1 = (headDat (U1 m) c).arrAt 5 cfg0.N := by
  unfold U2
  rw [Function.update_of_ne (StableHlo.devRef_ne_of_ne (by decide)), Function.update_of_ne (StableHlo.devRef_ne_of_ne (by decide)), Function.update_self]
theorem U2_res2 (c : Dev nD) : U2 m c main_v5_2 = (headDat (U1 m) c).arrAt 6 cfg0.N := by
  unfold U2
  rw [Function.update_of_ne (StableHlo.devRef_ne_of_ne (by decide)), Function.update_self]
theorem U2_res3 (c : Dev nD) : U2 m c main_v5_3 = (headDat (U1 m) c).arrAt 7 cfg0.N := by
  unfold U2
  rw [Function.update_self]

theorem U1_of (c : Dev nD) (r : Ref sig .tc) (h : r ∉ hostOps0_W) : U1 m c r = U0 m c r :=
  StableHlo.after_of_writes_sub hostOps0 _ hostOps0_writes h
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : ∀ w, r ≠ Pipeline.arrRef cfg1.spec w) : U4 m c r = U3 m c r :=
  Pipeline.afterRegion_of_not_arr (rowsDat (U3 m) c) (U3 m c) h
theorem U4_arr (c : Dev nD) (w : Fin cfg1.W) :
    U4 m c (Proc.devRef .tc (Pipeline.arrRef cfg1.spec w)) = (rowsDat (U3 m) c).arrAt w cfg1.N :=
  Pipeline.afterRegion_arr (rowsDat (U3 m) c) (U3 m c) launch1.win.arr_inj w

/-- Argument 0 reaches the end as launched. -/
theorem U4_arg0 (c : Dev nD) : U4 m c main_arg0 = m ((c : Thread nD τ).loc main_arg0) :=
  (U4_of m c main_arg0 (by decide)).trans <| (U3_of m c main_arg0 (by decide)).trans <| (U2_of m c main_arg0 (by decide)).trans <| (U1_of m c main_arg0 (by decide)).trans rfl
/-- Argument 1 reaches the end as launched. -/
theorem U4_arg1 (c : Dev nD) : U4 m c main_arg1 = m ((c : Thread nD τ).loc main_arg1) :=
  (U4_of m c main_arg1 (by decide)).trans <| (U3_of m c main_arg1 (by decide)).trans <| (U2_of m c main_arg1 (by decide)).trans <| (U1_of m c main_arg1 (by decide)).trans rfl
/-- Argument 2 reaches the end as launched. -/
theorem U4_arg2 (c : Dev nD) : U4 m c main_arg2 = m ((c : Thread nD τ).loc main_arg2) :=
  (U4_of m c main_arg2 (by decide)).trans <| (U3_of m c main_arg2 (by decide)).trans <| (U2_of m c main_arg2 (by decide)).trans <| (U1_of m c main_arg2 (by decide)).trans rfl

/-! ## The items as segments -/

/-- The two regions' proof data. -/
def pdats : (p : Fin 2) → (c : Dev nD) → Dat τ (Elt F) Unit ℕ (UR sig nD τ) ℕ (cfgs p) c
  | 0 => fun c => headDat (U1 m) c
  | 1 => fun c => rowsDat (U3 m) c

abbrev Lv : GSem nD τ sig → Finset Unit := fun _ => ∅
abbrev lv : GSem nD τ sig → Unit → ℕ := fun _ _ => 0

/-- What rides beside the buffers: the generator register, and the core owing nothing. -/
abbrev rest (c : Dev nD) : sProp 𝕄 := iprop((∃ r, prngReg c r) ∗ ∃ W, owes (c : Thread nD τ) (0 : CellTallies nD τ sig Unit) W)

def hostSeg0 : HostSeg (Ix := Unit) (Name := ℕ) (U := UR sig nD τ) (Lvl := ℕ) (pcfgs (F := F)) defs₀ Variants.none Lv lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) rest
def hostSeg1 : HostSeg (Ix := Unit) (Name := ℕ) (U := UR sig nD τ) (Lvl := ℕ) (pcfgs (F := F)) defs₀ Variants.none Lv lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) rest

theorem held_eq (c : Dev nD) (V : Valuation τ sig (Elt F)) :
    (StableHlo.held (c.tc : Thread nD τ) (Pipeline.ucRefs τ sig) V : sProp 𝕄) = unscopedBufs c (fun b => V (Proc.devRef .tc b)) :=
  (Pipeline.unscopedBufs_held (Ix := Unit) (Name := ℕ) (U := UR sig nD τ) (Lvl := ℕ) c V).symm

theorem U2_arr (c : Dev nD) : ∀ w : Fin cfg0.W, (headDat (U1 m) c).arrAt w cfg0.N = U2 m c (Proc.devRef .tc (Pipeline.arrRef cfg0.spec w)) := fun
  | 0 => (((headDat (U1 m) c).arrAt_in 0 rfl _).trans (headDat_A (U1 m) c 0)).trans (U2_of m c main_v0 (by decide)).symm
  | 1 => (((headDat (U1 m) c).arrAt_in 1 rfl _).trans (headDat_A (U1 m) c 1)).trans (U2_of m c main_v2 (by decide)).symm
  | 2 => (((headDat (U1 m) c).arrAt_in 2 rfl _).trans (headDat_A (U1 m) c 2)).trans (U2_of m c main_v4 (by decide)).symm
  | 3 => (((headDat (U1 m) c).arrAt_in 3 rfl _).trans (headDat_A (U1 m) c 3)).trans (U2_of m c main_v4 (by decide)).symm
  | 4 => (U2_res0 m c).symm
  | 5 => (U2_res1 m c).symm
  | 6 => (U2_res2 m c).symm
  | 7 => (U2_res3 m c).symm
  | ⟨_ + 8, h⟩ => absurd h (Nat.not_lt.2 (Nat.le_add_left _ _))

-- the library's lemmas are stated over a family of pipelines; matching them with this program's unfolds plain definitions in types
set_option backward.isDefEq.respectTransparency.types false in
/-- The head kernel's region: entered with every unscoped buffer at `U1`, left with every one at `U2`. -/
def headSeg : RegionSeg (pcfgs (F := F)) adm (pdats m) () defs₀ Variants.none Lv lv 0 :=
  have kit : Pipeline.PLaunchFacts₀ (nD := nD) (τ := τ) (pcfgs (F := F)) 0 := launch₀0.toP
  { win := kit.win
    block_pos := kit.block_pos
    stage_whole := kit.stage_whole
    K := PEmpty
    osem := fun k => k.elim
    ho := Pipeline.OwnSemFacts.none _
    hbody := fun c => (head_obligation (U1 m) c).loose
    hwaits := Pipeline.hwaits_of_owed_zero (pcfgs (F := F)) adm (pdats m) () Lv lv 0 (fun _ _ => rfl)
    pre := fun c => iprop(StableHlo.held (c.tc : Thread nD τ) (Pipeline.ucRefs τ sig) (U1 m c) ∗ rest c)
    post := fun c => iprop(StableHlo.held (c.tc : Thread nD τ) (Pipeline.ucRefs τ sig) (U2 m c) ∗ rest c)
    X := fun c => iprop(∃ r, prngReg c r)
    Y := fun c => iprop(∃ r, prngReg c r)
    Z := fun c => Pipeline.unscopedRest (Ix := Unit) (Name := ℕ) (U := UR sig nD τ) (Lvl := ℕ) (cfgs 0).spec c (fun b => U1 m c (Proc.devRef .tc b))
    hentry := fun c => by
      rw [Pipeline.ownSems0_none, held_eq]
      have hsplit := Pipeline.arrays_of_unscopedBufs_shared (p := (0 : Fin 2)) (pcfgs (F := F)) adm (pdats m) kit.win kit.sharedIn kit.arr_whole c
          (fun _ _ => rfl) (fun b => U1 m c (Proc.devRef .tc b)) (fun w => headDat_A (U1 m) c w)
      iintro ⟨⟨Hub, Hp, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        icases HO with ⟨%W, HO⟩
        iexists W; isplitr; · ipureintro; exact fun _ _ => Or.inl trivial
        iexact HO
      isplitl [Hp]; · iexact Hp
      iexact Hrest
    hin := fun c => (show _ ⊢ iprop(Pipeline.scopedRest (Ix := Unit) (Name := ℕ) (U := UR sig nD τ) (Lvl := ℕ) (Val := Elt F) spec0 c ∗ ∃ r, prngReg c r) from by
      iintro ⟨Hp, -, Hr⟩
      isplitl [Hr] <;> iassumption).trans (head_in (U1 m) c)
    hout := fun c => (head_out (U1 m) c).trans (by
      rw [Pipeline.ownSems0_none]
      iintro ⟨Hr, Hp⟩
      isplitl [Hp]; · iexact Hp
      isplitr; · iempintro
      iexact Hr)
    hexit := fun c => by
      have hjoin := Pipeline.unscopedBufs_of_arrays_shared (p := (0 : Fin 2)) (pcfgs (F := F)) adm (Ix := Unit) (Name := ℕ) (U := UR sig nD τ) (Lvl := ℕ)
        kit.win kit.sharedIn kit.arr_whole c (pdats m) (fun _ _ => rfl)
        (fun b => U1 m c (Proc.devRef .tc b)) (fun b => U2 m c (Proc.devRef .tc b)) ((pdats m 0 c).arrAt · (cfgs 0).N)
        (fun w => U2_arr m c w)
        (fun b hb => U2_of m c b fun hm => hb (by
        simp only [List.mem_cons, List.not_mem_nil, or_false] at hm
        rcases hm with rfl | rfl | rfl | rfl
        · exact Finset.mem_image.mpr ⟨(4 : Fin 8), Finset.mem_univ _, rfl⟩
        · exact Finset.mem_image.mpr ⟨(5 : Fin 8), Finset.mem_univ _, rfl⟩
        · exact Finset.mem_image.mpr ⟨(6 : Fin 8), Finset.mem_univ _, rfl⟩
        · exact Finset.mem_image.mpr ⟨(7 : Fin 8), Finset.mem_univ _, rfl⟩))
      rw [held_eq]
      iintro ⟨Ha, HO, Hp, Hrest⟩
      imodintro
      isplitl [Ha Hrest]
      · iapply hjoin; isplitl [Ha] <;> iassumption
      isplitl [Hp]; · iexact Hp
      unfold Dat.owesAt Pipeline.owesWithin
      icases HO with ⟨%W, -, HO⟩; iexists W; iexact HO }

-- the library's lemmas are stated over a family of pipelines; matching them with this program's unfolds plain definitions in types
set_option backward.isDefEq.respectTransparency.types false in
/-- The rows kernel's region: entered with every unscoped buffer at `U3`, left with every one at `U4`. -/
def rowsSeg : RegionSeg (pcfgs (F := F)) adm (pdats m) () defs₀ Variants.none Lv lv 1 :=
  have kit : Pipeline.PLaunchFacts₀ (nD := nD) (τ := τ) (pcfgs (F := F)) 1 := launch1.toP.to₀
  { win := kit.win
    block_pos := kit.block_pos
    stage_whole := kit.stage_whole
    K := PEmpty
    osem := fun k => k.elim
    ho := Pipeline.OwnSemFacts.none _
    hbody := fun c => (rows_obligation (U3 m) c).loose
    hwaits := Pipeline.hwaits_of_owed_zero (pcfgs (F := F)) adm (pdats m) () Lv lv 1 (fun _ _ => rfl)
    pre := fun c => iprop(StableHlo.held (c.tc : Thread nD τ) (Pipeline.ucRefs τ sig) (U3 m c) ∗ rest c)
    post := fun c => iprop(StableHlo.held (c.tc : Thread nD τ) (Pipeline.ucRefs τ sig) (U4 m c) ∗ rest c)
    X := fun c => iprop(∃ r, prngReg c r)
    Y := fun c => iprop(∃ r, prngReg c r)
    Z := fun c => Pipeline.unscopedRest (Ix := Unit) (Name := ℕ) (U := UR sig nD τ) (Lvl := ℕ) (cfgs 1).spec c (fun b => U3 m c (Proc.devRef .tc b))
    hentry := fun c => by
      rw [Pipeline.ownSems0_none, held_eq]
      have hsplit := Pipeline.arrays_of_unscopedBufs_shared (p := (1 : Fin 2)) (pcfgs (F := F)) adm (pdats m) kit.win kit.sharedIn kit.arr_whole c
          (fun _ _ => rfl) (fun b => U3 m c (Proc.devRef .tc b)) (fun w => rowsDat_A (U3 m) c w)
      iintro ⟨⟨Hub, Hp, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        icases HO with ⟨%W, HO⟩
        iexists W; isplitr; · ipureintro; exact fun _ _ => Or.inl trivial
        iexact HO
      isplitl [Hp]; · iexact Hp
      iexact Hrest
    hin := fun c => (show _ ⊢ iprop(Pipeline.scopedRest (Ix := Unit) (Name := ℕ) (U := UR sig nD τ) (Lvl := ℕ) (Val := Elt F) spec1 c ∗ ∃ r, prngReg c r) from by
      iintro ⟨Hp, -, Hr⟩
      isplitl [Hr] <;> iassumption).trans (rows_in (U3 m) c)
    hout := fun c => (rows_out (U3 m) c).trans (by
      rw [Pipeline.ownSems0_none]
      iintro ⟨Hr, Hp⟩
      isplitl [Hp]; · iexact Hp
      isplitr; · iempintro
      iexact Hr)
    hexit := fun c => by
      have hjoin := Pipeline.unscopedBufs_of_arrays_shared (p := (1 : Fin 2)) (pcfgs (F := F)) adm (Ix := Unit) (Name := ℕ) (U := UR sig nD τ) (Lvl := ℕ)
        kit.win kit.sharedIn kit.arr_whole c (pdats m) (fun _ _ => rfl)
        (fun b => U3 m c (Proc.devRef .tc b)) (fun b => U4 m c (Proc.devRef .tc b)) ((pdats m 1 c).arrAt · (cfgs 1).N)
        (fun w => (U4_arr m c w).symm)
        (fun b hb => U4_of m c b fun w h => hb (h ▸ Finset.mem_image.mpr ⟨w, Finset.mem_univ _, rfl⟩))
      rw [held_eq]
      iintro ⟨Ha, HO, Hp, Hrest⟩
      imodintro
      isplitl [Ha Hrest]
      · iapply hjoin; isplitl [Ha] <;> iassumption
      isplitl [Hp]; · iexact Hp
      unfold Dat.owesAt Pipeline.owesWithin
      icases HO with ⟨%W, -, HO⟩; iexists W; iexact HO }

/-- The program's items in order. -/
abbrev items (c : Dev nD) : List (Seg (pcfgs (F := F)) adm (pdats m) () defs₀ Variants.none Lv lv) :=
  [.host (hostSeg0 m), .region (headSeg m), .host (hostSeg1 m), .region (rowsSeg m)]

set_option backward.isDefEq.respectTransparency.types false in
/-- Every fair execution of the program terminates, with every semaphore at zero and every unscoped buffer of every core at its value after the last region. -/
theorem run_items : θ_run defs (onTc (τ := τ) (main (F := F))) ⟨m, fun _ => 0, ρ⟩ (fun r =>
    (∀ c : Dev nD, ∀ b ∈ Pipeline.ucRefs τ sig, r.2.mem ((c.tc : Thread nD τ).1, b) = U4 m c b) ∧ r.2.sem = fun _ => 0) := by
  classical
  refine Pipeline.θ_run_regions_kit_dev_sems (pcfgs (F := F)) adm (pdats m) () cellOf_inj emb₁ defs₀ Variants.none Lv lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Seg.pipes_host, Seg.pipes_region, Seg.pipes_nil]; decide)
    (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ rest c))
    (Tₙ := fun c => StableHlo.held (c : Thread nD τ) (Pipeline.ucRefs τ sig) (U4 m c))
    (hch := fun c => ⟨.rfl, .rfl, .rfl, .rfl,
      (show iprop(StableHlo.held (c.tc : Thread nD τ) (Pipeline.ucRefs τ sig) (U4 m c) ∗ rest c) ⊢ (_ : sProp 𝕄) from by
        iintro ⟨Hh, -, HO⟩
        isplitl [Hh] <;> iassumption)⟩)
    (hinit := by
      refine Pipeline.initEach Lv lv fun c => ?_
      rw [show unscopedBufs c (fun b => m ((c.tc : Thread nD τ).loc b)) = StableHlo.held (c.tc : Thread nD τ) (Pipeline.ucRefs τ sig) (U0 m c)
          from Pipeline.unscopedBufs_held (Ix := Unit) (Name := ℕ) (U := UR sig nD τ) (Lvl := ℕ) c (U0 m c)]
      iintro ⟨⟨Hh, -, HO, -, Hp, -⟩, -⟩
      imodintro
      isplitl [Hh]; · iexact Hh
      isplitl [Hp]
      · iexists _; iexact Hp
      iexists _; iexact HO)
    (QY := fun c s => ∀ b ∈ Pipeline.ucRefs τ sig, s.mem ((c.tc : Thread nD τ).1, b) = U4 m c b)
    (hfin := fun c s' => by
      unfold StableHlo.held
      iintro ⟨Hh, HSI⟩
      ihave Hr := (pointsTo_read_all (Pipeline.ucRefs τ sig) (fun b => ((c.tc : Thread nD τ).1, b)) (U4 m c) s') $$ [Hh HSI]
      · isplitl [Hh] <;> iassumption
      imodintro; iexact Hr)
    (hQ := fun _ h hz => ⟨h, funext fun g => hz g (.inr (regions_no_unscoped g.2))⟩)

/-- The run, read at the two results and at the arguments. -/
theorem run_all : θ_run defs (onTc (τ := τ) (main (F := F))) ⟨m, fun _ => 0, ρ⟩ (fun r => ∀ c : Dev nD,
      r.2.mem ((c.tc : Thread nD τ).loc main_v6_0) = (rowsDat (U3 m) c).arrAt 4 cfg1.N
      ∧ r.2.mem ((c.tc : Thread nD τ).loc main_v6_1) = (rowsDat (U3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c (Proc.devRef .tc main_v6_0) (Pipeline.devRef_mem_ucRefs rfl)).trans (U4_arr m c 4),
      (h.1 c (Proc.devRef .tc main_v6_1) (Pipeline.devRef_mem_ucRefs rfl)).trans (U4_arr m c 5),
      (h.1 c (Proc.devRef .tc main_arg0) (Pipeline.devRef_mem_ucRefs rfl)).trans (U4_arg0 m c),
      (h.1 c (Proc.devRef .tc main_arg1) (Pipeline.devRef_mem_ucRefs rfl)).trans (U4_arg1 m c),
      (h.1 c (Proc.devRef .tc main_arg2) (Pipeline.devRef_mem_ucRefs rfl)).trans (U4_arg2 m c)⟩) (run_items m ρ)

/-- The program terminates, leaves its arguments as launched and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c (Proc.devRef .tc main_arg0) (Pipeline.devRef_mem_ucRefs rfl)).trans (U4_arg0 m c),
      (h.1 c (Proc.devRef .tc main_arg1) (Pipeline.devRef_mem_ucRefs rfl)).trans (U4_arg1 m c),
      (h.1 c (Proc.devRef .tc main_arg2) (Pipeline.devRef_mem_ucRefs rfl)).trans (U4_arg2 m c)⟩, h.2⟩) (run_items m ρ)

end Cert.KernelIdeal.Inproj

end
-- ==== Proof.Spec.lean ====
/- The in-projection at exact arithmetic, as sums over the arrays the kernels read: the normalised rows, their products with the
   weight rows of the main columns, and the products with the 32 time-step rows. -/
module

public import proofs.«01_k».proof.Proof.NormRows
public import Idealize.ShloMosaic.Lib.Pipeline.ValueKit

@[expose] public section

set_option maxRecDepth 16384

noncomputable section

namespace Cert.KernelIdeal.Inproj

open Idealize.ShloMosaic Idealize.ShloMosaic.TcCoe
open Cert.KernelIdeal.Gen

/-- Entry `(r, k)` of the rows of `x`, each divided by its root mean square (the constant added under the root as both programs
spell it), times the weights `nw`. -/
def normAt {R : ℕ} (x : FVec Ideal (Rows R) .f32) (nw : FVec Ideal S1x2048 .f32) (r : Fin R) (k : Fin 2048) : EReal :=
  x (ix2 r k) * Ideal.rsqrt (Ideal.div (∑ j : Fin 2048, x (ix2 r j) * x (ix2 r j)) (Ideal.ofBits .f32 0x45000000#32)
    + Ideal.ofBits .f32 0x3727C5AC#32) * nw (ix2 0 k)

/-- Only the row itself enters. -/
theorem normAt_row {R R' : ℕ} {x : FVec Ideal (Rows R) .f32} {x' : FVec Ideal (Rows R') .f32} (nw : FVec Ideal S1x2048 .f32)
    {r : Fin R} {r' : Fin R'} (k : Fin 2048) (h : ∀ j : Fin 2048, x (ix2 r j) = x' (ix2 r' j)) : normAt x nw r k = normAt x' nw r' k := by
  unfold normAt
  simp only [h]

/-- The row of the transposed weights that main column `c` multiplies: the 32 time-step rows from 12288 on are skipped. -/
def mainRow (c : Fin 16384) : Fin 16416 :=
  ⟨if c.val < 12288 then c.val else c.val + 32, by have := c.isLt; split <;> omega⟩
/-- The row of the transposed weights of time-step `e`. -/
def stepRow (e : Fin 32) : Fin 16416 := ⟨12288 + e.val, by have := e.isLt; omega⟩

/-- The main product at an index: the normalised row times the weight row of the column. -/
def mainAt (x : FVec Ideal S16384x2048 .f32) (nw : FVec Ideal S1x2048 .f32) (wt : FVec Ideal S16416x2048 .f32) (r c : Fin 16384) : EReal :=
  ∑ k : Fin 2048, normAt x nw r k * wt (ix2 (mainRow c) k)
/-- The time-step product at an index, the steps along the first axis. -/
def stepAt (x : FVec Ideal S16384x2048 .f32) (nw : FVec Ideal S1x2048 .f32) (wt : FVec Ideal S16416x2048 .f32) (e : Fin 32) (r : Fin 16384) : EReal :=
  ∑ k : Fin 2048, wt (ix2 (stepRow e) k) * normAt x nw r k

/-- One chunk's normalisation at an index. -/
theorem chunk_apply (x : FVec Ideal S128x2048 .f32) (nw : FVec Ideal S1x2048 .f32) (y : S128x2048.Idx) :
    k0_pay1 (F := Ideal) x nw y = normAt (R := 128) x nw (y 0) (y 1) := by
  pointwise [k0_pay1]
  unfold normAt
  rw [show (ix2 (y 0) (y 1) : S128x2048.Idx) = y from by blk_ext]

/-- The normalised rows at an index. -/
theorem normRows_apply {R : ℕ} (hR : 128 ∣ R) (x : FVec Ideal (Rows R) .f32) (nw : FVec Ideal S1x2048 .f32) (r : Fin R) (k : Fin 2048) :
    normRows (F := Ideal) hR x nw (ix2 r k) = normAt x nw r k := by
  have hr : 128 * (r.val / 128) + r.val % 128 = r.val := Nat.div_add_mod _ _
  have hw : ∀ (inb : _) (j : Fin 2048), VecWindow.window x ![128 * (r.val / 128), 0] S128x2048.size inb (ix2 (⟨r.val % 128, Nat.mod_lt _ (by decide)⟩ : Fin 128) j) = x (ix2 r j) := by
    intro inb j
    refine congrArg x (funext fun a => ?_)
    apply Fin.ext
    revert a
    refine Fin.forall_fin_two.mpr ⟨?_, ?_⟩
    · show 128 * (r.val / 128) + 1 * (r.val % 128) = r.val
      omega
    · show 0 + 1 * j.val = j.val
      omega
  refine (normRows_chunk (F := Ideal) hR x nw (r.val / 128) (chunk_inb hR (ix2 r k)) (ix2 r k)
    (ix2 (⟨r.val % 128, Nat.mod_lt _ (by decide)⟩ : Fin 128) k) hr.symm rfl).trans ((chunk_apply _ _ _).trans ?_)
  exact normAt_row nw k fun j => hw _ j

/-- The five products the bodies store, at an index. -/
theorem pay5_apply (w : FVec Ideal S512x2048 .f32) (h : FVec Ideal S2048x2048 .bf16) (r : Fin 2048) (c : Fin 512) :
    k0_pay5 (F := Ideal) w h (ix2 r c) = ∑ k : Fin 2048, h (ix2 r k) * w (ix2 c k) := by
  pointwise [k0_pay5, k0_pay4]
theorem pay3_apply (w : FVec Ideal S32x2048 .f32) (h : FVec Ideal S2048x2048 .bf16) (e : Fin 32) (r : Fin 2048) :
    k0_pay3 (F := Ideal) w h (ix2 e r) = ∑ k : Fin 2048, w (ix2 e k) * h (ix2 r k) := by
  pointwise [k0_pay3, k0_pay2]
theorem pay4_apply (w : FVec Ideal S512x2048 .f32) (y : S512x2048.Idx) : k0_pay4 (F := Ideal) w y = w y := by
  pointwise [k0_pay4]
theorem pay2_apply (w : FVec Ideal S32x2048 .f32) (y : S32x2048.Idx) : k0_pay2 (F := Ideal) w y = w y := by
  pointwise [k0_pay2]
theorem row1_apply (w : FVec Ideal S32x2048 .bf16) (h : FVec Ideal S1024x2048 .bf16) (e : Fin 32) (r : Fin 1024) :
    k1_pay1 (F := Ideal) w h (ix2 e r) = ∑ k : Fin 2048, w (ix2 e k) * h (ix2 r k) := by
  pointwise [k1_pay1]
theorem row2_apply (h : FVec Ideal S1024x2048 .bf16) (w : FVec Ideal S2048x2048 .bf16) (r : Fin 1024) (c : Fin 2048) :
    k1_pay2 (F := Ideal) h w (ix2 r c) = ∑ k : Fin 2048, h (ix2 r k) * w (ix2 c k) := by
  pointwise [k1_pay2]

end Cert.KernelIdeal.Inproj

end
-- ==== Proof.HeadValue.lean ====
/- What the head kernel leaves in its four results, at exact arithmetic: the first 2048 rows of the main product, the first 2048
   columns of the time-step product, and the two copies of the weight rows. -/
module

public import proofs.«01_k».proof.Proof.HeadRegion
public import proofs.«01_k».proof.Proof.Spec

@[expose] public section

set_option maxRecDepth 16384

noncomputable section

namespace Cert.KernelIdeal.Inproj

open Idealize.ShloMosaic Idealize.ShloMosaic.TcCoe
open Cert.KernelIdeal.Gen

/-- The head kernel's windows over its 32 points: the weight window's offsets skip the 32 time-step rows from point 24 on. -/
theorem head_index : ∀ t : Fin cfg0.N, win0_0.index t = ![0, 0] ∧ win0_1.index t = ![0, 0]
    ∧ win0_2.index t = ![if t.val < 24 then t.val * 512 else t.val * 512 + 32, 0]
    ∧ win0_3.index t = ![384, 0] ∧ win0_4.index t = ![0, t.val] ∧ win0_5.index t = ![0, 0] ∧ win0_6.index t = ![t.val, 0] ∧ win0_7.index t = ![0, 0] :=
  (by decide +kernel : ∀ t : Fin grid0.N, _)

variable (V : Dev nD → Valuation τ sig (Elt Ideal))

/-- The rows the head kernel normalises are the first 2048. -/
theorem headBlk0_apply (c : Dev nD) (t : Fin cfg0.N) (r k : Fin 2048) :
    (headBlk V c 0 t : FVec Ideal S2048x2048 .f32) (ix2 r k) = (V c main_v0 : FVec Ideal S16384x2048 .f32) (ix2 (⟨r.val, by have := r.isLt; omega⟩ : Fin 16384) k) := by
  obtain ⟨h, -⟩ := head_index t
  blk_ext [headBlk, h]
theorem headBlk1_eq (c : Dev nD) (t : Fin cfg0.N) : (headBlk V c 1 t : FVec Ideal S1x2048 .f32) = (V c main_v2 : FVec Ideal S1x2048 .f32) := by
  obtain ⟨-, h, -⟩ := head_index t
  funext y
  blk_ext [headBlk, h]
/-- The weight rows of point `t` are those of the columns `512 t` to `512 t + 511`. -/
theorem headBlk2_apply (c : Dev nD) (t : Fin cfg0.N) (a : Fin 512) (k : Fin 2048) (j : Fin 16384) (hj : j.val = 512 * t.val + a.val) :
    (headBlk V c 2 t : FVec Ideal S512x2048 .f32) (ix2 a k) = (V c main_v4 : FVec Ideal S16416x2048 .f32) (ix2 (mainRow j) k) := by
  obtain ⟨-, -, h, -⟩ := head_index t
  have ha := a.isLt
  have ht : t.val < 32 := t.isLt.trans_eq N_0
  refine congrArg (V c main_v4 : FVec Ideal S16416x2048 .f32) (funext fun b => Fin.ext ?_)
  revert b
  refine Fin.forall_fin_two.mpr ⟨?_, ?_⟩
  · show win0_2.index t 0 + 1 * a.val = if j.val < 12288 then j.val else j.val + 32
    rw [h]
    show (if t.val < 24 then t.val * 512 else t.val * 512 + 32) + 1 * a.val = _
    split <;> split <;> omega
  · show win0_2.index t 1 + 1 * k.val = k.val
    rw [h]
    show 0 + 1 * k.val = k.val
    omega
theorem headBlk3_apply (c : Dev nD) (t : Fin cfg0.N) (e : Fin 32) (k : Fin 2048) :
    (headBlk V c 3 t : FVec Ideal S32x2048 .f32) (ix2 e k) = (V c main_v4 : FVec Ideal S16416x2048 .f32) (ix2 (stepRow e) k) := by
  obtain ⟨-, -, -, h, -⟩ := head_index t
  blk_ext [headBlk, h, stepRow]

/-- The rows the scratch holds are the first 2048 normalised rows. -/
theorem headNormed_apply (c : Dev nD) (r k : Fin 2048) : (headNormed V c : FVec Ideal S2048x2048 .bf16) (ix2 r k)
    = normAt (V c main_v0 : FVec Ideal S16384x2048 .f32) (V c main_v2 : FVec Ideal S1x2048 .f32) (⟨r.val, by have := r.isLt; omega⟩ : Fin 16384) k := by
  unfold headNormed headRows
  refine (normRows_apply (R := 2048) dvd_2048 _ _ r k).trans ?_
  rw [headBlk1_eq]
  exact normAt_row (R := 2048) (R' := 16384) _ k fun j => headBlk0_apply V c headStart r j

/-- The main result after the head kernel: its first 2048 rows are the product's. -/
theorem head_main (c : Dev nD) : ((headDat V c).arrAt 4 cfg0.N : FVec Ideal S16384x16384 .bf16)
    = fun i => if (i 0 : ℕ) / 2048 = 0 then mainAt (V c main_v0 : FVec Ideal S16384x2048 .f32) (V c main_v2 : FVec Ideal S1x2048 .f32) (V c main_v4 : FVec Ideal S16416x2048 .f32) (i 0) (i 1)
        else (V c main_v5_0 : FVec Ideal S16384x16384 .bf16) i := by
  refine (headDat V c).arrAt_eq_of_coversWhere 4 _ (fun β => β (0 : Fin 2) = 0) (by decide +kernel) (fun t hf y => ?_) (fun j => Iff.rfl)
  have h := (head_index t).2.2.2.2.1
  blk_simp
  rw [headAfter4]
  obtain ⟨r, a, rfl⟩ : ∃ (r : Fin 2048) (a : Fin 512), y = (ix2 r a : S2048x512.Idx) := ⟨y 0, y 1, by blk_ext⟩
  refine (pay5_apply _ _ r a).trans ?_
  unfold mainAt
  refine Finset.sum_congr rfl fun k _ => ?_
  refine congrArg₂ (· * ·) ((headNormed_apply V c r k).trans (congrArg (fun q => normAt _ _ q k) (Fin.ext ?_)))
    (headBlk2_apply V c t a k _ ?_)
  · blk_simp [h]
  · blk_simp [h]; omega

/-- The time-step result after the head kernel: its first 2048 columns are the product's. -/
theorem head_step (c : Dev nD) : ((headDat V c).arrAt 5 cfg0.N : FVec Ideal S32x16384 .f32)
    = fun i => if (i 1 : ℕ) / 2048 = 0 then stepAt (V c main_v0 : FVec Ideal S16384x2048 .f32) (V c main_v2 : FVec Ideal S1x2048 .f32) (V c main_v4 : FVec Ideal S16416x2048 .f32) (i 0) (i 1)
        else (V c main_v5_1 : FVec Ideal S32x16384 .f32) i := by
  refine (headDat V c).arrAt_eq_of_coversWhere 5 _ (fun β => β (1 : Fin 2) = 0) (by decide +kernel) (fun t hf y => ?_) (fun j => Iff.rfl)
  have h := (head_index t).2.2.2.2.2.1
  blk_simp
  rw [headAfter5]
  obtain ⟨e, r, rfl⟩ : ∃ (e : Fin 32) (r : Fin 2048), y = (ix2 e r : S32x2048.Idx) := ⟨y 0, y 1, by blk_ext⟩
  refine (pay3_apply _ _ e r).trans ?_
  unfold stepAt
  refine Finset.sum_congr rfl fun k _ => ?_
  refine congrArg₂ (· * ·) ((headBlk3_apply V c headStart e k).trans (congrArg (fun q => (V c main_v4 : FVec Ideal S16416x2048 .f32) (ix2 (stepRow q) k)) (Fin.ext ?_)))
    ((headNormed_apply V c r k).trans (congrArg (fun q => normAt _ _ q k) (Fin.ext ?_)))
  · blk_simp [h]
  · blk_simp [h]

/-- The copy of the main weight rows after the head kernel: the time-step rows are left out of it. -/
theorem head_rows (c : Dev nD) : ((headDat V c).arrAt 6 cfg0.N : FVec Ideal S16384x2048 .bf16)
    = fun i => (V c main_v4 : FVec Ideal S16416x2048 .f32) (ix2 (mainRow (i 0)) (i 1)) := by
  refine (headDat V c).arrAt_eq_of_covers 6 _ (by decide +kernel) (fun t hf y => ?_)
  have h := (head_index t).2.2.2.2.2.2.1
  blk_simp
  rw [headAfter6]
  obtain ⟨a, k, rfl⟩ : ∃ (a : Fin 512) (k : Fin 2048), y = (ix2 a k : S512x2048.Idx) := ⟨y 0, y 1, by blk_ext⟩
  refine (pay4_apply _ _).trans ((headBlk2_apply V c t a k (((cfg0.win 6).blk t).view.emb (ix2 a k : S512x2048.Idx) 0) ?_).trans (congrArg (fun q => (V c main_v4 : FVec Ideal S16416x2048 .f32) (ix2 (mainRow (((cfg0.win 6).blk t).view.emb (ix2 a k : S512x2048.Idx) 0)) q)) (Fin.ext ?_)))
  · blk_simp [h]; omega
  · blk_simp [h]

/-- The copy of the time-step rows after the head kernel. -/
theorem head_steps (c : Dev nD) : ((headDat V c).arrAt 7 cfg0.N : FVec Ideal S32x2048 .bf16)
    = fun i => (V c main_v4 : FVec Ideal S16416x2048 .f32) (ix2 (stepRow (i 0)) (i 1)) := by
  refine (headDat V c).arrAt_eq_of_covers 7 _ (by decide +kernel) (fun t hf y => ?_)
  have h := (head_index t).2.2.2.2.2.2.2
  blk_simp
  rw [headAfter7]
  obtain ⟨e, k, rfl⟩ : ∃ (e : Fin 32) (k : Fin 2048), y = (ix2 e k : S32x2048.Idx) := ⟨y 0, y 1, by blk_ext⟩
  refine (pay2_apply _ _).trans ((headBlk3_apply V c headStart e k).trans ?_)
  refine congrArg (V c main_v4 : FVec Ideal S16416x2048 .f32) ?_
  refine congrArg₂ (fun a b => ix2 (stepRow a) b) (Fin.ext ?_) (Fin.ext ?_)
  · blk_simp [h]
  · blk_simp [h]

end Cert.KernelIdeal.Inproj

end
-- ==== Proof.RowsValue.lean ====
/- What the row kernel leaves in its two results, at exact arithmetic: from row 2048 on the main product, from column 2048 on the
   time-step product, everything before as it found it. -/
module

public import proofs.«01_k».proof.Proof.RowsRegion
public import proofs.«01_k».proof.Proof.Spec

@[expose] public section

set_option maxRecDepth 16384

noncomputable section

namespace Cert.KernelIdeal.Inproj

open Idealize.ShloMosaic Idealize.ShloMosaic.TcCoe
open Cert.KernelIdeal.Gen

/-- The row kernel's windows over its 14 by 8 points: the row blocks begin at the third. -/
theorem rows_index : ∀ t : Fin cfg1.N, win1_0.index t = ![t.val / 8 + 2, 0] ∧ win1_1.index t = ![0, 0] ∧ win1_2.index t = ![t.val % 8, 0]
    ∧ win1_3.index t = ![0, 0] ∧ win1_4.index t = ![t.val / 8 + 2, t.val % 8] ∧ win1_5.index t = ![0, t.val / 8 + 2] :=
  (by decide +kernel : ∀ t : Fin grid1.N, _)

variable (V : Dev nD → Valuation τ sig (Elt Ideal))

theorem rowsBlk0_apply (c : Dev nD) (t : Fin cfg1.N) (r : Fin 1024) (k : Fin 2048) (q : Fin 16384) (hq : q.val = (t.val / 8 + 2) * 1024 + r.val) :
    (rowsBlk V c 0 t : FVec Ideal S1024x2048 .f32) (ix2 r k) = (V c main_v0 : FVec Ideal S16384x2048 .f32) (ix2 q k) := by
  obtain ⟨h, -⟩ := rows_index t
  blk_ext [rowsBlk, h]
theorem rowsBlk1_eq (c : Dev nD) (t : Fin cfg1.N) : (rowsBlk V c 1 t : FVec Ideal S1x2048 .f32) = (V c main_v2 : FVec Ideal S1x2048 .f32) := by
  obtain ⟨-, h, -⟩ := rows_index t
  funext y
  blk_ext [rowsBlk, h]
theorem rowsBlk2_apply (c : Dev nD) (t : Fin cfg1.N) (a k : Fin 2048) (q : Fin 16384) (hq : q.val = t.val % 8 * 2048 + a.val) :
    (rowsBlk V c 2 t : FVec Ideal S2048x2048 .bf16) (ix2 a k) = (V c main_v5_2 : FVec Ideal S16384x2048 .bf16) (ix2 q k) := by
  obtain ⟨-, -, h, -⟩ := rows_index t
  blk_ext [rowsBlk, h]
theorem rowsBlk3_eq (c : Dev nD) (t : Fin cfg1.N) : (rowsBlk V c 3 t : FVec Ideal S32x2048 .bf16) = (V c main_v5_3 : FVec Ideal S32x2048 .bf16) := by
  obtain ⟨-, -, -, h, -⟩ := rows_index t
  funext y
  blk_ext [rowsBlk, h]

/-- The rows the scratch holds at point `n` are the normalised rows of that point's row block. -/
theorem rowsNormed_apply (c : Dev nD) (t : Fin cfg1.N) (r : Fin 1024) (k : Fin 2048) (q : Fin 16384) (hq : q.val = (t.val / 8 + 2) * 1024 + r.val) :
    (rowsNormed V c t.val : FVec Ideal S1024x2048 .bf16) (ix2 r k)
    = normAt (V c main_v0 : FVec Ideal S16384x2048 .f32) (V c main_v2 : FVec Ideal S1x2048 .f32) q k := by
  unfold rowsNormed blockRows
  refine (normRows_apply (R := 1024) dvd_1024 _ _ r k).trans ?_
  rw [rowsBlk1_eq]
  refine normAt_row (R := 1024) (R' := 16384) _ k fun j => rowsBlk0_apply V c (rowsStart t.val) r j q ?_
  have ht : t.val < 112 := t.isLt.trans_eq N_1
  show q.val = ((t.val - t.val % 8) % 112 / 8 + 2) * 1024 + r.val
  omega

/-- The main result after the row kernel. -/
theorem rows_main (c : Dev nD) : ((rowsDat V c).arrAt 4 cfg1.N : FVec Ideal S16384x16384 .bf16)
    = fun i => if 2 ≤ (i 0 : ℕ) / 1024 then ∑ k : Fin 2048, normAt (V c main_v0 : FVec Ideal S16384x2048 .f32) (V c main_v2 : FVec Ideal S1x2048 .f32) (i 0) k
          * (V c main_v5_2 : FVec Ideal S16384x2048 .bf16) (ix2 (i 1) k)
        else (V c main_v6_0 : FVec Ideal S16384x16384 .bf16) i := by
  refine (rowsDat V c).arrAt_eq_of_coversWhere 4 _ (fun β => 2 ≤ β (0 : Fin 2)) (by decide +kernel) (fun t hf y => ?_) (fun j => Iff.rfl)
  have h := (rows_index t).2.2.2.2.1
  blk_simp
  rw [rowsAfter4]
  obtain ⟨r, a, rfl⟩ : ∃ (r : Fin 1024) (a : Fin 2048), y = (ix2 r a : S1024x2048.Idx) := ⟨y 0, y 1, by blk_ext⟩
  refine (row2_apply _ _ r a).trans ?_
  refine Finset.sum_congr rfl fun k _ => ?_
  refine congrArg₂ (· * ·) (rowsNormed_apply V c t r k _ ?_) (rowsBlk2_apply V c t a k _ ?_)
  · blk_simp [h]
  · blk_simp [h]

/-- The time-step rows `w` times a normalised row. -/
def stepWith (w : FVec Ideal S32x2048 .bf16) (x : FVec Ideal S16384x2048 .f32) (nw : FVec Ideal S1x2048 .f32) (e : Fin 32) (r : Fin 16384) : EReal :=
  ∑ k : Fin 2048, w (ix2 e k) * normAt x nw r k

/-- The time-step result after the row kernel. -/
theorem rows_step (c : Dev nD) : ((rowsDat V c).arrAt 5 cfg1.N : FVec Ideal S32x16384 .f32)
    = fun i => if 2 ≤ (i 1 : ℕ) / 1024 then stepWith (V c main_v5_3 : FVec Ideal S32x2048 .bf16) (V c main_v0 : FVec Ideal S16384x2048 .f32) (V c main_v2 : FVec Ideal S1x2048 .f32) (i 0) (i 1)
        else (V c main_v6_1 : FVec Ideal S32x16384 .f32) i := by
  refine (rowsDat V c).arrAt_eq_of_coversWhere 5 _ (fun β => 2 ≤ β (1 : Fin 2)) (by decide +kernel) (fun t hf y => ?_) (fun j => Iff.rfl)
  have h := (rows_index t).2.2.2.2.2
  blk_simp
  rw [rowsAfter5]
  obtain ⟨e, r, rfl⟩ : ∃ (e : Fin 32) (r : Fin 1024), y = (ix2 e r : S32x1024.Idx) := ⟨y 0, y 1, by blk_ext⟩
  refine (row1_apply _ _ e r).trans ?_
  unfold stepWith
  refine Finset.sum_congr rfl fun k _ => ?_
  refine congrArg₂ (· * ·) ?_ (rowsNormed_apply V c t r k _ ?_)
  · rw [rowsBlk3_eq]
    exact congrArg (fun q => (V c main_v5_3 : FVec Ideal S32x2048 .bf16) (ix2 q k)) (Fin.ext (by blk_simp [h]))
  · blk_simp [h]

end Cert.KernelIdeal.Inproj

end
-- ==== Proof.Result.lean ====
/- The two results after the whole program, at exact arithmetic, over the arrays the host operations prepare. -/
module

public import proofs.«01_k».proof.Proof.Run
public import proofs.«01_k».proof.Proof.HeadValue
public import proofs.«01_k».proof.Proof.RowsValue

@[expose] public section

set_option maxRecDepth 16384

noncomputable section

namespace Cert.KernelIdeal.Inproj

open Idealize.ShloMosaic Idealize.ShloMosaic.TcCoe Idealize.SL.Sem Idealize.ShloMosaic.StableHlo
open Cert.KernelIdeal.Gen

variable (m : (ℓ : Loc nD τ sig) → Buf (Elt Ideal) ℓ)

/-- The rows, the norm weights and the transposed weights the kernels read. -/
abbrev rowsIn (c : Dev nD) : FVec Ideal S16384x2048 .f32 := U1 m c main_v0
abbrev normIn (c : Dev nD) : FVec Ideal S1x2048 .f32 := U1 m c main_v2
abbrev weightIn (c : Dev nD) : FVec Ideal S16416x2048 .f32 := U1 m c main_v4

theorem U3_rows (c : Dev nD) : U3 m c main_v0 = U1 m c main_v0 := (U3_of m c main_v0 (by decide)).trans (U2_of m c main_v0 (by decide))
theorem U3_norm (c : Dev nD) : U3 m c main_v2 = U1 m c main_v2 := (U3_of m c main_v2 (by decide)).trans (U2_of m c main_v2 (by decide))
theorem U3_mainRows (c : Dev nD) : U3 m c main_v5_2 = (headDat (U1 m) c).arrAt 6 cfg0.N := (U3_of m c main_v5_2 (by decide)).trans (U2_res2 m c)
theorem U3_stepRows (c : Dev nD) : U3 m c main_v5_3 = (headDat (U1 m) c).arrAt 7 cfg0.N := (U3_of m c main_v5_3 (by decide)).trans (U2_res3 m c)
/-- The row kernel's results begin as copies of the head kernel's. -/
theorem U3_main (c : Dev nD) : U3 m c main_v6_0 = (headDat (U1 m) c).arrAt 4 cfg0.N := by
  refine Eq.trans ?_ (U2_res0 m c)
  unfold U3
  after_results
  all_goals rfl
theorem U3_step (c : Dev nD) : U3 m c main_v6_1 = (headDat (U1 m) c).arrAt 5 cfg0.N := by
  refine Eq.trans ?_ (U2_res1 m c)
  unfold U3
  after_results
  all_goals rfl

/-- The main result: every element is the product's. -/
theorem result_main (c : Dev nD) : ((rowsDat (U3 m) c).arrAt 4 cfg1.N : FVec Ideal S16384x16384 .bf16)
    = fun i => mainAt (rowsIn m c) (normIn m c) (weightIn m c) (i 0) (i 1) := by
  rw [rows_main, U3_main, U3_rows, U3_norm, U3_mainRows]
  funext i
  show (if _ then _ else _) = _
  split
  · unfold mainAt
    refine Finset.sum_congr rfl fun k _ => congrArg (fun q : EReal => normAt (rowsIn m c) (normIn m c) (i 0) k * q) ?_
    exact congrFun (head_rows (U1 m) c) _
  · refine (congrFun (head_main (U1 m) c) i).trans (if_pos ?_)
    have := (i 0).isLt
    omega

/-- The time-step result: every element is the product's. -/
theorem result_step (c : Dev nD) : ((rowsDat (U3 m) c).arrAt 5 cfg1.N : FVec Ideal S32x16384 .f32)
    = fun i => stepAt (rowsIn m c) (normIn m c) (weightIn m c) (i 0) (i 1) := by
  rw [rows_step, U3_step, U3_rows, U3_norm, U3_stepRows]
  funext i
  show (if _ then _ else _) = _
  split
  · unfold stepWith stepAt
    refine Finset.sum_congr rfl fun k _ => congrArg (fun q : EReal => q * normAt (rowsIn m c) (normIn m c) (i 1) k) ?_
    exact congrFun (head_steps (U1 m) c) _
  · refine (congrFun (head_step (U1 m) c) i).trans (if_pos ?_)
    have := (i 1).isLt
    omega

/-- The prepared arrays over the arguments. -/
theorem rowsIn_eq (c : Dev nD) : rowsIn m c = shapeCast S16384x2048 (m ((c : Thread nD τ).loc main_arg0)) shapeCasts_S4x4096x2048_S16384x2048 := by
  unfold rowsIn U1
  after_results
  all_goals rfl
theorem normIn_eq (c : Dev nD) : normIn m c = broadcastInDim S1x2048 ![1] bcast_S2048_S1x2048_1 (shapeCast S2048 (m ((c : Thread nD τ).loc main_arg1)) shapeCasts_S1x2048_S2048) := by
  unfold normIn U1
  after_results
  all_goals rfl
theorem weightIn_eq (c : Dev nD) : weightIn m c = transpose S16416x2048 [1, 0] (shapeCast S2048x16416 (m ((c : Thread nD τ).loc main_arg2)) shapeCasts_S1x2048x16416_S2048x16416) transposes_S2048x16416_S16416x2048_1_0 := by
  unfold weightIn U1
  after_results
  all_goals rfl

end Cert.KernelIdeal.Inproj

end
-- ==== Proof.Equation.lean ====
/- The reference's two results at an index are the same sums as the kernels'. -/
module

public import proofs.«01_k».proof.Proof.Spec
public import proofs.«01_k».proof.Proof.Gen.KernelIdeal
public import proofs.«01_k».proof.Proof.Gen.ReferenceIdeal

@[expose] public section

set_option maxRecDepth 16384

noncomputable section

namespace Cert.ReferenceIdeal.Inproj

open Idealize.ShloMosaic Idealize.ShloMosaic.TcCoe
open Cert.ReferenceIdeal Cert.ReferenceIdeal.Gen
open Cert.KernelIdeal.Inproj (normAt mainRow stepRow mainAt stepAt)

variable (x : FVec Ideal S4x4096x2048 .f32) (nw : FVec Ideal S1x2048 .f32) (w : FVec Ideal S1x2048x16416 .f32)

/-- The arguments as the kernels read them: the batch and sequence axes joined, the weights transposed. -/
def rowsOf : FVec Ideal Cert.KernelIdeal.S16384x2048 .f32 :=
  shapeCast Cert.KernelIdeal.S16384x2048 x Cert.KernelIdeal.Gen.shapeCasts_S4x4096x2048_S16384x2048
def normOf : FVec Ideal Cert.KernelIdeal.S1x2048 .f32 :=
  broadcastInDim Cert.KernelIdeal.S1x2048 ![1] Cert.KernelIdeal.Gen.bcast_S2048_S1x2048_1 (shapeCast Cert.KernelIdeal.S2048 nw Cert.KernelIdeal.Gen.shapeCasts_S1x2048_S2048)
def weightOf : FVec Ideal Cert.KernelIdeal.S16416x2048 .f32 :=
  transpose Cert.KernelIdeal.S16416x2048 [1, 0] (shapeCast Cert.KernelIdeal.S2048x16416 w Cert.KernelIdeal.Gen.shapeCasts_S1x2048x16416_S2048x16416) Cert.KernelIdeal.Gen.transposes_S2048x16416_S16416x2048_1_0

/-- The reference's product of the normalised rows with all the weights. -/
def product : FVec Ideal S4x4096x16416 .f32 :=
  Host.dotGeneral (F := Ideal) (φ₁ := .f32) (φ₂ := .f32) dot_S4x4096x2048_S2048x16416_S4x4096x16416_2_0_01_1_n_n none
    (mulf (mulf x (broadcastInDim S4x4096x2048 ![0, 1, 2] bcast_S4x4096x1_S4x4096x2048_0_1_2 (Host.rsqrt (addf
      (Host.divf (broadcastInDim S4x4096x1 ![0, 1] bcast_S4x4096_S4x4096x1_0_1 (Host.reduceAdd (mulf x x) (constant S_ .f32 0x00000000#32) reducesTo_S4x4096x2048_S4x4096_d2 h_S_))
        (broadcastInDim S4x4096x1 ![] bcast_S_S4x4096x1 (constant S_ .f32 0x45000000#32)))
      (broadcastInDim S4x4096x1 ![] bcast_S_S4x4096x1 (constant S_ .f32 0x3727C5AC#32))))))
      (broadcastInDim S4x4096x2048 ![0, 1, 2] bcast_S1x1x2048_S4x4096x2048_0_1_2 (broadcastInDim S1x1x2048 ![2] bcast_S2048_S1x1x2048_2 (shapeCast _ nw shapeCasts_S1x2048_S2048))))
    (shapeCast _ w shapeCasts_S1x2048x16416_S2048x16416)

theorem rowsOf_apply (r : Fin 16384) (k : Fin 2048) (a : Fin 4) (s : Fin 4096) (ha : a.val = r.val / 4096) (hs : s.val = r.val % 4096) :
    rowsOf x (ix2 r k) = x (ix3 a s k) := by
  pointwise [rowsOf]
  exact congrArg₂ (fun a s => x (ix3 a s k)) (Fin.ext ha.symm) (Fin.ext hs.symm)
theorem normOf_apply (k : Fin 2048) : normOf nw (ix2 0 k) = nw (ix2 0 k) := by
  pointwise [normOf]
theorem weightOf_apply (q : Fin 16416) (k : Fin 2048) : weightOf w (ix2 q k) = w (ix3 0 k q) := by
  pointwise [weightOf]

/-- The product at row `s` of batch `a`, which is row `4096 a + s` of the joined rows. -/
theorem product_apply (r : Fin 16384) (q : Fin 16416) (a : Fin 4) (s : Fin 4096) (ha : a.val = r.val / 4096) (hs : s.val = r.val % 4096) :
    product x nw w (ix3 a s q) = ∑ k : Fin 2048, normAt (R := 16384) (rowsOf x) (normOf nw) r k * weightOf w (ix2 q k) := by
  simp only [normAt, rowsOf_apply x r _ a s ha hs, normOf_apply, weightOf_apply]
  pointwise [product]

/-- The reference's main result. -/
theorem main_apply (i : S16384x16384.Idx) :
    truncf .bf16 (shapeCast S16384x16384 (concatenate S4x4096x16384 2
        [⟨S4x4096x12288, extractStridedSlice S4x4096x12288 ![0, 0, 0] (product x nw w) slices_S4x4096x16416_S4x4096x12288_0_0_0⟩,
          ⟨S4x4096x4096, extractStridedSlice S4x4096x4096 ![0, 0, 12320] (product x nw w) slices_S4x4096x16416_S4x4096x4096_0_0_12320⟩]
        concatenates_S4x4096x12288_S4x4096x4096_S4x4096x16384_d2) shapeCasts_S4x4096x16384_S16384x16384) bitsLt_bf16_f32 i
      = mainAt (rowsOf x) (normOf nw) (weightOf w) (i 0) (i 1) := by
  generalize hp : product x nw w = p
  pointwise
  subst hp
  unfold mainAt
  split
  · refine (product_apply x nw w (i 0) _ _ _ rfl rfl).trans (Finset.sum_congr rfl fun k _ => ?_)
    refine congrArg (fun q => normAt (R := 16384) (rowsOf x) (normOf nw) (i 0) k * weightOf w (ix2 q k)) (Fin.ext ?_)
    simp only [mainRow]
    rw [if_pos ‹_›]
  · refine (product_apply x nw w (i 0) _ _ _ rfl rfl).trans (Finset.sum_congr rfl fun k _ => ?_)
    refine congrArg (fun q => normAt (R := 16384) (rowsOf x) (normOf nw) (i 0) k * weightOf w (ix2 q k)) (Fin.ext ?_)
    simp only [mainRow]
    rw [if_neg ‹_›]
    omega

/-- The reference's time-step result. -/
theorem step_apply (i : S32x16384.Idx) :
    transpose S32x16384 [1, 0] (shapeCast S16384x32 (extractStridedSlice S4x4096x32 ![0, 0, 12288] (product x nw w) slices_S4x4096x16416_S4x4096x32_0_0_12288)
        shapeCasts_S4x4096x32_S16384x32) transposes_S16384x32_S32x16384_1_0 i
      = stepAt (rowsOf x) (normOf nw) (weightOf w) (i 0) (i 1) := by
  generalize hp : product x nw w = p
  pointwise
  subst hp
  unfold stepAt
  refine (product_apply x nw w (i 1) _ _ _ rfl rfl).trans (Finset.sum_congr rfl fun k _ => ?_)
  exact mul_comm _ _

end Cert.ReferenceIdeal.Inproj

end
-- ==== Proof.Claims.lean ====
/- The claims about the in-projection: the three frames and the equation of the two programs' results. -/
module

public import proofs.«01_k».proof.Defs
public import proofs.«01_k».proof.Proof.SameText
public import proofs.«01_k».proof.Proof.Result
public import proofs.«01_k».proof.Proof.Equation
public import proofs.«01_k».proof.Proof.Gen.ReferenceIdeal.Run

@[expose] public section

set_option maxRecDepth 16384

noncomputable section

namespace Cert.Inproj

open Idealize.ShloMosaic Idealize.ShloMosaic.TcCoe Idealize.SL.Sem
open Cert.KernelIdeal.Inproj

/-- The kernel terminates with its arguments unchanged and every semaphore at zero; its text is the idealized program's, so its run is that one at words. -/
theorem frame_kernel : Cert.quiescent_Kernel := by
  intro m ρ _
  rw [defs_same, main_same]
  exact run_frame (F := Bits) m ρ

theorem frame_kernelIdeal : Cert.quiescent_KernelIdeal :=
  fun m ρ _ => run_frame (F := Ideal) m ρ

/-- The reference terminates with its arguments unchanged; it has no semaphore. -/
theorem frame_referenceIdeal : Cert.quiescent_ReferenceIdeal :=
  fun m ρ _ => (θ_run Cert.ReferenceIdeal.defs _ _).mono
    (fun r h => ⟨fun c => ⟨(h c).2.2.1, (h c).2.2.2.1, (h c).2.2.2.2⟩, sem_eq_zero_of_no_sems (by decide) r.2⟩)
    (Cert.ReferenceIdeal.Value.run (F := Ideal) m ρ)

/-- From equal arguments both programs end with equal results, element by element: the main columns and the time-step columns. -/
theorem equal_results : Cert.algebraic_KernelIdeal_ReferenceIdeal := by
  intro m ρ m' ρ' _ hagree
  refine ⟨fun c => (rowsDat (U3 m) c).arrAt 4 Cert.KernelIdeal.cfg1.N, fun c => (rowsDat (U3 m) c).arrAt 5 Cert.KernelIdeal.cfg1.N, ?_, ?_⟩
  · exact (θ_run Cert.KernelIdeal.defs _ _).mono (fun _ h c => ⟨(h c).1, (h c).2.1, (h c).2.2.1, (h c).2.2.2.1, (h c).2.2.2.2⟩) (run_all (F := Ideal) m ρ)
  · refine (θ_run Cert.ReferenceIdeal.defs _ _).mono (fun _ h c => ⟨(h c).1.trans ?_, (h c).2.1.trans ?_, (h c).2.2.1, (h c).2.2.2.1, (h c).2.2.2.2⟩)
      (Cert.ReferenceIdeal.Value.run (F := Ideal) m' ρ')
    · obtain ⟨h0, h1, h2⟩ := hagree c
      rw [h0, h1, h2]
      refine Eq.trans ?_ (result_main m c).symm
      rw [rowsIn_eq, normIn_eq, weightIn_eq]
      exact funext fun i => Cert.ReferenceIdeal.Inproj.main_apply _ _ _ i
    · obtain ⟨h0, h1, h2⟩ := hagree c
      rw [h0, h1, h2]
      refine Eq.trans ?_ (result_step m c).symm
      rw [rowsIn_eq, normIn_eq, weightIn_eq]
      exact funext fun i => Cert.ReferenceIdeal.Inproj.step_apply _ _ _ i

end Cert.Inproj

end
-- ==== Proof.Merge.SameText.lean ====
/- The merge and its idealization have the same text, so their bodies, and the programs around them, are equal at words. -/
module

public import proofs.«01_k».proof.Defs
public import proofs.«01_k».proof.Proof.Gen.Kernel2
public import proofs.«01_k».proof.Proof.Gen.Kernel2Ideal

@[expose] public section

set_option maxRecDepth 16384

noncomputable section

namespace Cert.Merge

open Idealize.ShloMosaic Idealize.ShloMosaic.TcCoe Idealize.SL.Sem

theorem body_same : @Cert.Kernel2.cc0_merge Bits _ _ = @Cert.Kernel2Ideal.cc0_merge Bits _ _ := rfl

theorem defs₀_same : Cert.Kernel2.defs₀ (F := Bits) = Cert.Kernel2Ideal.defs₀ (F := Bits) := by
  unfold Cert.Kernel2.defs₀ Cert.Kernel2Ideal.defs₀
  refine congrArg (Defs.onTc (nD := Cert.Kernel2Ideal.nD) (τ := Cert.Kernel2Ideal.τ) (sig := Cert.Kernel2Ideal.sig) (Val := Elt Bits) (Λ := Cert.Kernel2Ideal.Λ₀)) (funext fun l => funext fun x => ?_)
  match l, x with
  | 0, (t, s) =>
    rw [body_same]; dsimp only; rfl
  | ⟨_ + 1, h⟩, _ => exact absurd h (Nat.not_lt.2 (Nat.le_add_left _ _))

theorem defs_same : Cert.Kernel2.defs (F := Bits) = Cert.Kernel2Ideal.defs (F := Bits) := by
  unfold Cert.Kernel2.defs Cert.Kernel2Ideal.defs
  rw [defs₀_same]
  rfl
theorem main_same : Cert.Kernel2.main (F := Bits) = Cert.Kernel2Ideal.main (F := Bits) := rfl

end Cert.Merge
end
-- ==== Proof.Merge.Gate.lean ====
/- The gate functions as the two programs write them: the sigmoid through a hyperbolic tangent and through an exponential, and the
   product of a number with its own sigmoid. -/
module

public import Idealize.ShloMosaic.Lib.Pipeline.ValueKit

@[expose] public section

noncomputable section

namespace Cert.Merge

open Idealize.ShloMosaic

/-- One half, in both formats. -/
theorem half_f32 : Ideal.ofBits .f32 0x3F000000#32 = ((1 / 2 : ℝ) : EReal) := by
  simp [Ideal.ofBits, Ideal.ieee, -EReal.coe_mul]; norm_num
theorem half_bf16 : Ideal.ofBits .bf16 0x3F00#16 = ((1 / 2 : ℝ) : EReal) := by
  simp [Ideal.ofBits, Ideal.ieee, -EReal.coe_mul]; norm_num

/-- The sigmoid of the reference. -/
def sigmoid (x : EReal) : EReal := Ideal.div 1 (1 + Ideal.exp (-x))

theorem sigmoid_real (r : ℝ) : sigmoid r = ((1 / (1 + Real.exp (-r)) : ℝ) : EReal) := by
  have h : (0 : ℝ) < 1 + Real.exp (-r) := by positivity
  show Ideal.div 1 (1 + Ideal.exp (-(r : EReal))) = _
  rw [show -(r : EReal) = ((-r : ℝ) : EReal) from (EReal.coe_neg r).symm]
  show Ideal.div 1 (1 + ((Real.exp (-r) : ℝ) : EReal)) = _
  rw [show (1 : EReal) + ((Real.exp (-r) : ℝ) : EReal) = ((1 + Real.exp (-r) : ℝ) : EReal) from by push_cast; rfl]
  unfold Ideal.div
  rw [if_neg (by exact_mod_cast h.ne'), ← EReal.coe_inv, one_mul, one_div]

theorem tanh_half (r : ℝ) : 1 / 2 + 1 / 2 * Real.tanh (1 / 2 * r) = 1 / (1 + Real.exp (-r)) := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [h1]
  have p := Real.exp_pos (1 / 2 * r)
  have q := Real.exp_pos (-(1 / 2 * r))
  generalize Real.exp (1 / 2 * r) = a at *
  generalize Real.exp (-(1 / 2 * r)) = b at *
  have hb : b = 1 / a := by field_simp; linarith
  subst hb
  field_simp
  ring

/-- The sigmoid through the hyperbolic tangent is the sigmoid, at the infinities too. -/
theorem sigmoid_tanh (x : EReal) :
    ((1 / 2 : ℝ) : EReal) + ((1 / 2 : ℝ) : EReal) * Ideal.tanh (((1 / 2 : ℝ) : EReal) * x) = sigmoid x := by
  have hp : (0 : ℝ) < 1 / 2 := by norm_num
  induction x with
  | bot =>
    rw [EReal.coe_mul_bot_of_pos hp]
    show _ + _ * (-1 : EReal) = Ideal.div 1 (1 + Ideal.exp (- ⊥))
    rw [EReal.neg_bot]
    show _ = Ideal.div 1 (1 + ⊤)
    rw [show (1 : EReal) + ⊤ = ⊤ from EReal.add_top_of_ne_bot (by decide)]
    unfold Ideal.div
    rw [if_neg (by decide), EReal.inv_top, mul_zero]
    have : ((1 / 2 : ℝ) : EReal) * (-1) = ((-(1 / 2) : ℝ) : EReal) := by
      rw [show (-1 : EReal) = ((-1 : ℝ) : EReal) from by norm_num, ← EReal.coe_mul]; norm_num
    rw [this, ← EReal.coe_add]; norm_num
  | top =>
    rw [EReal.coe_mul_top_of_pos hp]
    show _ + _ * (1 : EReal) = Ideal.div 1 (1 + Ideal.exp (- ⊤))
    rw [EReal.neg_top]
    show _ = Ideal.div 1 (1 + 0)
    unfold Ideal.div
    rw [add_zero, if_neg (by norm_num), mul_one, ← EReal.coe_add]
    norm_num
  | coe r =>
    rw [← EReal.coe_mul]
    show _ + _ * ((Real.tanh (1 / 2 * r) : ℝ) : EReal) = _
    rw [← EReal.coe_mul, ← EReal.coe_add, sigmoid_real, tanh_half]

/-- A number above minus infinity times its sigmoid, as the kernel computes it. -/
theorem silu_tanh (x : EReal) (h : x ≠ ⊥) :
    ((1 / 2 : ℝ) : EReal) * x + ((1 / 2 : ℝ) : EReal) * x * Ideal.tanh (((1 / 2 : ℝ) : EReal) * x) = x * sigmoid x := by
  have hp : (0 : ℝ) < 1 / 2 := by norm_num
  induction x with
  | bot => exact absurd rfl h
  | top =>
    rw [← sigmoid_tanh ⊤, EReal.coe_mul_top_of_pos hp]
    show ⊤ + ⊤ * (1 : EReal) = ⊤ * (_ + _ * (1 : EReal))
    rw [mul_one, mul_one, ← EReal.coe_add, EReal.top_mul_coe_of_pos (by norm_num)]
    rfl
  | coe r =>
    rw [sigmoid_real, ← EReal.coe_mul]
    show _ + _ * ((Real.tanh (1 / 2 * r) : ℝ) : EReal) = _
    rw [← EReal.coe_mul, ← EReal.coe_add, ← EReal.coe_mul, ← tanh_half]
    congr 1
    ring

end Cert.Merge

end
-- ==== Proof.Merge.Spec.lean ====
/- The merge at exact arithmetic, one row at a time: the gated branch from its chunk of 128 rows, the two branch products under
   their gates, the output product with the residual, and the final norm. -/
module

public import proofs.«01_k».proof.Proof.Merge.Gate

@[expose] public section

noncomputable section

namespace Cert.Merge

open Idealize.ShloMosaic

/-- The mean of 2048 entries, the count as both programs spell it. -/
def mean (v : Fin 2048 → EReal) : EReal := Ideal.div (∑ j : Fin 2048, v j) (Ideal.ofBits .f32 0x45000000#32)

/-- Entry `k` of the layer norm of a row with weights `w` and offsets `b`. -/
def layerNorm (v w b : Fin 2048 → EReal) (k : Fin 2048) : EReal :=
  (v k - mean v) * Ideal.rsqrt (mean (fun j => (v j - mean v) * (v j - mean v)) + Ideal.ofBits .f32 0x3727C5AC#32) * w k + b k

/-- Entry `k` of row `r` of a chunk of the gated branch: the gate `h`, the branch `u`, and the normalised rows `V` up to `r` of the
chunk mixed by the row's weights `W` of the entry's group, with the offset `o`. -/
def gated (h u : Fin 2048 → EReal) (V : Fin 128 → Fin 2048 → EReal) (w b : Fin 2048 → EReal) (W : Fin 8 → Fin 128 → EReal)
    (o : Fin 8 → EReal) (r : Fin 128) (k : Fin 2048) : EReal :=
  h k * u k * ((∑ s : Fin 128, (if s.val ≤ r.val then W ⟨k.val / 256, by have := k.isLt; omega⟩ s else 0) * layerNorm (V s) w b k)
    + o ⟨k.val / 256, by have := k.isLt; omega⟩)

/-- Entry `k` of the sum of the two branches' products, each under its gate. -/
def merged (ya yb s0 s1 : Fin 2048 → EReal) (w0 w1 : Fin 2048 → Fin 2048 → EReal) (k : Fin 2048) : EReal :=
  s0 k * (∑ e : Fin 2048, ya e * w0 e k) + s1 k * ∑ e : Fin 2048, yb e * w1 e k

/-- Entry `k` of the residual row plus the output product. -/
def residual (x mg : Fin 2048 → EReal) (wo : Fin 2048 → Fin 2048 → EReal) (k : Fin 2048) : EReal :=
  x k + ∑ j : Fin 2048, mg j * wo j k

/-- Entry `k` of a row divided by its root mean square, times the weights. -/
def rmsNorm (v w : Fin 2048 → EReal) (k : Fin 2048) : EReal :=
  v k * Ideal.rsqrt (mean (fun j => v j * v j) + Ideal.ofBits .f32 0x3727C5AC#32) * w k

end Cert.Merge

end
-- ==== Proof.Merge.Block.lean ====
/- The merge's payloads at an index. -/
module

public import proofs.«01_k».proof.Proof.Merge.Spec
public import proofs.«01_k».proof.Proof.Gen.Kernel2Ideal.Value

@[expose] public section

set_option maxRecDepth 16384

noncomputable section

namespace Cert.Kernel2Ideal.Merge

open Idealize.ShloMosaic Idealize.ShloMosaic.TcCoe
open Cert.Kernel2Ideal Cert.Kernel2Ideal.Gen Cert.Merge

/-- The normalised rows of the first chunk. -/
theorem norm16 (w b : FVec Ideal S1x2048 .f32) (V : FVec Ideal S128x2048 .bf16) (s : Fin 128) (k : Fin 2048) :
    k0_pay16 (F := Ideal) (k0_pay12 w) (k0_pay13 b) (k0_pay14 V) (k0_pay15 V) (ix2 s k)
      = layerNorm (fun j => V (ix2 s j)) (fun j => w (ix2 0 j)) (fun j => b (ix2 0 j)) k := by
  pointwise [k0_pay16, k0_pay12, k0_pay13, k0_pay14, k0_pay15]
  rfl
/-- The normalised rows of the second chunk. -/
theorem norm31 (w b : FVec Ideal S1x2048 .f32) (V : FVec Ideal S128x2048 .bf16) (s : Fin 128) (k : Fin 2048) :
    k0_pay31 (F := Ideal) (k0_pay12 w) (k0_pay13 b) V (ix2 s k)
      = layerNorm (fun j => V (ix2 s j)) (fun j => w (ix2 0 j)) (fun j => b (ix2 0 j)) k := by
  pointwise [k0_pay31, k0_pay12, k0_pay13]
  rfl
/-- The causal select at an index. -/
theorem causal (r s : Fin 128) (a b : EReal) :
    Scalar.select (IntOp.cmpi CmpIPredicate.sle (BitVec.ofNat 32 s.val) (BitVec.ofNat 32 r.val)) a b = if s.val ≤ r.val then a else b := by
  have h : ∀ r s : Fin 128, IntOp.cmpi CmpIPredicate.sle (BitVec.ofNat 32 s.val) (BitVec.ofNat 32 r.val) = if s.val ≤ r.val then 1#1 else 0#1 := by
    decide +kernel
  rw [h]
  split <;> rfl
theorem mask4 (W : FVec Ideal S1x128x128 .f32) (r s : Fin 128) :
    k0_pay4 (F := Ideal) W (ix2 r s) = if s.val ≤ r.val then W (ix3 0 r s) else 0 := by
  pointwise [k0_pay4, k0_pay3]
  exact causal r s _ _
theorem mask5 (W : FVec Ideal S1x128x128 .f32) (r s : Fin 128) :
    k0_pay5 (F := Ideal) W (ix2 r s) = if s.val ≤ r.val then W (ix3 0 r s) else 0 := by
  pointwise [k0_pay5, k0_pay3]
  exact causal r s _ _
theorem mask6 (W : FVec Ideal S1x128x128 .f32) (r s : Fin 128) :
    k0_pay6 (F := Ideal) W (ix2 r s) = if s.val ≤ r.val then W (ix3 0 r s) else 0 := by
  pointwise [k0_pay6, k0_pay3]
  exact causal r s _ _
theorem mask7 (W : FVec Ideal S1x128x128 .f32) (r s : Fin 128) :
    k0_pay7 (F := Ideal) W (ix2 r s) = if s.val ≤ r.val then W (ix3 0 r s) else 0 := by
  pointwise [k0_pay7, k0_pay3]
  exact causal r s _ _
theorem mask8 (W : FVec Ideal S1x128x128 .f32) (r s : Fin 128) :
    k0_pay8 (F := Ideal) W (ix2 r s) = if s.val ≤ r.val then W (ix3 0 r s) else 0 := by
  pointwise [k0_pay8, k0_pay3]
  exact causal r s _ _
theorem mask9 (W : FVec Ideal S1x128x128 .f32) (r s : Fin 128) :
    k0_pay9 (F := Ideal) k0_pay3 W (ix2 r s) = if s.val ≤ r.val then W (ix3 0 r s) else 0 := by
  pointwise [k0_pay9, k0_pay3]
  exact causal r s _ _
theorem mask10 (W : FVec Ideal S1x128x128 .f32) (r s : Fin 128) :
    k0_pay10 (F := Ideal) k0_pay3 W (ix2 r s) = if s.val ≤ r.val then W (ix3 0 r s) else 0 := by
  pointwise [k0_pay10, k0_pay3]
  exact causal r s _ _
theorem mask11 (W : FVec Ideal S1x128x128 .f32) (r s : Fin 128) :
    k0_pay11 (F := Ideal) k0_pay3 W (ix2 r s) = if s.val ≤ r.val then W (ix3 0 r s) else 0 := by
  pointwise [k0_pay11, k0_pay3]
  exact causal r s _ _
theorem pay1_apply (yb ya s0 t1 h : FVec Ideal S256x2048 .f32) (x : FVec Ideal S256x2048 .f32) (wo : FVec Ideal S2048x2048 .bf16) (fn : FVec Ideal S1x2048 .f32) (r : Fin 256) (k : Fin 2048) :
    k0_pay1 (F := Ideal) yb ya s0 t1 h x wo fn (ix2 r k)
      = rmsNorm (residual (fun j => x (ix2 r j)) (fun j => s0 (ix2 r j) * ya (ix2 r j) + (((1 / 2 : ℝ) : EReal) + h (ix2 r j) * t1 (ix2 r j)) * yb (ix2 r j)) (fun i j => wo (ix2 i j))) (fun j => fn (ix2 0 j)) k := by
  pointwise [k0_pay1]
  rw [half_f32]
  rfl
theorem pay2_apply (y : FVec Ideal S256x2048 .bf16) (w : FVec Ideal S2048x2048 .bf16) (r : Fin 256) (k : Fin 2048) :
    k0_pay2 (F := Ideal) y w (ix2 r k) = ∑ e : Fin 2048, y (ix2 r e) * w (ix2 e k) := by
  pointwise [k0_pay2]
theorem pay47_apply (y : FVec Ideal S256x2048 .bf16) (w : FVec Ideal S2048x2048 .bf16) (r : Fin 256) (k : Fin 2048) :
    k0_pay47 (F := Ideal) y w (ix2 r k) = ∑ e : Fin 2048, y (ix2 r e) * w (ix2 e k) := by
  pointwise [k0_pay47]
theorem pay48_apply (g : FVec Ideal S256x2048 .bf16) (b : FVec Ideal S1x2048 .f32) (r : Fin 256) (k : Fin 2048) :
    k0_pay48 (F := Ideal) g b (ix2 r k) = sigmoid (g (ix2 r k) + b (ix2 0 k)) := by
  pointwise [k0_pay48]
  rw [half_f32]
  exact sigmoid_tanh _
theorem pay49_apply (g : FVec Ideal S256x2048 .bf16) (b : FVec Ideal S1x2048 .f32) (r : Fin 256) (k : Fin 2048) :
    ((1 / 2 : ℝ) : EReal) + k0_pay50 (F := Ideal) (ix2 r k) * k0_pay49 (F := Ideal) g b (ix2 r k) = sigmoid (g (ix2 r k) + b (ix2 0 k)) := by
  pointwise [k0_pay49, k0_pay50]
  rw [half_f32]
  exact sigmoid_tanh _
/-- The gate of the first branch as the kernel writes it. -/
def tanhGate (z : EReal) : EReal :=
  ((1 / 2 : ℝ) : EReal) * z + ((1 / 2 : ℝ) : EReal) * z * Ideal.tanh (((1 / 2 : ℝ) : EReal) * z)

/-- What one store of the gated branch holds at `x`: rows of one chunk, 256 columns from `256 g`. -/
def tile (g : Fin 8) (W : FVec Ideal S1x128x128 .f32) (w b : FVec Ideal S1x2048 .f32) (V : FVec Ideal S128x2048 .bf16)
    (o : FVec Ideal S128x1 .f32) (z u : FVec Ideal S128x256 .bf16) (x : S128x256.Idx) : EReal :=
  tanhGate (z x) * u x * ((∑ s : Fin 128, (if s.val ≤ (x 0).val then W (ix3 0 (x 0) s) else 0)
    * layerNorm (fun j => V (ix2 s j)) (fun j => w (ix2 0 j)) (fun j => b (ix2 0 j)) ⟨256 * g.val + (x 1).val, by have := (x 1).isLt; have : (x 1).val < 256 := this; omega⟩)
    + o (ix2 (x 0) 0))

variable (W : FVec Ideal S1x128x128 .f32) (w b : FVec Ideal S1x2048 .f32) (V : FVec Ideal S128x2048 .bf16)
    (o : FVec Ideal S128x1 .f32) (z u : FVec Ideal S128x256 .bf16)

theorem tile_0_0 (x : S128x256.Idx) :
    k0_pay17 (F := Ideal) (k0_pay4 W) (k0_pay12 w) (k0_pay13 b) (k0_pay14 V) (k0_pay15 V) o z u x = tile 0 W w b V o z u x := by
  rw [show x = ix2 (x 0) (x 1) from by blk_ext]
  pointwise [k0_pay17, mask4, norm16]
  rw [half_bf16]
  unfold tile tanhGate
  simp only [Fin.val_zero, mul_zero, zero_add]
theorem tile_0_1 (x : S128x256.Idx) :
    k0_pay20 (F := Ideal) (k0_pay18 (k0_pay5 W) (k0_pay12 w) (k0_pay13 b) (k0_pay14 V) (k0_pay15 V) o) (k0_pay19 z) u x = tile 1 W w b V o z u x := by
  rw [show x = ix2 (x 0) (x 1) from by blk_ext]
  pointwise [k0_pay20, k0_pay18, k0_pay19, mask5, norm16]
  rw [half_bf16]
  rfl
theorem tile_0_2 (x : S128x256.Idx) :
    k0_pay21 (F := Ideal) (k0_pay6 W) (k0_pay16 (k0_pay12 w) (k0_pay13 b) (k0_pay14 V) (k0_pay15 V)) o z u x = tile 2 W w b V o z u x := by
  rw [show x = ix2 (x 0) (x 1) from by blk_ext]
  pointwise [k0_pay21, mask6, norm16]
  rw [half_bf16]
  rfl
theorem tile_0_3 (x : S128x256.Idx) :
    k0_pay23 (F := Ideal) (k0_pay22 (k0_pay7 W) (k0_pay16 (k0_pay12 w) (k0_pay13 b) (k0_pay14 V) (k0_pay15 V))) o z u x = tile 3 W w b V o z u x := by
  rw [show x = ix2 (x 0) (x 1) from by blk_ext]
  pointwise [k0_pay23, k0_pay22, mask7, norm16]
  rw [half_bf16]
  rfl
theorem tile_0_4 (x : S128x256.Idx) :
    k0_pay25 (F := Ideal) (k0_pay24 (k0_pay8 W) (k0_pay16 (k0_pay12 w) (k0_pay13 b) (k0_pay14 V) (k0_pay15 V)) o z u) x = tile 4 W w b V o z u x := by
  rw [show x = ix2 (x 0) (x 1) from by blk_ext]
  pointwise [k0_pay25, k0_pay24, mask8, norm16]
  rw [half_bf16]
  rfl
theorem tile_0_5 (x : S128x256.Idx) :
    k0_pay26 (F := Ideal) (k0_pay9 k0_pay3 W) (k0_pay16 (k0_pay12 w) (k0_pay13 b) (k0_pay14 V) (k0_pay15 V)) o z u x = tile 5 W w b V o z u x := by
  rw [show x = ix2 (x 0) (x 1) from by blk_ext]
  pointwise [k0_pay26, mask9, norm16]
  rw [half_bf16]
  rfl
theorem tile_0_6 (x : S128x256.Idx) :
    k0_pay29 (F := Ideal) (k0_pay27 (k0_pay10 k0_pay3 W) (k0_pay16 (k0_pay12 w) (k0_pay13 b) (k0_pay14 V) (k0_pay15 V)) o) (k0_pay28 z) u x = tile 6 W w b V o z u x := by
  rw [show x = ix2 (x 0) (x 1) from by blk_ext]
  pointwise [k0_pay29, k0_pay27, k0_pay28, mask10, norm16]
  rw [half_bf16]
  rfl
theorem tile_0_7 (x : S128x256.Idx) :
    k0_pay30 (F := Ideal) (k0_pay11 k0_pay3 W) (k0_pay16 (k0_pay12 w) (k0_pay13 b) (k0_pay14 V) (k0_pay15 V)) o z u x = tile 7 W w b V o z u x := by
  rw [show x = ix2 (x 0) (x 1) from by blk_ext]
  pointwise [k0_pay30, mask11, norm16]
  rw [half_bf16]
  rfl
theorem tile_1_0 (x : S128x256.Idx) :
    k0_pay33 (F := Ideal) (k0_pay32 (k0_pay4 W) (k0_pay12 w) (k0_pay13 b) V o z u) x = tile 0 W w b V o z u x := by
  rw [show x = ix2 (x 0) (x 1) from by blk_ext]
  pointwise [k0_pay33, k0_pay32, mask4, norm31]
  rw [half_bf16]
  unfold tile tanhGate
  simp only [Fin.val_zero, mul_zero, zero_add]
theorem tile_1_1 (x : S128x256.Idx) :
    k0_pay34 (F := Ideal) (k0_pay5 W) (k0_pay31 (k0_pay12 w) (k0_pay13 b) V) o z u x = tile 1 W w b V o z u x := by
  rw [show x = ix2 (x 0) (x 1) from by blk_ext]
  pointwise [k0_pay34, mask5, norm31]
  rw [half_bf16]
  rfl
theorem tile_1_2 (x : S128x256.Idx) :
    k0_pay37 (F := Ideal) (k0_pay35 (k0_pay6 W) (k0_pay31 (k0_pay12 w) (k0_pay13 b) V) o) (k0_pay36 z) u x = tile 2 W w b V o z u x := by
  rw [show x = ix2 (x 0) (x 1) from by blk_ext]
  pointwise [k0_pay37, k0_pay35, k0_pay36, mask6, norm31]
  rw [half_bf16]
  rfl
theorem tile_1_3 (x : S128x256.Idx) :
    k0_pay38 (F := Ideal) (k0_pay7 W) (k0_pay31 (k0_pay12 w) (k0_pay13 b) V) o z u x = tile 3 W w b V o z u x := by
  rw [show x = ix2 (x 0) (x 1) from by blk_ext]
  pointwise [k0_pay38, mask7, norm31]
  rw [half_bf16]
  rfl
theorem tile_1_4 (x : S128x256.Idx) :
    k0_pay40 (F := Ideal) (k0_pay39 (k0_pay8 W) (k0_pay31 (k0_pay12 w) (k0_pay13 b) V) o) z u x = tile 4 W w b V o z u x := by
  rw [show x = ix2 (x 0) (x 1) from by blk_ext]
  pointwise [k0_pay40, k0_pay39, mask8, norm31]
  rw [half_bf16]
  rfl
theorem tile_1_5 (x : S128x256.Idx) :
    k0_pay42 (F := Ideal) (k0_pay41 (k0_pay9 k0_pay3 W) (k0_pay31 (k0_pay12 w) (k0_pay13 b) V) o z u) x = tile 5 W w b V o z u x := by
  rw [show x = ix2 (x 0) (x 1) from by blk_ext]
  pointwise [k0_pay42, k0_pay41, mask9, norm31]
  rw [half_bf16]
  rfl
theorem tile_1_6 (x : S128x256.Idx) :
    k0_pay43 (F := Ideal) (k0_pay10 k0_pay3 W) (k0_pay31 (k0_pay12 w) (k0_pay13 b) V) o z u x = tile 6 W w b V o z u x := by
  rw [show x = ix2 (x 0) (x 1) from by blk_ext]
  pointwise [k0_pay43, mask10, norm31]
  rw [half_bf16]
  rfl
theorem tile_1_7 (x : S128x256.Idx) :
    k0_pay46 (F := Ideal) (k0_pay44 (k0_pay11 k0_pay3 W) (k0_pay31 (k0_pay12 w) (k0_pay13 b) V) o) (k0_pay45 z) u x = tile 7 W w b V o z u x := by
  rw [show x = ix2 (x 0) (x 1) from by blk_ext]
  pointwise [k0_pay46, k0_pay44, k0_pay45, mask11, norm31]
  rw [half_bf16]
  rfl

/-- A store of the gated branch is the branch at the block's row and column, from where its operands come. -/
theorem tile_gated (g : Fin 8) (x : S128x256.Idx) (r : Fin 256) (e : Fin 2048) (X : FVec Ideal S256x6144 .bf16)
    (Ws : FVec Ideal S8x128x128 .f32) (O : FVec Ideal S128x8 .f32) (h0 : r.val % 128 = (x 0).val) (h1 : e.val = 256 * g.val + (x 1).val)
    (hz : z x = X (ix2 r ⟨4096 + e.val, by omega⟩)) (hu : u x = X (ix2 r ⟨e.val, by omega⟩))
    (hV : ∀ (s : Fin 128) (j : Fin 2048), V (ix2 s j) = X (ix2 ⟨r.val / 128 * 128 + s.val, by omega⟩ ⟨2048 + j.val, by omega⟩))
    (hW : ∀ s : Fin 128, W (ix3 0 (x 0) s) = Ws (ix3 g (x 0) s)) (ho : o (ix2 (x 0) 0) = O (ix2 (x 0) g)) :
    tile g W w b V o z u x = gated (fun j => tanhGate (X (ix2 r ⟨4096 + j.val, by omega⟩))) (fun j => X (ix2 r ⟨j.val, by omega⟩))
      (fun s j => X (ix2 ⟨r.val / 128 * 128 + s.val, by omega⟩ ⟨2048 + j.val, by omega⟩))
      (fun j => w (ix2 0 j)) (fun j => b (ix2 0 j))
      (fun g s => Ws (ix3 g ⟨r.val % 128, by omega⟩ s)) (fun g => O (ix2 ⟨r.val % 128, by omega⟩ g)) ⟨r.val % 128, by omega⟩ e := by
  have hx : (⟨r.val % 128, by omega⟩ : Fin 128) = x 0 := Fin.ext h0
  have hx1 : (x 1).val < 256 := (x 1).isLt
  have hg : (⟨e.val / 256, by have := e.isLt; omega⟩ : Fin 8) = g := Fin.ext (by show e.val / 256 = g.val; omega)
  have he : ∀ p, (⟨256 * g.val + (x 1).val, p⟩ : Fin 2048) = e := fun p => Fin.ext h1.symm
  unfold tile gated
  rw [hx, hg]
  simp only [hz, hu, hV, hW, ho, he]

end Cert.Kernel2Ideal.Merge

end
-- ==== Proof.Merge.BlockValue.lean ====
/- One point's block of the merge, read at an index. -/
module

public import proofs.«01_k».proof.Proof.Merge.Block

@[expose] public section

set_option maxRecDepth 16384

noncomputable section

namespace Cert.Kernel2Ideal.Merge

open Idealize.ShloMosaic Idealize.ShloMosaic.TcCoe
open Cert.Kernel2Ideal Cert.Kernel2Ideal.Gen Cert.Merge

variable (m : (ℓ : Loc nD τ sig) → Buf (Elt Ideal) ℓ)

/-- A read of the staged rows at the box's index. -/
theorem read_eq (t : Fin cfg0.N) (h : (ms0_0 t).IsWhole) (X : FVec Ideal S256x6144 .bf16) (B : LoadRect S256x6144) (x : B.shape.Idx) (i : S256x6144.Idx)
    (h0 : B.off 0 + B.stride 0 * (x 0).val = (i 0).val) (h1 : B.off 1 + B.stride 1 * (x 1).val = (i 1).val) :
    View.readAt (Elt Ideal) (ms0_0 t).view B (h.unread X) x = X i := by
  rw [View.readAt_apply, Memref.IsWhole.read_unread]
  refine congrArg X (funext fun a => Fin.ext ?_)
  revert a
  exact Fin.forall_fin_two.mpr ⟨h0, h1⟩
/-- A read of a block through a rectangle. -/
theorem ld_eq {s : Shape} {e : EltTy} (X : s.Idx → Elt Ideal e) (R : Rect s) (x : R.shape.Idx) (i : s.Idx)
    (hi : ∀ a, R.off a + R.stride a * (x a).val = (i a).val) : View.ld (Val := Elt Ideal) X R x = X i :=
  congrArg X (funext fun a => Fin.ext (hi a))

/-- Entry `(r, k)` of one point's block of the merge. -/
theorem block (c : Dev nD) (t : Fin cfg0.N) (r : Fin 256) (k : Fin 2048) :
    outsAt0 m c t (ix2 r k) = rmsNorm (residual (fun j => iblk m c 7 t (ix2 r j))
      (merged
        (gated (fun j => tanhGate (X0_0 m c t (ix2 r ⟨4096 + j.val, by omega⟩))) (fun j => X0_0 m c t (ix2 r ⟨j.val, by omega⟩))
          (fun s j => X0_0 m c t (ix2 ⟨r.val / 128 * 128 + s.val, by omega⟩ ⟨2048 + j.val, by omega⟩))
          (fun j => iblk m c 1 t (ix2 0 j)) (fun j => iblk m c 2 t (ix2 0 j))
          (fun g s => iblk m c 3 t (ix3 g ⟨r.val % 128, by omega⟩ s)) (fun g => iblk m c 4 t (ix2 ⟨r.val % 128, by omega⟩ g)) ⟨r.val % 128, by omega⟩)
        (fun j => iblk m c 5 t (ix2 r j))
        (fun j => sigmoid ((show FVec Ideal S256x4096 .bf16 from iblk m c 6 t) (ix2 r ⟨j.val, by omega⟩) + (show FVec Ideal S2x2048 .f32 from iblk m c 8 t) (ix2 0 j)))
        (fun j => sigmoid ((show FVec Ideal S256x4096 .bf16 from iblk m c 6 t) (ix2 r ⟨2048 + j.val, by omega⟩) + (show FVec Ideal S2x2048 .f32 from iblk m c 8 t) (ix2 1 j)))
        (fun e j => iblk m c 9 t (ix2 ⟨e.val, by omega⟩ j)) (fun e j => iblk m c 9 t (ix2 ⟨2048 + e.val, by omega⟩ j)))
      (fun i j => iblk m c 10 t (ix2 i j))) (fun j => iblk m c 11 t (ix2 0 j)) k := by
  unfold Gen.outsAt0
  frame_out
  rw [pay1_apply]
  simp only [pay2_apply, pay47_apply, pay48_apply, pay49_apply]
  generalize hY : View.readCov (Val := Elt Ideal) (View.whole cc0_scratch0) _ _ = Y
  have key : ∀ e : Fin 2048, (Y : FVec Ideal S256x2048 .bf16) (ix2 r e) = gated (fun j => tanhGate (X0_0 m c t (ix2 r ⟨4096 + j.val, by omega⟩))) (fun j => X0_0 m c t (ix2 r ⟨j.val, by omega⟩))
      (fun s j => X0_0 m c t (ix2 ⟨r.val / 128 * 128 + s.val, by omega⟩ ⟨2048 + j.val, by omega⟩))
      (fun j => iblk m c 1 t (ix2 0 j)) (fun j => iblk m c 2 t (ix2 0 j))
      (fun g s => iblk m c 3 t (ix3 g ⟨r.val % 128, by omega⟩ s)) (fun g => iblk m c 4 t (ix2 ⟨r.val % 128, by omega⟩ g)) ⟨r.val % 128, by omega⟩ e := by
    intro e
    rw [← hY, View.readCov_eq_canon']
    clear hY
    refine (congrArg (View.canon _) (show _ = (ix2 r e : S256x2048.Idx) from funext fun a => Fin.ext ?_)).trans ?_
    · revert a
      exact Fin.forall_fin_two.mpr ⟨(by show 0 + 1 * r.val = r.val; omega), (by show 0 + 1 * e.val = e.val; omega)⟩
    canon_tiles x h
    case piece0 =>
      have hr : r.val = 128 + (x 0).val := h0
      have he : e.val = 1792 + (x 1).val := h1
      refine (tile_1_7 _ _ _ _ _ _ _ x).trans (tile_gated _ _ _ _ _ _ _ 7 x r e (X0_0 m c t) (iblk m c 3 t) (iblk m c 4 t) ?_ ?_ ?_ ?_ ?_ ?_ ?_)
      · omega
      · exact he
      · refine read_eq t _ _ _ _ _ ?_ ?_
        · show 0 + 128 + 1 * (x 0).val = r.val
          omega
        · show 4096 + 1792 + 1 * (x 1).val = 4096 + e.val
          omega
      · refine read_eq t _ _ _ _ _ ?_ ?_
        · show 0 + 128 + 1 * (x 0).val = r.val
          omega
        · show 0 + 1792 + 1 * (x 1).val = e.val
          omega
      · intro s j
        refine read_eq t _ _ _ _ _ ?_ ?_
        · show 0 + 128 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece1 =>
      have hr : r.val = 128 + (x 0).val := h0
      have he : e.val = 1536 + (x 1).val := h1
      refine (tile_1_6 _ _ _ _ _ _ _ x).trans (tile_gated _ _ _ _ _ _ _ 6 x r e (X0_0 m c t) (iblk m c 3 t) (iblk m c 4 t) ?_ ?_ ?_ ?_ ?_ ?_ ?_)
      · omega
      · exact he
      · refine read_eq t _ _ _ _ _ ?_ ?_
        · show 0 + 128 + 1 * (x 0).val = r.val
          omega
        · show 4096 + 1536 + 1 * (x 1).val = 4096 + e.val
          omega
      · refine read_eq t _ _ _ _ _ ?_ ?_
        · show 0 + 128 + 1 * (x 0).val = r.val
          omega
        · show 0 + 1536 + 1 * (x 1).val = e.val
          omega
      · intro s j
        refine read_eq t _ _ _ _ _ ?_ ?_
        · show 0 + 128 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece2 =>
      have hr : r.val = 128 + (x 0).val := h0
      have he : e.val = 1280 + (x 1).val := h1
      refine (tile_1_5 _ _ _ _ _ _ _ x).trans (tile_gated _ _ _ _ _ _ _ 5 x r e (X0_0 m c t) (iblk m c 3 t) (iblk m c 4 t) ?_ ?_ ?_ ?_ ?_ ?_ ?_)
      · omega
      · exact he
      · refine read_eq t _ _ _ _ _ ?_ ?_
        · show 0 + 128 + 1 * (x 0).val = r.val
          omega
        · show 4096 + 1280 + 1 * (x 1).val = 4096 + e.val
          omega
      · refine read_eq t _ _ _ _ _ ?_ ?_
        · show 0 + 128 + 1 * (x 0).val = r.val
          omega
        · show 0 + 1280 + 1 * (x 1).val = e.val
          omega
      · intro s j
        refine read_eq t _ _ _ _ _ ?_ ?_
        · show 0 + 128 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece3 =>
      have hr : r.val = 128 + (x 0).val := h0
      have he : e.val = 1024 + (x 1).val := h1
      refine (tile_1_4 _ _ _ _ _ _ _ x).trans (tile_gated _ _ _ _ _ _ _ 4 x r e (X0_0 m c t) (iblk m c 3 t) (iblk m c 4 t) ?_ ?_ ?_ ?_ ?_ ?_ ?_)
      · omega
      · exact he
      · refine read_eq t _ _ _ _ _ ?_ ?_
        · show 0 + 128 + 1 * (x 0).val = r.val
          omega
        · show 4096 + 1024 + 1 * (x 1).val = 4096 + e.val
          omega
      · refine read_eq t _ _ _ _ _ ?_ ?_
        · show 0 + 128 + 1 * (x 0).val = r.val
          omega
        · show 0 + 1024 + 1 * (x 1).val = e.val
          omega
      · intro s j
        refine read_eq t _ _ _ _ _ ?_ ?_
        · show 0 + 128 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece4 =>
      have hr : r.val = 128 + (x 0).val := h0
      have he : e.val = 768 + (x 1).val := h1
      refine (tile_1_3 _ _ _ _ _ _ _ x).trans (tile_gated _ _ _ _ _ _ _ 3 x r e (X0_0 m c t) (iblk m c 3 t) (iblk m c 4 t) ?_ ?_ ?_ ?_ ?_ ?_ ?_)
      · omega
      · exact he
      · refine read_eq t _ _ _ _ _ ?_ ?_
        · show 0 + 128 + 1 * (x 0).val = r.val
          omega
        · show 4096 + 768 + 1 * (x 1).val = 4096 + e.val
          omega
      · refine read_eq t _ _ _ _ _ ?_ ?_
        · show 0 + 128 + 1 * (x 0).val = r.val
          omega
        · show 0 + 768 + 1 * (x 1).val = e.val
          omega
      · intro s j
        refine read_eq t _ _ _ _ _ ?_ ?_
        · show 0 + 128 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece5 =>
      have hr : r.val = 128 + (x 0).val := h0
      have he : e.val = 512 + (x 1).val := h1
      refine (tile_1_2 _ _ _ _ _ _ _ x).trans (tile_gated _ _ _ _ _ _ _ 2 x r e (X0_0 m c t) (iblk m c 3 t) (iblk m c 4 t) ?_ ?_ ?_ ?_ ?_ ?_ ?_)
      · omega
      · exact he
      · refine read_eq t _ _ _ _ _ ?_ ?_
        · show 0 + 128 + 1 * (x 0).val = r.val
          omega
        · show 4096 + 512 + 1 * (x 1).val = 4096 + e.val
          omega
      · refine read_eq t _ _ _ _ _ ?_ ?_
        · show 0 + 128 + 1 * (x 0).val = r.val
          omega
        · show 0 + 512 + 1 * (x 1).val = e.val
          omega
      · intro s j
        refine read_eq t _ _ _ _ _ ?_ ?_
        · show 0 + 128 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece6 =>
      have hr : r.val = 128 + (x 0).val := h0
      have he : e.val = 256 + (x 1).val := h1
      refine (tile_1_1 _ _ _ _ _ _ _ x).trans (tile_gated _ _ _ _ _ _ _ 1 x r e (X0_0 m c t) (iblk m c 3 t) (iblk m c 4 t) ?_ ?_ ?_ ?_ ?_ ?_ ?_)
      · omega
      · exact he
      · refine read_eq t _ _ _ _ _ ?_ ?_
        · show 0 + 128 + 1 * (x 0).val = r.val
          omega
        · show 4096 + 256 + 1 * (x 1).val = 4096 + e.val
          omega
      · refine read_eq t _ _ _ _ _ ?_ ?_
        · show 0 + 128 + 1 * (x 0).val = r.val
          omega
        · show 0 + 256 + 1 * (x 1).val = e.val
          omega
      · intro s j
        refine read_eq t _ _ _ _ _ ?_ ?_
        · show 0 + 128 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece7 =>
      have hr : r.val = 128 + (x 0).val := h0
      have he : e.val = 0 + (x 1).val := (h1 : e.val = (x 1).val).trans (Nat.zero_add _).symm
      refine (tile_1_0 _ _ _ _ _ _ _ x).trans (tile_gated _ _ _ _ _ _ _ 0 x r e (X0_0 m c t) (iblk m c 3 t) (iblk m c 4 t) ?_ ?_ ?_ ?_ ?_ ?_ ?_)
      · omega
      · exact he
      · refine read_eq t _ _ _ _ _ ?_ ?_
        · show 0 + 128 + 1 * (x 0).val = r.val
          omega
        · show 4096 + 0 + 1 * (x 1).val = 4096 + e.val
          omega
      · refine read_eq t _ _ _ _ _ ?_ ?_
        · show 0 + 128 + 1 * (x 0).val = r.val
          omega
        · show 0 + 0 + 1 * (x 1).val = e.val
          omega
      · intro s j
        refine read_eq t _ _ _ _ _ ?_ ?_
        · show 0 + 128 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece8 =>
      have hr : r.val = 0 + (x 0).val := (h0 : r.val = (x 0).val).trans (Nat.zero_add _).symm
      have he : e.val = 1792 + (x 1).val := h1
      refine (tile_0_7 _ _ _ _ _ _ _ x).trans (tile_gated _ _ _ _ _ _ _ 7 x r e (X0_0 m c t) (iblk m c 3 t) (iblk m c 4 t) ?_ ?_ ?_ ?_ ?_ ?_ ?_)
      · omega
      · exact he
      · refine read_eq t _ _ _ _ _ ?_ ?_
        · show 0 + 0 + 1 * (x 0).val = r.val
          omega
        · show 4096 + 1792 + 1 * (x 1).val = 4096 + e.val
          omega
      · refine read_eq t _ _ _ _ _ ?_ ?_
        · show 0 + 0 + 1 * (x 0).val = r.val
          omega
        · show 0 + 1792 + 1 * (x 1).val = e.val
          omega
      · intro s j
        refine read_eq t _ _ _ _ _ ?_ ?_
        · show 0 + 0 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece9 =>
      have hr : r.val = 0 + (x 0).val := (h0 : r.val = (x 0).val).trans (Nat.zero_add _).symm
      have he : e.val = 1536 + (x 1).val := h1
      refine (tile_0_6 _ _ _ _ _ _ _ x).trans (tile_gated _ _ _ _ _ _ _ 6 x r e (X0_0 m c t) (iblk m c 3 t) (iblk m c 4 t) ?_ ?_ ?_ ?_ ?_ ?_ ?_)
      · omega
      · exact he
      · refine read_eq t _ _ _ _ _ ?_ ?_
        · show 0 + 0 + 1 * (x 0).val = r.val
          omega
        · show 4096 + 1536 + 1 * (x 1).val = 4096 + e.val
          omega
      · refine read_eq t _ _ _ _ _ ?_ ?_
        · show 0 + 0 + 1 * (x 0).val = r.val
          omega
        · show 0 + 1536 + 1 * (x 1).val = e.val
          omega
      · intro s j
        refine read_eq t _ _ _ _ _ ?_ ?_
        · show 0 + 0 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece10 =>
      have hr : r.val = 0 + (x 0).val := (h0 : r.val = (x 0).val).trans (Nat.zero_add _).symm
      have he : e.val = 1280 + (x 1).val := h1
      refine (tile_0_5 _ _ _ _ _ _ _ x).trans (tile_gated _ _ _ _ _ _ _ 5 x r e (X0_0 m c t) (iblk m c 3 t) (iblk m c 4 t) ?_ ?_ ?_ ?_ ?_ ?_ ?_)
      · omega
      · exact he
      · refine read_eq t _ _ _ _ _ ?_ ?_
        · show 0 + 0 + 1 * (x 0).val = r.val
          omega
        · show 4096 + 1280 + 1 * (x 1).val = 4096 + e.val
          omega
      · refine read_eq t _ _ _ _ _ ?_ ?_
        · show 0 + 0 + 1 * (x 0).val = r.val
          omega
        · show 0 + 1280 + 1 * (x 1).val = e.val
          omega
      · intro s j
        refine read_eq t _ _ _ _ _ ?_ ?_
        · show 0 + 0 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece11 =>
      have hr : r.val = 0 + (x 0).val := (h0 : r.val = (x 0).val).trans (Nat.zero_add _).symm
      have he : e.val = 1024 + (x 1).val := h1
      refine (tile_0_4 _ _ _ _ _ _ _ x).trans (tile_gated _ _ _ _ _ _ _ 4 x r e (X0_0 m c t) (iblk m c 3 t) (iblk m c 4 t) ?_ ?_ ?_ ?_ ?_ ?_ ?_)
      · omega
      · exact he
      · refine read_eq t _ _ _ _ _ ?_ ?_
        · show 0 + 0 + 1 * (x 0).val = r.val
          omega
        · show 4096 + 1024 + 1 * (x 1).val = 4096 + e.val
          omega
      · refine read_eq t _ _ _ _ _ ?_ ?_
        · show 0 + 0 + 1 * (x 0).val = r.val
          omega
        · show 0 + 1024 + 1 * (x 1).val = e.val
          omega
      · intro s j
        refine read_eq t _ _ _ _ _ ?_ ?_
        · show 0 + 0 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece12 =>
      have hr : r.val = 0 + (x 0).val := (h0 : r.val = (x 0).val).trans (Nat.zero_add _).symm
      have he : e.val = 768 + (x 1).val := h1
      refine (tile_0_3 _ _ _ _ _ _ _ x).trans (tile_gated _ _ _ _ _ _ _ 3 x r e (X0_0 m c t) (iblk m c 3 t) (iblk m c 4 t) ?_ ?_ ?_ ?_ ?_ ?_ ?_)
      · omega
      · exact he
      · refine read_eq t _ _ _ _ _ ?_ ?_
        · show 0 + 0 + 1 * (x 0).val = r.val
          omega
        · show 4096 + 768 + 1 * (x 1).val = 4096 + e.val
          omega
      · refine read_eq t _ _ _ _ _ ?_ ?_
        · show 0 + 0 + 1 * (x 0).val = r.val
          omega
        · show 0 + 768 + 1 * (x 1).val = e.val
          omega
      · intro s j
        refine read_eq t _ _ _ _ _ ?_ ?_
        · show 0 + 0 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece13 =>
      have hr : r.val = 0 + (x 0).val := (h0 : r.val = (x 0).val).trans (Nat.zero_add _).symm
      have he : e.val = 512 + (x 1).val := h1
      refine (tile_0_2 _ _ _ _ _ _ _ x).trans (tile_gated _ _ _ _ _ _ _ 2 x r e (X0_0 m c t) (iblk m c 3 t) (iblk m c 4 t) ?_ ?_ ?_ ?_ ?_ ?_ ?_)
      · omega
      · exact he
      · refine read_eq t _ _ _ _ _ ?_ ?_
        · show 0 + 0 + 1 * (x 0).val = r.val
          omega
        · show 4096 + 512 + 1 * (x 1).val = 4096 + e.val
          omega
      · refine read_eq t _ _ _ _ _ ?_ ?_
        · show 0 + 0 + 1 * (x 0).val = r.val
          omega
        · show 0 + 512 + 1 * (x 1).val = e.val
          omega
      · intro s j
        refine read_eq t _ _ _ _ _ ?_ ?_
        · show 0 + 0 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece14 =>
      have hr : r.val = 0 + (x 0).val := (h0 : r.val = (x 0).val).trans (Nat.zero_add _).symm
      have he : e.val = 256 + (x 1).val := h1
      refine (tile_0_1 _ _ _ _ _ _ _ x).trans (tile_gated _ _ _ _ _ _ _ 1 x r e (X0_0 m c t) (iblk m c 3 t) (iblk m c 4 t) ?_ ?_ ?_ ?_ ?_ ?_ ?_)
      · omega
      · exact he
      · refine read_eq t _ _ _ _ _ ?_ ?_
        · show 0 + 0 + 1 * (x 0).val = r.val
          omega
        · show 4096 + 256 + 1 * (x 1).val = 4096 + e.val
          omega
      · refine read_eq t _ _ _ _ _ ?_ ?_
        · show 0 + 0 + 1 * (x 0).val = r.val
          omega
        · show 0 + 256 + 1 * (x 1).val = e.val
          omega
      · intro s j
        refine read_eq t _ _ _ _ _ ?_ ?_
        · show 0 + 0 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
    case piece15 =>
      have hr : r.val = 0 + (x 0).val := (h0 : r.val = (x 0).val).trans (Nat.zero_add _).symm
      have he : e.val = 0 + (x 1).val := (h1 : e.val = (x 1).val).trans (Nat.zero_add _).symm
      refine (tile_0_0 _ _ _ _ _ _ _ x).trans (tile_gated _ _ _ _ _ _ _ 0 x r e (X0_0 m c t) (iblk m c 3 t) (iblk m c 4 t) ?_ ?_ ?_ ?_ ?_ ?_ ?_)
      · omega
      · exact he
      · refine read_eq t _ _ _ _ _ ?_ ?_
        · show 0 + 0 + 1 * (x 0).val = r.val
          omega
        · show 4096 + 0 + 1 * (x 1).val = 4096 + e.val
          omega
      · refine read_eq t _ _ _ _ _ ?_ ?_
        · show 0 + 0 + 1 * (x 0).val = r.val
          omega
        · show 0 + 0 + 1 * (x 1).val = e.val
          omega
      · intro s j
        refine read_eq t _ _ _ _ _ ?_ ?_
        · show 0 + 0 + 1 * s.val = r.val / 128 * 128 + s.val
          omega
        · show 2048 + 0 + 1 * j.val = 2048 + j.val
          omega
      · intro s
        exact ld_eq _ _ _ _ (Fin.forall_fin_succ.mpr ⟨rfl, Fin.forall_fin_two.mpr ⟨by show 0 + 1 * (x 0).val = (x 0).val; omega, by show 0 + 1 * s.val = s.val; omega⟩⟩)
      · exact ld_eq _ _ _ _ (Fin.forall_fin_two.mpr ⟨by show 0 + 1 * (x 0).val = (x 0).val; omega, rfl⟩)
  clear hY
  refine congrArg (fun h => rmsNorm h _ k) (congrArg (fun mg => residual _ mg _) (funext fun j => ?_))
  unfold merged
  refine congrArg₂ (· + ·) (congrArg₂ (· * ·) ?_ (Finset.sum_congr rfl fun e _ => congrArg₂ (· * ·) (key e) ?_))
    (congrArg₂ (· * ·) ?_ (Finset.sum_congr rfl fun e _ => congrArg₂ (· * ·) rfl ?_))
  · exact congrArg sigmoid (congrArg₂ (· + ·)
      (ld_eq _ _ _ _ (Fin.forall_fin_two.mpr ⟨by show 0 + 1 * r.val = r.val; omega, by show 0 + 1 * j.val = j.val; omega⟩))
      (ld_eq _ _ _ _ (Fin.forall_fin_two.mpr ⟨rfl, by show 0 + 1 * j.val = j.val; omega⟩)))
  · exact ld_eq _ _ _ _ (Fin.forall_fin_two.mpr ⟨by show 0 + 1 * e.val = e.val; omega, by show 0 + 1 * j.val = j.val; omega⟩)
  · exact congrArg sigmoid (congrArg₂ (· + ·)
      (ld_eq _ _ _ _ (Fin.forall_fin_two.mpr ⟨by show 0 + 1 * r.val = r.val; omega, by show 2048 + 1 * j.val = 2048 + j.val; omega⟩))
      (ld_eq _ _ _ _ (Fin.forall_fin_two.mpr ⟨rfl, by show 0 + 1 * j.val = j.val; omega⟩)))
  · exact ld_eq _ _ _ _ (Fin.forall_fin_two.mpr ⟨by show 2048 + 1 * e.val = 2048 + e.val; omega, by show 0 + 1 * j.val = j.val; omega⟩)

end Cert.Kernel2Ideal.Merge

end
-- ==== Proof.Merge.Reads.lean ====
/- What the blocks of the merge's operands hold, as entries of the arguments. -/
module

public import proofs.«01_k».proof.Proof.Gen.Kernel2Ideal.Value
public import Idealize.ShloMosaic.Lib.Pipeline.ValueKit

@[expose] public section

set_option maxRecDepth 16384

noncomputable section

namespace Cert.Kernel2Ideal.Merge

open Idealize.ShloMosaic Idealize.ShloMosaic.TcCoe
open Cert.Kernel2Ideal Cert.Kernel2Ideal.Gen

/-- The merge's windows over its 64 points of 256 rows. -/
theorem index : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] ∧ win0_6.index t = ![t.val, 3] ∧ win0_7.index t = ![t.val, 0]
    ∧ win0_8.index t = ![0, 0] ∧ win0_9.index t = ![0, 0] ∧ win0_10.index t = ![0, 0] ∧ win0_11.index t = ![0, 0] ∧ win0_12.index t = ![t.val, 0] :=
  (by decide +kernel : ∀ t : Fin grid0.N, _)

variable (m : (ℓ : Loc nD τ sig) → Buf (Elt Ideal) ℓ) (c : Dev nD) (t : Fin cfg0.N)

theorem rows_apply (r : Fin 256) (j : Fin 6144) (q : Fin 16384) (hq : q.val = 256 * t.val + r.val) : (X0_0 m c t : FVec Ideal S256x6144 .bf16) (ix2 r j)
    = (m ((c : Thread nD τ).loc main_arg0) : FVec Ideal S16384x16384 .bf16) (ix2 q ⟨j.val, by omega⟩) := by
  obtain ⟨h, -⟩ := index t
  unfold X0_0 Pipeline.Window.fill
  rw [dif_pos (moved0_0 t _)]
  blk_point [iblk, V, h]
theorem normWeight_apply (j : Fin 2048) : (iblk m c 1 t : FVec Ideal S1x2048 .f32) (ix2 0 j)
    = (m ((c : Thread nD τ).loc main_arg1) : FVec Ideal S1x2048 .f32) (ix2 0 j) := by
  obtain ⟨-, h, -⟩ := index t
  blk_point [iblk, V, h]
theorem normBias_apply (j : Fin 2048) : (iblk m c 2 t : FVec Ideal S1x2048 .f32) (ix2 0 j)
    = (m ((c : Thread nD τ).loc main_arg2) : FVec Ideal S1x2048 .f32) (ix2 0 j) := by
  obtain ⟨-, -, h, -⟩ := index t
  blk_point [iblk, V, h]
theorem spatial_apply (g : Fin 8) (r s : Fin 128) : (iblk m c 3 t : FVec Ideal S8x128x128 .f32) (ix3 g r s)
    = (m ((c : Thread nD τ).loc main_arg3) : FVec Ideal S1x8x128x128 .f32) (ix4 0 g r s) := by
  obtain ⟨-, -, -, h, -⟩ := index t
  blk_point [iblk, V, h]
theorem spatialBias_apply (r : Fin 128) (g : Fin 8) : (iblk m c 4 t : FVec Ideal S128x8 .f32) (ix2 r g)
    = (m ((c : Thread nD τ).loc main_arg4) : FVec Ideal S1x8x128 .f32) (ix3 0 g r) := by
  obtain ⟨-, -, -, -, h, -⟩ := index t
  blk_point [iblk, V, h]
theorem second_apply (r : Fin 256) (j : Fin 2048) (q : Fin 16384) (hq : q.val = 256 * t.val + r.val) : (iblk m c 5 t : FVec Ideal S256x2048 .bf16) (ix2 r j)
    = (m ((c : Thread nD τ).loc main_arg5) : FVec Ideal S16384x2048 .bf16) (ix2 q j) := by
  obtain ⟨-, -, -, -, -, h, -⟩ := index t
  blk_point [iblk, V, h]
theorem logits_apply (r : Fin 256) (j : Fin 4096) (q : Fin 16384) (hq : q.val = 256 * t.val + r.val) : (iblk m c 6 t : FVec Ideal S256x4096 .bf16) (ix2 r j)
    = (m ((c : Thread nD τ).loc main_arg0) : FVec Ideal S16384x16384 .bf16) (ix2 q ⟨12288 + j.val, by omega⟩) := by
  obtain ⟨-, -, -, -, -, -, h, -⟩ := index t
  blk_point [iblk, V, h]
theorem residual_apply (r : Fin 256) (j : Fin 2048) (q : Fin 16384) (hq : q.val = 256 * t.val + r.val) : (iblk m c 7 t : FVec Ideal S256x2048 .f32) (ix2 r j)
    = (m ((c : Thread nD τ).loc main_arg6) : FVec Ideal S4x4096x2048 .f32) (ix3 ⟨q.val / 4096, by omega⟩ ⟨q.val % 4096, by omega⟩ j) := by
  obtain ⟨-, -, -, -, -, -, -, h, -⟩ := index t
  blk_point [iblk, V, h]
theorem gateBias_apply (n : Fin 2) (j : Fin 2048) : (iblk m c 8 t : FVec Ideal S2x2048 .f32) (ix2 n j)
    = (m ((c : Thread nD τ).loc main_arg7) : FVec Ideal S1x2x2048 .f32) (ix3 0 n j) := by
  obtain ⟨-, -, -, -, -, -, -, -, h, -⟩ := index t
  blk_point [iblk, V, h]
theorem branch_apply (n : Fin 2) (e j : Fin 2048) (i : Fin 4096) (hi : i.val = 2048 * n.val + e.val) : (iblk m c 9 t : FVec Ideal S4096x2048 .bf16) (ix2 i j)
    = (m ((c : Thread nD τ).loc main_arg8) : FVec Ideal S1x2x2048x2048 .f32) (ix4 0 n e j) := by
  obtain ⟨-, -, -, -, -, -, -, -, -, h, -⟩ := index t
  blk_point [iblk, V, h]
theorem output_apply (i j : Fin 2048) : (iblk m c 10 t : FVec Ideal S2048x2048 .bf16) (ix2 i j)
    = (m ((c : Thread nD τ).loc main_arg9) : FVec Ideal S1x2048x2048 .f32) (ix3 0 i j) := by
  obtain ⟨-, -, -, -, -, -, -, -, -, -, h, -⟩ := index t
  blk_point [iblk, V, h]
theorem finalWeight_apply (j : Fin 2048) : (iblk m c 11 t : FVec Ideal S1x2048 .f32) (ix2 0 j)
    = (m ((c : Thread nD τ).loc main_arg10) : FVec Ideal S2048 .f32) (ix1 j) := by
  obtain ⟨-, -, -, -, -, -, -, -, -, -, -, h, -⟩ := index t
  blk_point [iblk, V, h]

end Cert.Kernel2Ideal.Merge

end
-- ==== Proof.Merge.Result.lean ====
/- What the merge leaves in its result, at exact arithmetic, as a function of the arguments. -/
module

public import proofs.«01_k».proof.Proof.Merge.BlockValue
public import proofs.«01_k».proof.Proof.Merge.Reads

@[expose] public section

set_option maxRecDepth 16384

noncomputable section

namespace Cert.Kernel2Ideal.Merge

open Idealize.ShloMosaic Idealize.ShloMosaic.TcCoe
open Cert.Kernel2Ideal Cert.Kernel2Ideal.Gen Cert.Merge

/-- Entry `(q, k)` of the merge's result, the gate of the first branch a parameter. -/
def resultAt (gate : EReal → EReal) (P : FVec Ideal S16384x16384 .bf16) (lw lb : FVec Ideal S1x2048 .f32) (ws : FVec Ideal S1x8x128x128 .f32)
    (bs : FVec Ideal S1x8x128 .f32) (yb : FVec Ideal S16384x2048 .bf16) (x : FVec Ideal S4x4096x2048 .f32) (bg : FVec Ideal S1x2x2048 .f32)
    (wb : FVec Ideal S1x2x2048x2048 .f32) (wo : FVec Ideal S1x2048x2048 .f32) (fw : FVec Ideal S2048 .f32) (q : Fin 16384) (k : Fin 2048) : EReal :=
  rmsNorm (residual (fun j => x (ix3 ⟨q.val / 4096, by omega⟩ ⟨q.val % 4096, by omega⟩ j))
    (merged
      (gated (fun j => gate (P (ix2 q ⟨4096 + j.val, by omega⟩))) (fun j => P (ix2 q ⟨j.val, by omega⟩))
        (fun s j => P (ix2 ⟨q.val / 128 * 128 + s.val, by omega⟩ ⟨2048 + j.val, by omega⟩))
        (fun j => lw (ix2 0 j)) (fun j => lb (ix2 0 j))
        (fun g s => ws (ix4 0 g ⟨q.val % 128, by omega⟩ s)) (fun g => bs (ix3 0 g ⟨q.val % 128, by omega⟩)) ⟨q.val % 128, by omega⟩)
      (fun j => yb (ix2 q j))
      (fun j => sigmoid (P (ix2 q ⟨12288 + j.val, by omega⟩) + bg (ix3 0 0 j)))
      (fun j => sigmoid (P (ix2 q ⟨12288 + (2048 + j.val), by omega⟩) + bg (ix3 0 1 j)))
      (fun e j => wb (ix4 0 0 e j)) (fun e j => wb (ix4 0 1 e j)))
    (fun i j => wo (ix3 0 i j))) (fun j => fw (ix1 j)) k

variable (m : (ℓ : Loc nD τ sig) → Buf (Elt Ideal) ℓ)

/-- The result at the arguments. -/
def resultOf (gate : EReal → EReal) (c : Dev nD) : FVec Ideal S16384x2048 .f32 := fun i =>
  resultAt gate (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (i 0) (i 1)

/-- The block of point `t` is rows `256 t` to `256 t + 255` of the result. -/
theorem block_result (c : Dev nD) (t : Fin cfg0.N) (r : Fin 256) (k : Fin 2048) (q : Fin 16384) (hq : q.val = 256 * t.val + r.val) :
    outsAt0 m c t (ix2 r k) = resultOf m tanhGate c (ix2 q k) := by
  have ht : t.val < 64 := t.isLt.trans_eq N_0
  refine (block m c t r k).trans ?_
  unfold resultOf resultAt
  show _ = rmsNorm (residual _ (merged _ _ _ _ _ _) _) _ k
  have hp : ∀ (j : Fin 6144), _ := fun j => rows_apply m c t r j q hq
  have hv : ∀ (s : Fin 128) (j : Fin 6144), _ := fun s j => rows_apply m c t ⟨r.val / 128 * 128 + s.val, by omega⟩ j ⟨q.val / 128 * 128 + s.val, by omega⟩ (by show q.val / 128 * 128 + s.val = 256 * t.val + (r.val / 128 * 128 + s.val); omega)
  have hr : (⟨r.val % 128, by omega⟩ : Fin 128) = ⟨q.val % 128, by omega⟩ := Fin.ext (by show r.val % 128 = q.val % 128; omega)
  have e0 : (fun j => tanhGate (X0_0 m c t (ix2 r ⟨4096 + j.val, by omega⟩)) : Fin 2048 → EReal)
      = fun j => tanhGate ((m ((c : Thread nD τ).loc main_arg0) : FVec Ideal S16384x16384 .bf16) (ix2 q ⟨4096 + j.val, by omega⟩)) := funext fun j => congrArg tanhGate (hp _)
  have e1 : (fun j => X0_0 m c t (ix2 r ⟨j.val, by omega⟩) : Fin 2048 → EReal)
      = fun j => (m ((c : Thread nD τ).loc main_arg0) : FVec Ideal S16384x16384 .bf16) (ix2 q ⟨j.val, by omega⟩) := funext fun j => hp _
  have e2 : (fun s j => X0_0 m c t (ix2 ⟨r.val / 128 * 128 + s.val, by omega⟩ ⟨2048 + j.val, by omega⟩) : Fin 128 → Fin 2048 → EReal)
      = fun s j => (m ((c : Thread nD τ).loc main_arg0) : FVec Ideal S16384x16384 .bf16) (ix2 ⟨q.val / 128 * 128 + s.val, by omega⟩ ⟨2048 + j.val, by omega⟩) :=
    funext fun s => funext fun j => hv s _
  refine congrFun (congr (congrArg rmsNorm (congr (congr (congrArg residual (funext fun j => residual_apply m c t r j q hq))
    (congr (congr (congr (congr (congr (congrArg merged
      (congr (congr (congr (congr (congr (congr (congrArg₂ gated e0 e1) e2) (funext fun j => normWeight_apply m c t j)) (funext fun j => normBias_apply m c t j))
        (funext fun g => funext fun s => (spatial_apply m c t g _ s).trans ?_)) (funext fun g => (spatialBias_apply m c t _ g).trans ?_)) hr))
      (funext fun j => second_apply m c t r j q hq))
      (funext fun j => congrArg sigmoid (congrArg₂ (fun a b : EReal => a + b) (logits_apply m c t r _ q hq) (gateBias_apply m c t 0 j))))
      (funext fun j => congrArg sigmoid (congrArg₂ (fun a b : EReal => a + b) (logits_apply m c t r _ q hq) (gateBias_apply m c t 1 j))))
      (funext fun e => funext fun j => branch_apply m c t 0 e j _ ?_)) (funext fun e => funext fun j => branch_apply m c t 1 e j _ ?_)))
    (funext fun i => funext fun j => output_apply m c t i j))) (funext fun j => finalWeight_apply m c t j)) k
  · rw [hr]; rfl
  · rw [hr]; rfl
  · show e.val = 2048 * 0 + e.val
    omega
  · show 2048 + e.val = 2048 * 1 + e.val
    omega

/-- The merge's result. -/
theorem final (c : Dev nD) : (dats m 0 c).arrAt 12 cfg0.N = resultOf m tanhGate c := by
  refine (dats m 0 c).arrAt_eq_of_covers 12 (resultOf m tanhGate c) (by decide +kernel) fun t hf y => ?_
  have h := (index t).2.2.2.2.2.2.2.2.2.2.2.2
  blk_simp
  rw [after0_12]
  obtain ⟨r, k, rfl⟩ : ∃ (r : Fin 256) (k : Fin 2048), y = (ix2 r k : S256x2048.Idx) := ⟨y 0, y 1, by blk_ext⟩
  refine (block_result m c t r k (((cfg0.win 12).blk t).view.emb (ix2 r k : S256x2048.Idx) 0) ?_).trans (congrArg (resultOf m tanhGate c) ?_)
  · blk_simp [h]; omega
  · blk_ext [h]

end Cert.Kernel2Ideal.Merge

end
-- ==== Proof.Merge.Equation.lean ====
/- The reference's result of the merge at an index. -/
module

public import proofs.«01_k».proof.Proof.Merge.Result
public import proofs.«01_k».proof.Proof.Gen.Reference2Ideal.Run

@[expose] public section

set_option maxRecDepth 16384

noncomputable section

namespace Cert.Reference2Ideal.Merge

open Idealize.ShloMosaic Idealize.ShloMosaic.TcCoe
open Cert.Reference2Ideal Cert.Reference2Ideal.Gen Cert.Merge

variable (P : FVec Ideal S16384x16384 .bf16) (lw lb : FVec Ideal S1x2048 .f32) (ws : FVec Ideal S1x8x128x128 .f32)
    (bs : FVec Ideal S1x8x128 .f32) (yb : FVec Ideal S16384x2048 .bf16) (x : FVec Ideal S4x4096x2048 .f32) (bg : FVec Ideal S1x2x2048 .f32)
    (wb : FVec Ideal S1x2x2048x2048 .f32) (wo : FVec Ideal S1x2048x2048 .f32) (fw : FVec Ideal S2048 .f32)

/-- The projection by batch and position. -/
def proj : FVec Ideal S4x4096x16384 .f32 := extf .f32 (shapeCast S4x4096x16384 P shapeCasts_S16384x16384_S4x4096x16384) bitsLt_bf16_f32

/-- The layer norm of the projection's second part. -/
def normed (p : FVec Ideal S4x4096x16384 .f32) : FVec Ideal S4x4096x2048 .f32 :=
  let v := extractStridedSlice S4x4096x2048 ![0, 0, 2048] p slices_S4x4096x16384_S4x4096x2048_0_0_2048
  let d := subf v (broadcastInDim S4x4096x2048 ![0, 1, 2] bcast_S4x4096x1_S4x4096x2048_0_1_2 (Host.divf (broadcastInDim S4x4096x1 ![0, 1] bcast_S4x4096_S4x4096x1_0_1 (Host.reduceAdd v (constant S_ .f32 0x00000000#32) reducesTo_S4x4096x2048_S4x4096_d2 h_S_)) (broadcastInDim S4x4096x1 ![] bcast_S_S4x4096x1 (constant S_ .f32 0x45000000#32))))
  addf (mulf (mulf d (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf d d) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32))))))
    (broadcastInDim S4x4096x2048 ![0, 1, 2] bcast_S1x1x2048_S4x4096x2048_0_1_2 (broadcastInDim S1x1x2048 ![2] bcast_S2048_S1x1x2048_2 (shapeCast _ lw shapeCasts_S1x2048_S2048))))
    (broadcastInDim S4x4096x2048 ![0, 1, 2] bcast_S1x1x2048_S4x4096x2048_0_1_2 (broadcastInDim S1x1x2048 ![2] bcast_S2048_S1x1x2048_2 (shapeCast _ lb shapeCasts_S1x2048_S2048)))

/-- The spatial weights with the later positions' masked out. -/
def masked : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))))
    (shapeCast _ ws shapeCasts_S1x8x128x128_S8x128x128) (broadcastInDim S8x128x128 ![] bcast_S_S8x128x128 (constant S_ .f32 0x00000000#32))

/-- The mixed rows. -/
def mixed (vn : FVec Ideal S4x4096x2048 .f32) (w : FVec Ideal S8x128x128 .f32) : FVec Ideal S4x4096x2048 .f32 :=
  shapeCast S4x4096x2048 (addf (transpose S4x32x128x8x256 [1, 2, 4, 0, 3] (Host.dotGeneral (F := Ideal) (φ₁ := .f32) (φ₂ := .f32) dot_S4x32x128x8x256_S8x128x128_S8x4x32x256x128_2_2_014_1_3_0 none
      (shapeCast S4x32x128x8x256 vn shapeCasts_S4x4096x2048_S4x32x128x8x256) w) transposes_S8x4x32x256x128_S4x32x128x8x256_1_2_4_0_3)
    (broadcastInDim S4x32x128x8x256 ![0, 1, 2, 3, 4] bcast_S1x1x128x8x1_S4x32x128x8x256_0_1_2_3_4 (broadcastInDim S1x1x128x8x1 ![2, 3] bcast_S128x8_S1x1x128x8x1_2_3 (transpose S128x8 [1, 0] (shapeCast _ bs shapeCasts_S1x8x128_S8x128) transposes_S8x128_S128x8_1_0))))
    shapeCasts_S4x32x128x8x256_S4x4096x2048

/-- The first branch. -/
def branchA (p : FVec Ideal S4x4096x16384 .f32) (mx : FVec Ideal S4x4096x2048 .f32) : FVec Ideal S4x4096x2048 .f32 :=
  let z := extractStridedSlice S4x4096x2048 ![0, 0, 4096] p slices_S4x4096x16384_S4x4096x2048_0_0_4096
  mulf (mulf (mulf z (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf z)))))
    (extractStridedSlice S4x4096x2048 ![0, 0, 0] p slices_S4x4096x16384_S4x4096x2048_0_0_0)) mx

/-- The second branch. -/
def branchB : FVec Ideal S4x4096x2048 .f32 := extf .f32 (shapeCast _ yb shapeCasts_S16384x2048_S4x4096x2048) bitsLt_bf16_f32

/-- The gates of the two branches. -/
def gates (p : FVec Ideal S4x4096x16384 .f32) : FVec Ideal S4x4096x2x2048 .f32 :=
  Host.divf (broadcastInDim S4x4096x2x2048 ![] bcast_S_S4x4096x2x2048 (constant S_ .f32 0x3F800000#32)) (addf (broadcastInDim S4x4096x2x2048 ![] bcast_S_S4x4096x2x2048 (constant S_ .f32 0x3F800000#32)) (Host.exp (Host.negf (addf
    (shapeCast _ (extractStridedSlice S4x4096x4096 ![0, 0, 12288] p slices_S4x4096x16384_S4x4096x4096_0_0_12288) shapeCasts_S4x4096x4096_S4x4096x2x2048)
    (broadcastInDim S4x4096x2x2048 ![0, 1, 2, 3] bcast_S1x1x2x2048_S4x4096x2x2048_0_1_2_3 (broadcastInDim S1x1x2x2048 ![2, 3] bcast_S2x2048_S1x1x2x2048_2_3 (shapeCast _ bg shapeCasts_S1x2x2048_S2x2048)))))))

/-- The products of the two branches. -/
def products (ya yb : FVec Ideal S4x4096x2048 .f32) : FVec Ideal S4x4096x2x2048 .f32 :=
  transpose S4x4096x2x2048 [2, 3, 0, 1] (Host.dotGeneral (F := Ideal) (φ₁ := .f32) (φ₂ := .f32) dot_S2x2048x2048_S4x4096x2x2048_S2x2048x4x4096_1_3_2_01_0_2 none (shapeCast S2x2048x2048 wb shapeCasts_S1x2x2048x2048_S2x2048x2048)
    (concatenate S4x4096x2x2048 2 [⟨S4x4096x1x2048, broadcastInDim S4x4096x1x2048 ![0, 1, 3] bcast_S4x4096x2048_S4x4096x1x2048_0_1_3 ya⟩,
      ⟨S4x4096x1x2048, broadcastInDim S4x4096x1x2048 ![0, 1, 3] bcast_S4x4096x2048_S4x4096x1x2048_0_1_3 yb⟩] concatenates_S4x4096x1x2048_S4x4096x1x2048_S4x4096x2x2048_d2)) transposes_S2x2048x4x4096_S4x4096x2x2048_2_3_0_1

/-- The branches' products under their gates, added, through the output weights, and added to the residual. -/
def hiddenRows (g pr : FVec Ideal S4x4096x2x2048 .f32) : FVec Ideal S4x4096x2048 .f32 :=
  addf x (Host.dotGeneral (F := Ideal) (φ₁ := .f32) (φ₂ := .f32) dot_S4x4096x2048_S2048x2048_S4x4096x2048_2_0_01_1_n_n none (Host.reduceAdd (mulf g pr) (constant S_ .f32 0x00000000#32) reducesTo_S4x4096x2x2048_S4x4096x2048_d2 h_S_)
    (shapeCast S2048x2048 wo shapeCasts_S1x2048x2048_S2048x2048))

/-- The final norm. -/
def finalRows (h : FVec Ideal S4x4096x2048 .f32) : FVec Ideal S16384x2048 .f32 :=
  shapeCast S16384x2048 (mulf (mulf h (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf h h) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32))))))
    (broadcastInDim S4x4096x2048 ![0, 1, 2] bcast_S1x1x2048_S4x4096x2048_0_1_2 (broadcastInDim S1x1x2048 ![2] bcast_S2048_S1x1x2048_2 fw))) shapeCasts_S4x4096x2048_S16384x2048

/-- The reference's result. -/
def reference : FVec Ideal S16384x2048 .f32 :=
  finalRows fw (hiddenRows x wo (gates bg (proj P)) (products wb (branchA (proj P) (mixed bs (normed lw lb (proj P)) (masked ws))) (branchB yb)))

theorem proj_apply (a : Fin 4) (s : Fin 4096) (j q : Fin 16384) (hq : q.val = 4096 * a.val + s.val) : proj P (ix3 a s j) = P (ix2 q j) := by
  pointwise [proj]
  blk_ext
theorem normed_apply (p : FVec Ideal S4x4096x16384 .f32) (a : Fin 4) (s : Fin 4096) (k : Fin 2048) :
    normed lw lb p (ix3 a s k) = layerNorm (fun j => p (ix3 a s ⟨2048 + j.val, by omega⟩)) (fun j => lw (ix2 0 j)) (fun j => lb (ix2 0 j)) k := by
  pointwise [normed]
  rfl
theorem masked_apply (g : Fin 8) (r s : Fin 128) : masked ws (ix3 g r s) = if s.val ≤ r.val then ws (ix4 0 g r s) else 0 := by
  pointwise [masked]
  have h : ∀ r s : Fin 128, Scalar.select (IntOp.cmpi CmpIPredicate.sge (IntOp.addi (BitVec.ofNat 32 r.val) 0#32) (BitVec.ofNat 32 s.val)) 1#1 0#1
      = if s.val ≤ r.val then 1#1 else 0#1 := by decide +kernel
  rw [h]
  split <;> rfl
theorem mixed_apply (vn : FVec Ideal S4x4096x2048 .f32) (w : FVec Ideal S8x128x128 .f32) (a : Fin 4) (s : Fin 4096) (k : Fin 2048) :
    mixed bs vn w (ix3 a s k) = (∑ i : Fin 128, w (ix3 ⟨k.val / 256, by omega⟩ ⟨s.val % 128, by omega⟩ i) * vn (ix3 a ⟨s.val / 128 * 128 + i.val, by omega⟩ k))
      + bs (ix3 0 ⟨k.val / 256, by omega⟩ ⟨s.val % 128, by omega⟩) := by
  pointwise [mixed]
  exact congrArg (· + _) (Finset.sum_congr rfl fun i _ => mul_comm _ _)

theorem branchA_apply (p : FVec Ideal S4x4096x16384 .f32) (mx : FVec Ideal S4x4096x2048 .f32) (a : Fin 4) (s : Fin 4096) (k : Fin 2048) :
    branchA p mx (ix3 a s k) = p (ix3 a s ⟨4096 + k.val, by omega⟩) * sigmoid (p (ix3 a s ⟨4096 + k.val, by omega⟩)) * p (ix3 a s ⟨k.val, by omega⟩) * mx (ix3 a s k) := by
  pointwise [branchA]
  rfl
theorem branchB_apply (a : Fin 4) (s : Fin 4096) (k : Fin 2048) (q : Fin 16384) (hq : q.val = 4096 * a.val + s.val) : branchB yb (ix3 a s k) = yb (ix2 q k) := by
  pointwise [branchB]
  blk_ext
theorem gates_apply (p : FVec Ideal S4x4096x16384 .f32) (a : Fin 4) (s : Fin 4096) (n : Fin 2) (k : Fin 2048) :
    gates bg p (ix4 a s n k) = sigmoid (p (ix3 a s ⟨12288 + (2048 * n.val + k.val), by omega⟩) + bg (ix3 0 n k)) := by
  pointwise [gates, sigmoid]
  simp only [mul_comm n.val 2048]
theorem products_apply (ya yb : FVec Ideal S4x4096x2048 .f32) (a : Fin 4) (s : Fin 4096) (n : Fin 2) (k : Fin 2048) :
    products wb ya yb (ix4 a s n k) = ∑ e : Fin 2048, (if n.val < 1 then ya (ix3 a s e) else yb (ix3 a s e)) * wb (ix4 0 n e k) := by
  pointwise [products]
  exact Finset.sum_congr rfl fun e _ => by split <;> exact mul_comm _ _
theorem hiddenRows_apply (g pr : FVec Ideal S4x4096x2x2048 .f32) (a : Fin 4) (s : Fin 4096) (k : Fin 2048) :
    hiddenRows x wo g pr (ix3 a s k) = residual (fun j => x (ix3 a s j)) (fun j => g (ix4 a s 0 j) * pr (ix4 a s 0 j) + g (ix4 a s 1 j) * pr (ix4 a s 1 j)) (fun i j => wo (ix3 0 i j)) k := by
  pointwise [hiddenRows]
  simp only [Fin.sum_univ_two]
  rfl
theorem finalRows_apply (h : FVec Ideal S4x4096x2048 .f32) (q : Fin 16384) (k : Fin 2048) :
    finalRows fw h (ix2 q k) = rmsNorm (fun j => h (ix3 ⟨q.val / 4096, by omega⟩ ⟨q.val % 4096, by omega⟩ j)) (fun j => fw (ix1 j)) k := by
  pointwise [finalRows]
  rfl
/-- The two branches one at a time. -/
theorem products_first (ya yb : FVec Ideal S4x4096x2048 .f32) (a : Fin 4) (s : Fin 4096) (k : Fin 2048) :
    products wb ya yb (ix4 a s 0 k) = ∑ e : Fin 2048, ya (ix3 a s e) * wb (ix4 0 0 e k) :=
  (products_apply wb ya yb a s 0 k).trans (Finset.sum_congr rfl fun e _ => by rw [if_pos (by decide)])
theorem products_second (ya yb : FVec Ideal S4x4096x2048 .f32) (a : Fin 4) (s : Fin 4096) (k : Fin 2048) :
    products wb ya yb (ix4 a s 1 k) = ∑ e : Fin 2048, yb (ix3 a s e) * wb (ix4 0 1 e k) :=
  (products_apply wb ya yb a s 1 k).trans (Finset.sum_congr rfl fun e _ => by rw [if_neg (by decide)])
theorem gates_first (p : FVec Ideal S4x4096x16384 .f32) (a : Fin 4) (s : Fin 4096) (k : Fin 2048) :
    gates bg p (ix4 a s 0 k) = sigmoid (p (ix3 a s ⟨12288 + k.val, by omega⟩) + bg (ix3 0 0 k)) := by
  rw [gates_apply]
  simp only [Fin.val_zero, Nat.mul_zero, Nat.zero_add]
theorem gates_second (p : FVec Ideal S4x4096x16384 .f32) (a : Fin 4) (s : Fin 4096) (k : Fin 2048) :
    gates bg p (ix4 a s 1 k) = sigmoid (p (ix3 a s ⟨12288 + (2048 + k.val), by omega⟩) + bg (ix3 0 1 k)) := by
  rw [gates_apply]
  simp only [Fin.val_one, Nat.mul_one]

/-- The projection of a token, by its place among all tokens. -/
theorem proj_at (a : Fin 4) (s : Fin 4096) (j : Fin 16384) : proj P (ix3 a s j) = P (ix2 ⟨4096 * a.val + s.val, by omega⟩ j) := proj_apply P a s j _ rfl
theorem branchB_at (a : Fin 4) (s : Fin 4096) (k : Fin 2048) : branchB yb (ix3 a s k) = yb (ix2 ⟨4096 * a.val + s.val, by omega⟩ k) := branchB_apply yb a s k _ rfl

/-- The reference's result at an index is the merge's, its gate a number times its sigmoid. -/
theorem reference_apply (q : Fin 16384) (k : Fin 2048) :
    reference P lw lb ws bs yb x bg wb wo fw (ix2 q k) = Cert.Kernel2Ideal.Merge.resultAt (fun z => z * sigmoid z) P lw lb ws bs yb x bg wb wo fw q k := by
  unfold reference
  have h1 : (⟨4096 * (q.val / 4096) + q.val % 4096, by omega⟩ : Fin 16384) = q := Fin.ext (by show 4096 * (q.val / 4096) + q.val % 4096 = q.val; omega)
  have h2 : ∀ i : Fin 128, (⟨4096 * (q.val / 4096) + (q.val % 4096 / 128 * 128 + i.val), by omega⟩ : Fin 16384) = ⟨q.val / 128 * 128 + i.val, by omega⟩ :=
    fun i => Fin.ext (by show 4096 * (q.val / 4096) + (q.val % 4096 / 128 * 128 + i.val) = q.val / 128 * 128 + i.val; omega)
  have h3 : (⟨q.val % 4096 % 128, by omega⟩ : Fin 128) = ⟨q.val % 128, by omega⟩ := Fin.ext (by show q.val % 4096 % 128 = q.val % 128; omega)
  simp only [finalRows_apply, hiddenRows_apply, products_first, products_second, gates_first, gates_second, branchA_apply, mixed_apply, masked_apply, normed_apply, proj_at, branchB_at, h1, h2, h3]
  unfold Cert.Kernel2Ideal.Merge.resultAt
  refine congrArg (fun v => rmsNorm v _ k) (funext fun j => ?_)
  refine congrArg (fun v => residual _ v _ j) (funext fun j => ?_)
  simp only [merged, gated]

variable (m : (ℓ : Loc nD τ sig) → Buf (Elt Ideal) ℓ) (c : Dev nD)
theorem result_eq : Value.res_out0 (F := Ideal) m c = reference (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10)) := rfl

end Cert.Reference2Ideal.Merge

end
-- ==== Proof.Merge.Claims.lean ====
/- The claims about the merge: the frames and the equation of the two programs' results. -/
module

public import proofs.«01_k».proof.Defs
public import proofs.«01_k».proof.Proof.Merge.SameText
public import proofs.«01_k».proof.Proof.Merge.Equation
public import proofs.«01_k».proof.Proof.Gen.Kernel2Ideal.Value
public import proofs.«01_k».proof.Proof.Gen.Pre_gate_above_minus_infinity

@[expose] public section

set_option maxRecDepth 16384

noncomputable section

namespace Cert.Merge

open Idealize.ShloMosaic Idealize.ShloMosaic.TcCoe Idealize.SL.Sem
open Cert.Kernel2Ideal.Gen Cert.Kernel2Ideal.Merge

/-- The merge terminates with its arguments unchanged and every semaphore at zero; its text is the idealized program's, so its run is that one at words. -/
theorem frame_kernel : Cert.quiescent_Kernel2 := by
  intro m ρ _
  rw [defs_same, main_same]
  exact Cert.Kernel2Ideal.Gen.frame (F := Bits) m ρ

theorem frame_kernelIdeal : Cert.quiescent_Kernel2Ideal :=
  fun m ρ _ => Cert.Kernel2Ideal.Gen.frame (F := Ideal) m ρ

/-- The reference terminates with its arguments unchanged; it has no semaphore. -/
theorem frame_referenceIdeal : Cert.quiescent_Reference2Ideal :=
  fun m ρ _ => (θ_run Cert.Reference2Ideal.defs _ _).mono
    (fun r h => ⟨fun c => (h c).2, sem_eq_zero_of_no_sems (by decide) r.2⟩)
    (Cert.Reference2Ideal.Value.run (F := Ideal) m ρ)

/-- Under the precondition no entry the gate is taken of is minus infinity. -/
theorem gate_ne_bot (m : (ℓ : Loc Cert.Kernel2Ideal.nD Cert.Kernel2Ideal.τ Cert.Kernel2Ideal.sig) → Buf (Elt Ideal) ℓ)
    (h : Cert.Pre_Kernel2Ideal_gate_above_minus_infinity m) (c : Dev Cert.Kernel2Ideal.nD) (q : Fin 16384) (j : Fin 2048) :
    (m ((c.tc : Thread Cert.Kernel2Ideal.nD Cert.Kernel2Ideal.τ).loc Cert.Kernel2Ideal.main_arg0) : FVec Ideal Cert.Kernel2Ideal.S16384x16384 .bf16) (ix2 q ⟨4096 + j.val, by omega⟩) ≠ (⊥ : EReal) := by
  have h0 := congrFun (h c) (ix2 q j)
  unfold Cert.Pre_gate_above_minus_infinity.fn at h0
  pointwise at h0
  have hb : Ideal.ofBits .f32 0xFF800000#32 = ⊥ := by simp [Ideal.ofBits, Ideal.ieee]
  rw [hb] at h0
  have hl : ∀ z : EReal, BitVec.ofBool (decide (⊥ < z)) = 1#1 → z ≠ ⊥ := fun z hz hx => by
    subst hx
    rw [decide_eq_false (lt_irrefl _)] at hz
    exact absurd hz (by decide)
  exact hl _ h0

/-- The kernel's gate is a number times its sigmoid wherever the precondition holds. -/
theorem resultOf_sigmoid (m : (ℓ : Loc Cert.Kernel2Ideal.nD Cert.Kernel2Ideal.τ Cert.Kernel2Ideal.sig) → Buf (Elt Ideal) ℓ)
    (h : Cert.Pre_Kernel2Ideal_gate_above_minus_infinity m) (c : Dev Cert.Kernel2Ideal.nD) :
    resultOf m tanhGate c = resultOf m (fun z => z * sigmoid z) c := by
  funext i
  unfold resultOf resultAt
  have e : (fun j : Fin 2048 => tanhGate ((m ((c.tc : Thread Cert.Kernel2Ideal.nD Cert.Kernel2Ideal.τ).loc Cert.Kernel2Ideal.main_arg0) : FVec Ideal Cert.Kernel2Ideal.S16384x16384 .bf16) (ix2 (i 0) ⟨4096 + j.val, by omega⟩)))
      = fun j : Fin 2048 => (fun z => z * sigmoid z) ((m ((c.tc : Thread Cert.Kernel2Ideal.nD Cert.Kernel2Ideal.τ).loc Cert.Kernel2Ideal.main_arg0) : FVec Ideal Cert.Kernel2Ideal.S16384x16384 .bf16) (ix2 (i 0) ⟨4096 + j.val, by omega⟩)) :=
    funext fun j => silu_tanh _ (gate_ne_bot m h c (i 0) j)
  rw [e]

/-- From equal arguments, the gate's columns above minus infinity, both programs end with equal results, element by element. -/
theorem equal_results : Cert.algebraic_Kernel2Ideal_Reference2Ideal_pre_gate_above_minus_infinity := by
  intro m ρ m' ρ' hpre hagree
  refine ⟨fun c => (dats m 0 c).arrAt 12 Cert.Kernel2Ideal.cfg0.N, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  refine (Cert.Reference2Ideal.Merge.result_eq m' c).trans ?_
  obtain ⟨h0, h1, h2, h3, h4, h5, h6, h7, h8, h9, h10⟩ := hagree c
  rw [h0, h1, h2, h3, h4, h5, h6, h7, h8, h9, h10]
  refine Eq.trans ?_ ((resultOf_sigmoid m hpre c).symm.trans (final m c).symm)
  funext i
  obtain ⟨q, k, rfl⟩ : ∃ (q : Fin 16384) (k : Fin 2048), i = (ix2 q k : Cert.Kernel2Ideal.S16384x2048.Idx) := ⟨i 0, i 1, by blk_ext⟩
  exact Cert.Reference2Ideal.Merge.reference_apply _ _ _ _ _ _ _ _ _ _ _ q k

end Cert.Merge

end
-- ==== Proof.Ssd.SameText.lean ====
/- The scan and its idealization have the same text, so their bodies, and the programs around them, are equal at words. -/
module

public import proofs.«01_k».proof.Defs
public import Idealize.ShloMosaic.Lib.Tactic
public import proofs.«01_k».proof.Proof.Gen.Kernel3
public import proofs.«01_k».proof.Proof.Gen.Kernel3Ideal

@[expose] public section

set_option maxRecDepth 65536

noncomputable section

namespace Cert.Ssd

open Idealize.ShloMosaic Idealize.ShloMosaic.Tactic Idealize.ShloMosaic.TcCoe Idealize.SL.Sem

theorem body_same : @Cert.Kernel3.cc0_ssd Bits _ _ = @Cert.Kernel3Ideal.cc0_ssd Bits _ _ := rfl

theorem defs₀_same : Cert.Kernel3.defs₀ (F := Bits) = Cert.Kernel3Ideal.defs₀ (F := Bits) := by
  unfold Cert.Kernel3.defs₀ Cert.Kernel3Ideal.defs₀
  refine congrArg (Defs.onTc (nD := Cert.Kernel3Ideal.nD) (τ := Cert.Kernel3Ideal.τ) (sig := Cert.Kernel3Ideal.sig) (Val := Elt Bits) (Λ := Cert.Kernel3Ideal.Λ₀)) (funext fun l => funext fun x => ?_)
  match l, x with
  | 0, (t, s) =>
    rw [body_same]; dsimp only; rfl
  | ⟨_ + 1, h⟩, _ => exact absurd h (Nat.not_lt.2 (Nat.le_add_left _ _))

theorem defs_same : Cert.Kernel3.defs (F := Bits) = Cert.Kernel3Ideal.defs (F := Bits) := by
  unfold Cert.Kernel3.defs Cert.Kernel3Ideal.defs
  rw [defs₀_same]
  rfl
theorem main_same : Cert.Kernel3.main (F := Bits) = Cert.Kernel3Ideal.main (F := Bits) := by sl_kernel_rfl

end Cert.Ssd
end
-- ==== Proof.Ssd.Blocks.lean ====
/- The blocks one point of the scan stores, written once for every chunk and group. -/
module

public import proofs.«01_k».proof.Proof.Gen.Kernel3Ideal.Frame

@[expose] public section

set_option maxRecDepth 16384

noncomputable section

namespace Cert.Kernel3Ideal.Ssd

open Idealize.ShloMosaic Idealize.ShloMosaic.TcCoe Idealize.ShloMosaic.Tactic
open Cert.Kernel3Ideal Cert.Kernel3Ideal.Gen

variable {F : FTy → Type} [FloatOps F]

/-- The activated convolution of one chunk: `xx` holds the 16 rows before it and its own 128. -/
def convBlock (sh : Vec F S384x144 .bf16) (xx : Vec F S144x4096 .bf16) (cb w0 w1 w2 w3 : Vec F S1x4096 .f32) (cur : Vec F S128x4096 .bf16) : FVec F S128x4096 .f32 :=
  k0_pay12 (k0_pay10 cur (k0_pay7 sh xx) (k0_pay8 cb) (k0_pay9 sh xx) w0 w1 w2 w3)
    (k0_pay11 cur (k0_pay7 sh xx) (k0_pay8 cb) (k0_pay9 sh xx) w0 w1 w2 w3)

/-- The row form of the exponents, time-step logarithm subtracted. -/
def rowBlock (dtt : Vec F S32x128 .f32) (dtb al : Vec F S32x1 .f32) : FVec F S32x128 .f32 :=
  k0_pay24 k0_pay15 (k0_pay16 dtt dtb) (k0_pay20 dtt dtb al) (k0_pay21 dtt dtb al) (k0_pay22 dtt dtb al)
/-- The column form of the exponents. -/
def colBlock (dtt : Vec F S32x128 .f32) (dtb al : Vec F S32x1 .f32) : FVec F S128x128 .f32 :=
  k0_pay26 k0_pay15 (k0_pay20 dtt dtb al) (k0_pay21 dtt dtb al) (k0_pay22 dtt dtb al)
/-- The state's weights widened to the channels. -/
def wide1 (dtt : Vec F S32x128 .f32) (dtb al : Vec F S32x1 .f32) (e3 : Vec F S128x2048 .bf16) : FVec F S128x2048 .f32 :=
  k0_pay28 k0_pay15 (k0_pay16 dtt dtb) (k0_pay20 dtt dtb al) (k0_pay21 dtt dtb al) (k0_pay22 dtt dtb al) e3
/-- The exponentials of the sums widened to the channels. -/
def wide2 (dtt : Vec F S32x128 .f32) (dtb al : Vec F S32x1 .f32) (e3 : Vec F S128x2048 .bf16) : FVec F S128x2048 .f32 :=
  k0_pay34 (k0_pay27 e3) (k0_pay30 k0_pay15 (k0_pay20 dtt dtb al) (k0_pay21 dtt dtb al) (k0_pay22 dtt dtb al)) (k0_pay32 k0_pay15 (k0_pay20 dtt dtb al) (k0_pay21 dtt dtb al) (k0_pay22 dtt dtb al)) (k0_pay33 k0_pay15 (k0_pay20 dtt dtb al) (k0_pay21 dtt dtb al) (k0_pay22 dtt dtb al))

theorem slicesCol (h : Fin 32) : S128x128.Slices ![0, h.val] S128x1 := by revert h; decide
theorem slicesRow (h : Fin 32) : S32x128.Slices ![h.val, 0] S1x128 := by revert h; decide

/-- One head's causal scores. -/
def scoreBlock (h : Fin 32) (ap : FVec F S32x128 .f32) (acol cbm : FVec F S128x128 .f32) : FVec F S128x128 .bf16 :=
  truncf .bf16 (mulf cbm (exp (select k0_pay14 (subf (broadcastTo S128x128 (extractStridedSlice S128x1 ![0, h.val] acol (slicesCol h)) broadcasts_S128x1_S128x128)
    (broadcastTo S128x128 (extractStridedSlice S1x128 ![h.val, 0] ap (slicesRow h)) broadcasts_S1x128_S128x128)) (broadcast S128x128 (Scalar.ofBits .f32 0x00000000#32))))) bitsLt_bf16_f32
/-- The scores of one group's four heads, side by side. -/
def scoresBlock (g : Fin 8) (ap : FVec F S32x128 .f32) (acol cbm : FVec F S128x128 .f32) : FVec F S128x512 .bf16 :=
  concatenate S128x512 1 [⟨S128x128, scoreBlock ⟨4 * g.val, by omega⟩ ap acol cbm⟩, ⟨S128x128, scoreBlock ⟨4 * g.val + 1, by omega⟩ ap acol cbm⟩,
    ⟨S128x128, scoreBlock ⟨4 * g.val + 2, by omega⟩ ap acol cbm⟩, ⟨S128x128, scoreBlock ⟨4 * g.val + 3, by omega⟩ ap acol cbm⟩] concatenates_S128x128_S128x128_S128x128_S128x128_S128x512_d1
/-- A group's channels, block-diagonal over its heads. -/
def diagBlock (xs : Vec F S128x256 .f32) : FVec F S512x256 .bf16 :=
  k0_pay43 (iota .tc S128x256 32 [1] iota_S128x256_d1_w32) (k0_pay38 xs) (k0_pay40 xs)
/-- A group's next state. -/
def stateBlock (b : Vec F S128x128 .f32) (xs : Vec F S128x256 .f32) (h : Vec F S1x128x256 .f32) (w1 : Vec F S128x256 .f32) (wl : Vec F S1x256 .f32) : FVec F S1x128x256 .f32 :=
  k0_pay45 (k0_pay35 b) xs h w1 wl
/-- A group's results over one chunk. -/
def outBlock (g : Fin 8) (ap : FVec F S32x128 .f32) (acol : FVec F S128x128 .f32) (b cc : Vec F S128x128 .f32) (xs : Vec F S128x256 .f32) (h : Vec F S1x128x256 .f32)
    (w2 : Vec F S128x256 .f32) (dsk : Vec F S1x256 .f32) (z : Vec F S128x256 .bf16) (nw : Vec F S1x256 .f32) : FVec F S128x256 .bf16 :=
  k0_pay48 (k0_pay46 (k0_pay36 cc) xs (scoresBlock g ap acol (k0_pay37 k0_pay14 b cc)) (diagBlock xs) h w2 dsk z)
    (k0_pay47 (k0_pay36 cc) xs (scoresBlock g ap acol (k0_pay37 k0_pay14 b cc)) (diagBlock xs) h w2 dsk z) nw

variable (m : (ℓ : Loc nD τ sig) → Buf (Elt F) ℓ) (c : Dev nD) (t : Fin cfg0.N)

/-- The run of a batch's first point. -/
abbrev runA (h0 : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- The run of a later point, over what the point before left. -/
abbrev runB (h0 : ¬t.val % 8 = 0) (tail : Vec F S144x4096 .bf16) (st : Vec F S8x128x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) tail st

def curAt (i : Fin 4) : Vec F S128x4096 .bf16 :=
  View.readAt (Elt F) (ms0_0 t).view ((Rect.unit (s := S512x6144) ![0, 2048] S512x4096.size inb_S512x6144_S512x4096_0_2048).withinL
    (Rect.unit (s := S512x4096) ![128 * i.val, 0] S128x4096.size (by revert i; decide)).toLoadRect (fun _ => rfl)) ((hs0_0 t).unread (X0_0 m c t))
def gateAt (i : Fin 4) (g : Fin 8) : Vec F S128x256 .bf16 :=
  View.readAt (Elt F) (ms0_0 t).view ((Rect.unit (s := S512x6144) ![0, 0] S512x2048.size inb_S512x6144_S512x2048_0_0).withinL
    (Rect.unit (s := S512x2048) ![128 * i.val, 256 * g.val] S128x256.size (by revert i g; decide)).toLoadRect (fun _ => rfl)) ((hs0_0 t).unread (X0_0 m c t))
def stepAt (i : Fin 4) : Vec F S32x128 .f32 :=
  View.readAt (Elt F) (ms0_1 t).view (Rect.unit (s := S32x512) ![0, 128 * i.val] S32x128.size (by revert i; decide)).toLoadRect ((hs0_1 t).unread (iblk m c 1 t))
def biasAt : Vec F S32x1 .f32 :=
  View.readAt (Elt F) (ms0_2 t).view (Rect.unit (s := S32x1) ![0, 0] S32x1.size inb_S32x1_S32x1_0_0).toLoadRect ((hs0_2 t).unread (iblk m c 2 t))
def rateAt : Vec F S32x1 .f32 :=
  View.readAt (Elt F) (ms0_3 t).view (Rect.unit (s := S32x1) ![0, 0] S32x1.size inb_S32x1_S32x1_0_0).toLoadRect ((hs0_3 t).unread (iblk m c 3 t))
def shiftAt : Vec F S384x144 .bf16 :=
  View.readAt (Elt F) (ms0_4 t).view (Rect.unit (s := S384x144) ![0, 0] S384x144.size (by decide)).toLoadRect ((hs0_4 t).unread (iblk m c 4 t))
def tapAt (k : Fin 4) : Vec F S1x4096 .f32 :=
  View.readAt (Elt F) (ms0_5 t).view (Rect.unit (s := S4x4096) ![k.val, 0] S1x4096.size (by revert k; decide)).toLoadRect ((hs0_5 t).unread (iblk m c 5 t))
def convBiasAt : Vec F S1x4096 .f32 :=
  View.readAt (Elt F) (ms0_6 t).view (Rect.unit (s := S1x4096) ![0, 0] S1x4096.size (by decide)).toLoadRect ((hs0_6 t).unread (iblk m c 6 t))
def skipAt (g : Fin 8) : Vec F S1x256 .f32 :=
  View.readAt (Elt F) (ms0_7 t).view (Rect.unit (s := S1x2048) ![0, 256 * g.val] S1x256.size (by revert g; decide)).toLoadRect ((hs0_7 t).unread (iblk m c 7 t))
def normAt (g : Fin 8) : Vec F S1x256 .f32 :=
  View.readAt (Elt F) (ms0_8 t).view (Rect.unit (s := S1x2048) ![0, 256 * g.val] S1x256.size (by revert g; decide)).toLoadRect ((hs0_8 t).unread (iblk m c 8 t))
def spreadAt : Vec F S128x2048 .bf16 :=
  View.readAt (Elt F) (ms0_9 t).view (Rect.unit (s := S128x2048) ![0, 0] S128x2048.size (by decide)).toLoadRect ((hs0_9 t).unread (iblk m c 9 t))

/-- A load of the activated convolution. -/
def ld18 (L : List (View.Piece (Elt F) S128x4096 .f32)) (o w : ℕ) (h : ∀ a, (![0, o] : Fin 2 → ℕ) a + (![128, w] : Fin 2 → ℕ) a ≤ S128x4096.size a) : Vec F ⟨2, ![128, w]⟩ .f32 :=
  scM0_1.view.readCov L (Rect.unit (s := S128x4096) ![0, o] ![128, w] h).toLoadRect
/-- A load of the widened exponentials. -/
def ld20 (L : List (View.Piece (Elt F) S256x2048 .f32)) (r o n : ℕ) (h : ∀ a, (![r, o] : Fin 2 → ℕ) a + (![n, 256] : Fin 2 → ℕ) a ≤ S256x2048.size a) : Vec F ⟨2, ![n, 256]⟩ .f32 :=
  scM0_3.view.readCov L (Rect.unit (s := S256x2048) ![r, o] ![n, 256] h).toLoadRect
/-- A load of the rows before a chunk and its own. -/
def ld17 (L : List (View.Piece (Elt F) S144x4096 .bf16)) : Vec F S144x4096 .bf16 :=
  scM0_0.view.readCov L (Rect.unit (s := S144x4096) ![0, 0] S144x4096.size (by decide)).toLoadRect
theorem inbState (g : Fin 8) : ∀ a, (![g.val, 0, 0] : Fin 3 → ℕ) a + S1x128x256.size a ≤ S8x128x256.size a := by revert g; decide
/-- A load of one group's state. -/
def ld19 (L : List (View.Piece (Elt F) S8x128x256 .f32)) (g : Fin 8) : Vec F S1x128x256 .f32 :=
  scM0_2.view.readCov L (Rect.unit (s := S8x128x256) ![g.val, 0, 0] S1x128x256.size (inbState g)).toLoadRect

/-- What group `g` of chunk `i` stores as results, over the state `h`. -/
def outAt (i : Fin 4) (g : Fin 8) (CL : List (View.Piece (Elt F) S128x4096 .f32)) (WL : List (View.Piece (Elt F) S256x2048 .f32)) (h : Vec F S1x128x256 .f32) : FVec F S128x256 .bf16 :=
  outBlock g (rowBlock (stepAt m c t i) (biasAt m c t) (rateAt m c t)) (colBlock (stepAt m c t i) (biasAt m c t) (rateAt m c t))
    (ld18 CL (2048 + 128 * g.val) 128 (by revert g; decide)) (ld18 CL (3072 + 128 * g.val) 128 (by revert g; decide)) (ld18 CL (256 * g.val) 256 (by revert g; decide)) h
    (ld20 WL 128 (256 * g.val) 128 (by revert g; decide)) (skipAt m c t g) (gateAt m c t i g) (normAt m c t g)
/-- What group `g` of a chunk stores as its state, over the state `h`. -/
def stateAt (g : Fin 8) (CL : List (View.Piece (Elt F) S128x4096 .f32)) (WL : List (View.Piece (Elt F) S256x2048 .f32)) (h : Vec F S1x128x256 .f32) : FVec F S1x128x256 .f32 :=
  stateBlock (ld18 CL (2048 + 128 * g.val) 128 (by revert g; decide)) (ld18 CL (256 * g.val) 256 (by revert g; decide)) h
    (ld20 WL 0 (256 * g.val) 128 (by revert g; decide)) (ld20 WL 255 (256 * g.val) 1 (by revert g; decide))
/-- What chunk `i` stores as its activated convolution. -/
def convAt (i : Fin 4) (xx : Vec F S144x4096 .bf16) : FVec F S128x4096 .f32 :=
  convBlock (shiftAt m c t) xx (convBiasAt m c t) (tapAt m c t 0) (tapAt m c t 1) (tapAt m c t 2) (tapAt m c t 3) (curAt m c t i)
def wide1At (i : Fin 4) : FVec F S128x2048 .f32 := wide1 (stepAt m c t i) (biasAt m c t) (rateAt m c t) (spreadAt m c t)
def wide2At (i : Fin 4) : FVec F S128x2048 .f32 := wide2 (stepAt m c t i) (biasAt m c t) (rateAt m c t) (spreadAt m c t)

end Cert.Kernel3Ideal.Ssd
-- ==== Proof.Ssd.PiecesA.lean ====
/- The pieces a batch's first point stores. -/
module

public import proofs.«01_k».proof.Proof.Ssd.Blocks

@[expose] public section

set_option maxRecDepth 65536
set_option maxHeartbeats 2000000

noncomputable section

namespace Cert.Kernel3Ideal.Ssd

open Idealize.ShloMosaic Idealize.ShloMosaic.TcCoe
open Cert.Kernel3Ideal Cert.Kernel3Ideal.Gen

variable {F : FTy → Type} [FloatOps F]
variable (m : (ℓ : Loc nD τ sig) → Buf (Elt F) ℓ) (c : Dev nD) (t : Fin cfg0.N) (h0 : t.val % 8 = 0)

def outsA : List (View.Piece (Elt F) S512x2048 .bf16) := (runA m c t h0).1
def rowsA : List (View.Piece (Elt F) S144x4096 .bf16) := (runA m c t h0).2.2.2.1
def statesA : List (View.Piece (Elt F) S8x128x256 .f32) := (runA m c t h0).2.2.2.2.1
def convsA : List (View.Piece (Elt F) S128x4096 .f32) := (runA m c t h0).2.2.2.2.2.1
def widesA : List (View.Piece (Elt F) S256x2048 .f32) := (runA m c t h0).2.2.2.2.2.2.1

/-- The rows a chunk's convolution reads. -/
def xxA (i : Fin 4) : Vec F S144x4096 .bf16 := ld17 ((rowsA m c t h0).drop (7 - 2 * i.val))
/-- The state a chunk's group starts from. -/
def hinA (i : Fin 4) (g : Fin 8) : Vec F S1x128x256 .f32 := ld19 ((statesA m c t h0).drop (32 - (8 * i.val + g.val))) g

theorem convsA_drop (i : Fin 4) :
    (convsA m c t h0).drop (3 - i.val) = ⟨Rect.unit ![0, 0] S128x4096.size (by decide), convAt m c t i (xxA m c t h0 i)⟩ :: (convsA m c t h0).drop (4 - i.val) := by
  fin_cases i <;> rfl
theorem widesA_drop (i : Fin 4) :
    (widesA m c t h0).drop (6 - 2 * i.val) = ⟨Rect.unit ![128, 0] S128x2048.size (by decide), wide2At m c t i⟩ ::
      ⟨Rect.unit ![0, 0] S128x2048.size (by decide), wide1At m c t i⟩ :: (widesA m c t h0).drop (8 - 2 * i.val) := by
  fin_cases i <;> rfl
theorem rowsA_first : (rowsA m c t h0).drop 7 = ⟨Rect.unit ![16, 0] S128x4096.size (by decide), k0_pay6 (curAt m c t 0)⟩ :: [⟨Rect.unit ![0, 0] S16x4096.size (by decide), k0_pay4⟩] := rfl
theorem rowsA_next (i : Fin 3) : (rowsA m c t h0).drop (5 - 2 * i.val) = ⟨Rect.unit ![16, 0] S128x4096.size (by decide), k0_pay6 (curAt m c t i.succ)⟩ ::
    ⟨Rect.unit ![0, 0] S16x4096.size (by decide), k0_pay13 (curAt m c t i.castSucc)⟩ :: (rowsA m c t h0).drop (7 - 2 * i.val) := by
  fin_cases i <;> rfl
theorem rowsA_last : (rowsA m c t h0) = ⟨Rect.unit ![0, 0] S16x4096.size (by decide), k0_pay13 (curAt m c t 3)⟩ :: (rowsA m c t h0).drop 1 := rfl
theorem statesA_first : (statesA m c t h0).drop 32 = [⟨Rect.unit ![0, 0, 0] S8x128x256.size (by decide), k0_pay5⟩] := rfl
theorem statesA_next (i : Fin 4) (g : Fin 8) :
    (statesA m c t h0).drop (31 - (8 * i.val + g.val)) = ⟨Rect.unit ![g.val, 0, 0] S1x128x256.size (inbState g), stateAt g ((convsA m c t h0).drop (3 - i.val)) ((widesA m c t h0).drop (6 - 2 * i.val)) (hinA m c t h0 i g)⟩ ::
      (statesA m c t h0).drop (32 - (8 * i.val + g.val)) := by
  fin_cases i <;> fin_cases g <;> rfl
theorem outsA_get (i : Fin 4) (g : Fin 8) :
    (outsA m c t h0).drop (31 - (8 * i.val + g.val)) = ⟨Rect.unit ![128 * i.val, 256 * g.val] S128x256.size (by revert i g; decide),
      outAt m c t i g ((convsA m c t h0).drop (3 - i.val)) ((widesA m c t h0).drop (6 - 2 * i.val)) (hinA m c t h0 i g)⟩ :: (outsA m c t h0).drop (32 - (8 * i.val + g.val)) := by
  fin_cases i <;> fin_cases g <;> rfl
theorem outsA_nil : (outsA m c t h0).drop 32 = [] := rfl

end Cert.Kernel3Ideal.Ssd
-- ==== Proof.Ssd.PiecesB.lean ====
/- The pieces a later point stores. -/
module

public import proofs.«01_k».proof.Proof.Ssd.Blocks

@[expose] public section

set_option maxRecDepth 65536
set_option maxHeartbeats 2000000

noncomputable section

namespace Cert.Kernel3Ideal.Ssd

open Idealize.ShloMosaic Idealize.ShloMosaic.TcCoe
open Cert.Kernel3Ideal Cert.Kernel3Ideal.Gen

variable {F : FTy → Type} [FloatOps F]
variable (m : (ℓ : Loc nD τ sig) → Buf (Elt F) ℓ) (c : Dev nD) (t : Fin cfg0.N) (h0 : ¬t.val % 8 = 0) (rows : Vec F S144x4096 .bf16) (st : Vec F S8x128x256 .f32)

def outsB : List (View.Piece (Elt F) S512x2048 .bf16) := (runB m c t h0 rows st).1
def rowsB : List (View.Piece (Elt F) S144x4096 .bf16) := (runB m c t h0 rows st).2.2.2.1
def statesB : List (View.Piece (Elt F) S8x128x256 .f32) := (runB m c t h0 rows st).2.2.2.2.1
def convsB : List (View.Piece (Elt F) S128x4096 .f32) := (runB m c t h0 rows st).2.2.2.2.2.1
def widesB : List (View.Piece (Elt F) S256x2048 .f32) := (runB m c t h0 rows st).2.2.2.2.2.2.1

/-- The rows a chunk's convolution reads. -/
def xxB (i : Fin 4) : Vec F S144x4096 .bf16 := if i.val = 0 then
    View.readAt (Elt F) scM0_0.view (Rect.unit (s := S144x4096) ![0, 0] S144x4096.size (by decide)).toLoadRect (scM0_0.view.writes (Elt F) ((Memref.isWhole_whole _).unread rows) ((rowsB m c t h0 rows st).drop 7))
  else ld17 ((rowsB m c t h0 rows st).drop (7 - 2 * i.val))
/-- The state a chunk's group starts from. -/
def hinB (i : Fin 4) (g : Fin 8) : Vec F S1x128x256 .f32 := if i.val = 0 then
    View.readAt (Elt F) scM0_2.view (Rect.unit (s := S8x128x256) ![g.val, 0, 0] S1x128x256.size (inbState g)).toLoadRect ((Memref.isWhole_whole _).unread st)
  else ld19 ((statesB m c t h0 rows st).drop (32 - (8 * i.val + g.val))) g

theorem convsB_drop (i : Fin 4) :
    (convsB m c t h0 rows st).drop (3 - i.val) = ⟨Rect.unit ![0, 0] S128x4096.size (by decide), convAt m c t i (xxB m c t h0 rows st i)⟩ :: (convsB m c t h0 rows st).drop (4 - i.val) := by
  fin_cases i <;> rfl
theorem widesB_drop (i : Fin 4) :
    (widesB m c t h0 rows st).drop (6 - 2 * i.val) = ⟨Rect.unit ![128, 0] S128x2048.size (by decide), wide2At m c t i⟩ ::
      ⟨Rect.unit ![0, 0] S128x2048.size (by decide), wide1At m c t i⟩ :: (widesB m c t h0 rows st).drop (8 - 2 * i.val) := by
  fin_cases i <;> rfl
theorem rowsB_first : (rowsB m c t h0 rows st).drop 7 = ⟨Rect.unit ![16, 0] S128x4096.size (by decide), k0_pay6 (curAt m c t 0)⟩ :: [] := rfl
theorem rowsB_next (i : Fin 3) : (rowsB m c t h0 rows st).drop (5 - 2 * i.val) = ⟨Rect.unit ![16, 0] S128x4096.size (by decide), k0_pay6 (curAt m c t i.succ)⟩ ::
    ⟨Rect.unit ![0, 0] S16x4096.size (by decide), k0_pay13 (curAt m c t i.castSucc)⟩ :: (rowsB m c t h0 rows st).drop (7 - 2 * i.val) := by
  fin_cases i <;> rfl
theorem rowsB_last : (rowsB m c t h0 rows st) = ⟨Rect.unit ![0, 0] S16x4096.size (by decide), k0_pay13 (curAt m c t 3)⟩ :: (rowsB m c t h0 rows st).drop 1 := rfl
theorem statesB_first : (statesB m c t h0 rows st).drop 32 = [] := rfl
theorem statesB_next (i : Fin 4) (g : Fin 8) :
    (statesB m c t h0 rows st).drop (31 - (8 * i.val + g.val)) = ⟨Rect.unit ![g.val, 0, 0] S1x128x256.size (inbState g), stateAt g ((convsB m c t h0 rows st).drop (3 - i.val)) ((widesB m c t h0 rows st).drop (6 - 2 * i.val)) (hinB m c t h0 rows st i g)⟩ ::
      (statesB m c t h0 rows st).drop (32 - (8 * i.val + g.val)) := by
  fin_cases i <;> fin_cases g <;> rfl
theorem outsB_get (i : Fin 4) (g : Fin 8) :
    (outsB m c t h0 rows st).drop (31 - (8 * i.val + g.val)) = ⟨Rect.unit ![128 * i.val, 256 * g.val] S128x256.size (by revert i g; decide),
      outAt m c t i g ((convsB m c t h0 rows st).drop (3 - i.val)) ((widesB m c t h0 rows st).drop (6 - 2 * i.val)) (hinB m c t h0 rows st i g)⟩ :: (outsB m c t h0 rows st).drop (32 - (8 * i.val + g.val)) := by
  fin_cases i <;> fin_cases g <;> rfl
theorem outsB_nil : (outsB m c t h0 rows st).drop 32 = [] := rfl

end Cert.Kernel3Ideal.Ssd
-- ==== Proof.Ssd.Spec.lean ====
/- The scan at exact arithmetic, entry by entry, as functions of the arguments' entries: the convolution with its activation, the
   time steps and their running sums over a chunk of 128 rows, the state carried from chunk to chunk, and the gated, normalised result. -/
module

public import proofs.«01_k».proof.Proof.Merge.Gate

@[expose] public section

noncomputable section

namespace Cert.Ssd

open Idealize.ShloMosaic Cert.Merge

/-- The arguments' entries. -/
structure Args where
  P : Fin 16384 → Fin 16384 → EReal
  D : Fin 32 → Fin 16384 → EReal
  cw : Fin 4 → Fin 4096 → EReal
  cb : Fin 4096 → EReal
  dtb : Fin 32 → EReal
  al : Fin 32 → EReal
  dsk : Fin 32 → EReal
  nw : Fin 2048 → EReal

/-- Row `l` of chunk `k`. -/
def row (k l : Fin 128) : Fin 16384 := ⟨128 * k.val + l.val, by omega⟩
/-- The head and the group of a channel. -/
def head (e : Fin 2048) : Fin 32 := ⟨e.val / 64, by omega⟩
def group (e : Fin 2048) : Fin 8 := ⟨e.val / 256, by omega⟩
/-- The chunk of a running number. -/
def chunk (k : ℕ) : Fin 128 := ⟨k % 128, by omega⟩

/-- The soft plus, through the number's absolute value. -/
def softplus (x : EReal) : EReal := max x 0 + Ideal.log1p (Ideal.exp (0 - max x (-x)))

namespace Args

variable (A : Args)

/-- The convolution's `i`-th input at row `q`: zero before the batch's first row. -/
def tap (q : Fin 16384) (i : Fin 4) (j : Fin 4096) : EReal :=
  if h : 3 ≤ q.val % 4096 + i.val then A.P ⟨q.val + i.val - 3, by omega⟩ ⟨8192 + j.val, by omega⟩ else 0
def conv (q : Fin 16384) (j : Fin 4096) : EReal :=
  A.cb j + A.tap q 0 j * A.cw 0 j + A.tap q 1 j * A.cw 1 j + A.tap q 2 j * A.cw 2 j + A.tap q 3 j * A.cw 3 j
def act (q : Fin 16384) (j : Fin 4096) : EReal := A.conv q j * sigmoid (A.conv q j)
def xs (q : Fin 16384) (e : Fin 2048) : EReal := A.act q ⟨e.val, by omega⟩
def bm (q : Fin 16384) (g : Fin 8) (n : Fin 128) : EReal := A.act q ⟨2048 + 128 * g.val + n.val, by omega⟩
def cm (q : Fin 16384) (g : Fin 8) (n : Fin 128) : EReal := A.act q ⟨3072 + 128 * g.val + n.val, by omega⟩
def dt (q : Fin 16384) (h : Fin 32) : EReal := softplus (A.D h q + A.dtb h)
def adt (q : Fin 16384) (h : Fin 32) : EReal := A.dt q h * (0 - Ideal.exp (A.al h))
/-- The running sum of a chunk's exponents. -/
def cum (k : Fin 128) (h : Fin 32) (l : Fin 128) : EReal := ∑ j : Fin 128, if j.val ≤ l.val then A.adt (row k j) h else 0
/-- The decay from row `l` of a chunk to its end. -/
def toEnd (k : Fin 128) (h : Fin 32) (l : Fin 128) : EReal := Ideal.exp (A.cum k h 127 - A.cum k h l)
/-- A chunk's own contribution to the state. -/
def step (k : Fin 128) (e : Fin 2048) (n : Fin 128) : EReal :=
  ∑ l : Fin 128, A.bm (row k l) (group e) n * (A.xs (row k l) e * (A.dt (row k l) (head e) * A.toEnd k (head e) l))
/-- The state before chunk `k`: zero at a batch's first chunk. -/
def state : ℕ → Fin 2048 → Fin 128 → EReal
  | 0 => fun _ _ => 0
  | k + 1 => fun e n => if (k + 1) % 32 = 0 then 0 else state k e n * Ideal.exp (A.cum (chunk k) (head e) 127) + A.step (chunk k) e n
/-- The mixing of a chunk's rows up to `l`. -/
def diag (k l : Fin 128) (e : Fin 2048) : EReal :=
  ∑ s : Fin 128, if s.val ≤ l.val then
    (∑ n : Fin 128, A.cm (row k l) (group e) n * A.bm (row k s) (group e) n) * (Ideal.exp (A.cum k (head e) l - A.cum k (head e) s) * (A.dt (row k s) (head e) * A.xs (row k s) e)) else 0
/-- The contribution of the state before the chunk. -/
def off (k l : Fin 128) (e : Fin 2048) : EReal :=
  (∑ n : Fin 128, A.cm (row k l) (group e) n * A.state k.val e n) * Ideal.exp (A.cum k (head e) l)
def gate (q : Fin 16384) (e : Fin 2048) : EReal := A.P q ⟨6144 + e.val, by omega⟩
def gated (k l : Fin 128) (e : Fin 2048) : EReal :=
  (A.diag k l e + A.off k l e + A.dsk (head e) * A.xs (row k l) e) * (A.gate (row k l) e * sigmoid (A.gate (row k l) e))
/-- The scan's result: the gated entries over their group's root mean square, weighted. -/
def out (k l : Fin 128) (e : Fin 2048) : EReal :=
  A.gated k l e * Ideal.rsqrt (Ideal.div (∑ j : Fin 256, A.gated k l ⟨256 * (e.val / 256) + j.val, by omega⟩ * A.gated k l ⟨256 * (e.val / 256) + j.val, by omega⟩)
    (Ideal.ofBits .f32 0x43800000#32) + Ideal.ofBits .f32 0x3727C5AC#32) * A.nw e

/-- What the precondition says of the entries. -/
structure Ok : Prop where
  gate : ∀ q e, A.gate q e ≠ ⊥
  conv : ∀ q j, A.conv q j ≠ ⊥
  step : ∀ q h, A.D h q + A.dtb h ≠ ⊤

end Args

theorem exp_nonneg (x : EReal) : 0 ≤ Ideal.exp x := by
  induction x with
  | bot => exact le_refl _
  | top => exact le_top
  | coe r => exact EReal.coe_nonneg.mpr (Real.exp_pos r).le
theorem exp_le_one (x : EReal) (h : x ≤ 0) : Ideal.exp x ≤ 1 := by
  induction x with
  | bot => exact zero_le_one
  | top => exact absurd h (by decide)
  | coe r =>
    have hr : r ≤ 0 := by exact_mod_cast h
    show ((Real.exp r : ℝ) : EReal) ≤ 1
    exact_mod_cast Real.exp_le_one_iff.mpr hr
theorem exp_ne_top (x : EReal) (h : x ≤ 0) : Ideal.exp x ≠ ⊤ := fun e => by
  have := exp_le_one x h
  rw [e] at this
  exact absurd this (by decide)
theorem ne_bot_of_nonneg (x : EReal) (h : 0 ≤ x) : x ≠ ⊥ := fun e => by
  rw [e] at h
  exact absurd h (by decide)

theorem softplus_real (r : ℝ) : ∃ s : ℝ, 0 ≤ s ∧ softplus r = (s : EReal) := by
  refine ⟨max r 0 + Real.log (1 + Real.exp (-max r (-r))), ?_, ?_⟩
  · have h : 0 ≤ Real.log (1 + Real.exp (-max r (-r))) := Real.log_nonneg (by have := Real.exp_pos (-max r (-r)); linarith)
    have h' : 0 ≤ max r 0 := le_max_right _ _
    linarith
  · unfold softplus Ideal.log1p
    rw [zero_sub, show max (r : EReal) (-(r : EReal)) = ((max r (-r) : ℝ) : EReal) from by rw [← EReal.coe_neg]; exact (EReal.coe_strictMono.monotone.map_max).symm, ← EReal.coe_neg]
    rw [show max (r : EReal) 0 = ((max r 0 : ℝ) : EReal) from (EReal.coe_strictMono.monotone.map_max).symm]
    show _ + Ideal.log (1 + ((Real.exp (-max r (-r)) : ℝ) : EReal)) = _
    rw [show (1 : EReal) + ((Real.exp (-max r (-r)) : ℝ) : EReal) = ((1 + Real.exp (-max r (-r)) : ℝ) : EReal) from by push_cast; rfl]
    have hp : ¬(1 + Real.exp (-max r (-r)) ≤ 0) := by have := Real.exp_pos (-max r (-r)); linarith
    show _ + (if 1 + Real.exp (-max r (-r)) ≤ 0 then (⊥ : EReal) else _) = _
    rw [if_neg hp, ← EReal.coe_add]
/-- A time step below infinity is a nonnegative real. -/
theorem softplus_fin (x : EReal) (h : x ≠ ⊤) : ∃ s : ℝ, 0 ≤ s ∧ softplus x = (s : EReal) := by
  induction x with
  | top => exact absurd rfl h
  | coe r => exact softplus_real r
  | bot =>
    refine ⟨0, le_refl _, ?_⟩
    unfold softplus Ideal.log1p
    rw [EReal.neg_bot, max_eq_right bot_le, max_eq_right bot_le, zero_sub, EReal.neg_top]
    show 0 + Ideal.log (1 + 0) = _
    rw [add_zero, zero_add, show (1 : EReal) = ((1 : ℝ) : EReal) from rfl]
    show (if (1 : ℝ) ≤ 0 then (⊥ : EReal) else ((Real.log 1 : ℝ) : EReal)) = _
    rw [if_neg (by norm_num), Real.log_one]

/-- The factor under a logarithm comes out of the exponential. -/
theorem exp_log (l s : EReal) (d : ℝ) (hl : l ≤ s) (hs : s ≤ 0) (hd : 0 ≤ d) :
    Ideal.exp (l - (s - Ideal.log d)) = Ideal.exp (l - s) * d := by
  have hlog : Ideal.log d = if d ≤ 0 then (⊥ : EReal) else ((Real.log d : ℝ) : EReal) := rfl
  have e0 : ∀ y : EReal, Ideal.exp ((⊥ : EReal) - y) = 0 := fun y => by rw [sub_eq_add_neg, EReal.bot_add]; rfl
  induction s with
  | top => exact absurd hs (by decide)
  | bot =>
    obtain rfl : l = ⊥ := le_bot_iff.mp hl
    rw [e0, e0, zero_mul]
  | coe a =>
    induction l with
    | top => exact absurd (hl.trans hs) (by decide)
    | bot => rw [e0, e0, zero_mul]
    | coe b =>
      rw [hlog]
      split
      · have h0 : d = 0 := le_antisymm ‹_› hd
        subst h0
        rw [sub_eq_add_neg (a : EReal), EReal.neg_bot, EReal.coe_add_top, sub_eq_add_neg, EReal.neg_top, EReal.add_bot]
        rw [show Ideal.exp ⊥ = 0 from rfl, EReal.coe_zero, mul_zero]
      · have hp : 0 < d := lt_of_not_ge ‹_›
        rw [← EReal.coe_sub, ← EReal.coe_sub, ← EReal.coe_sub]
        show ((Real.exp _ : ℝ) : EReal) = ((Real.exp _ : ℝ) : EReal) * _
        rw [← EReal.coe_mul, show b - (a - Real.log d) = (b - a) + Real.log d from by ring, Real.exp_add, Real.exp_log hp]

/-- The three parts of a number at most zero, each over the same weight of zero or one, are the number's. -/
theorem split3 (a u : EReal) (ha : a ≤ 0) (hu : u = 0 ∨ u = 1) : a * u + (a - a) * u + (a - a - (a - a)) * u = a * u := by
  obtain rfl | rfl := hu
  · simp
  · induction a with
    | top => exact absurd ha (by decide)
    | bot => simp [sub_eq_add_neg]
    | coe r => rw [← EReal.coe_sub, ← EReal.coe_sub]; simp

namespace Args

variable (A : Args)

theorem dt_fin (ok : A.Ok) (q : Fin 16384) (h : Fin 32) : ∃ s : ℝ, 0 ≤ s ∧ A.dt q h = (s : EReal) := softplus_fin _ (ok.step q h)
theorem adt_nonpos (ok : A.Ok) (q : Fin 16384) (h : Fin 32) : A.adt q h ≤ 0 := by
  obtain ⟨s, hs, e⟩ := A.dt_fin ok q h
  unfold adt
  rw [e]
  refine EReal.mul_nonpos_iff.mpr (.inl ⟨by exact_mod_cast hs, ?_⟩)
  rw [zero_sub]
  exact EReal.neg_le_zero.mpr (exp_nonneg _)
theorem cum_anti (ok : A.Ok) (k : Fin 128) (h : Fin 32) (s l : Fin 128) (hsl : s.val ≤ l.val) : A.cum k h l ≤ A.cum k h s :=
  Finset.sum_le_sum fun j _ => by
    have := A.adt_nonpos ok (row k j) h
    split <;> split
    · exact le_refl _
    · exact this
    · omega
    · exact le_refl _
theorem cum_nonpos (ok : A.Ok) (k : Fin 128) (h : Fin 32) (l : Fin 128) : A.cum k h l ≤ 0 :=
  Finset.sum_nonpos fun j _ => by
    have := A.adt_nonpos ok (row k j) h
    split
    · exact this
    · exact le_refl _
theorem sub_nonpos' (x y : EReal) (h : x ≤ y) (hy : y ≤ 0) : x - y ≤ 0 := by
  induction y with
  | top => exact absurd hy (by decide)
  | bot =>
    obtain rfl : x = ⊥ := le_bot_iff.mp h
    rw [sub_eq_add_neg, EReal.bot_add]
    exact bot_le
  | coe a =>
    induction x with
    | top => exact absurd (h.trans hy) (by decide)
    | bot => rw [sub_eq_add_neg, EReal.bot_add]; exact bot_le
    | coe b =>
      have hb : b ≤ a := by exact_mod_cast h
      rw [← EReal.coe_sub]
      exact_mod_cast (by linarith : b - a ≤ 0)
theorem exp_fin (x : EReal) (h : x ≤ 0) : ∃ s : ℝ, Ideal.exp x = (s : EReal) :=
  ⟨(Ideal.exp x).toReal, (EReal.coe_toReal (exp_ne_top x h) (ne_bot_of_nonneg _ (exp_nonneg x))).symm⟩
theorem toEnd_fin (ok : A.Ok) (k : Fin 128) (h : Fin 32) (l : Fin 128) : ∃ s : ℝ, A.toEnd k h l = (s : EReal) :=
  exp_fin _ (sub_nonpos' _ _ (A.cum_anti ok k h l 127 (by have := l.isLt; show l.val ≤ 127; omega)) (A.cum_nonpos ok k h l))

end Args

theorem coe_sub_self (s : ℝ) : (s : EReal) - (s : EReal) = 0 := by rw [← EReal.coe_sub, sub_self]; rfl

end Cert.Ssd

end
-- ==== Proof.Ssd.Conv.lean ====
/- The activated convolution of a chunk at an index. -/
module

public import proofs.«01_k».proof.Proof.Ssd.Blocks
public import proofs.«01_k».proof.Proof.Ssd.Spec
public import proofs.«01_k».proof.Proof.Merge.Block

@[expose] public section

set_option maxRecDepth 16384

noncomputable section

namespace Cert.Kernel3Ideal.Ssd

open Idealize.ShloMosaic Idealize.ShloMosaic.TcCoe Idealize.ShloMosaic.Tactic
open Cert.Kernel3Ideal Cert.Kernel3Ideal.Gen Cert.Merge Cert.Ssd

variable (A : Args) (ok : A.Ok) (k : Fin 128)
variable (sh : FVec Ideal S384x144 .bf16) (xx : FVec Ideal S144x4096 .bf16) (cur : FVec Ideal S128x4096 .bf16) (cb w0 w1 w2 w3 : FVec Ideal S1x4096 .f32)
variable (hsh : ∀ (o : Fin 384) (x : Fin 144), sh (ix2 o x) = if 13 + (16 * (o.val / 48) + o.val % 16) + o.val % 48 / 16 = x.val then (1 : EReal) else 0)

include hsh in
/-- A row of the shift matrix picks one row. -/
theorem shift_sum (o : Fin 384) (j : Fin 4096) (y : Fin 144) (hy : y.val = 13 + (16 * (o.val / 48) + o.val % 16) + o.val % 48 / 16) :
    ∑ x : Fin 144, sh (ix2 o x) * xx (ix2 x j) = xx (ix2 y j) := by
  rw [Finset.sum_eq_single y]
  · rw [hsh, if_pos hy.symm]
    exact one_mul _
  · intro x _ hx
    rw [hsh, if_neg fun h => hx (Fin.ext (by omega))]
    exact zero_mul _
  · exact fun h => absurd (Finset.mem_univ _) h

theorem add3 (a c w0 w1 w2 x0 x1 x2 y0 y1 y2 : EReal) (h0 : x0 = y0) (h1 : x1 = y1) (h2 : x2 = y2) :
    a + x0 * w0 + x1 * w1 + x2 * w2 + c = a + y0 * w0 + y1 * w1 + y2 * w2 + c := by rw [h0, h1, h2]
include hsh in
theorem half_apply (r : Fin 128) (j : Fin 4096) (y0 y1 y2 : EReal) (h0 : xx (ix2 ⟨13 + r.val, by omega⟩ j) = y0) (h1 : xx (ix2 ⟨14 + r.val, by omega⟩ j) = y1)
    (h2 : xx (ix2 ⟨15 + r.val, by omega⟩ j) = y2) : k0_pay10 (F := Ideal) cur (k0_pay7 sh xx) (k0_pay8 cb) (k0_pay9 sh xx) w0 w1 w2 w3 (ix2 r j)
    = ((1 / 2 : ℝ) : EReal) * (cb (ix2 0 j) + y0 * w0 (ix2 0 j) + y1 * w1 (ix2 0 j) + y2 * w2 (ix2 0 j) + cur (ix2 r j) * w3 (ix2 0 j)) := by
  have hV : ∀ (z : Fin 384) (y : Fin 144), y.val = 13 + (16 * (z.val / 48) + z.val % 16) + z.val % 48 / 16 → k0_pay7 (F := Ideal) sh xx (ix2 z j) = xx (ix2 y j) := fun z y hy => by
    refine Eq.trans ?_ (shift_sum sh xx hsh z j y hy)
    pointwise [k0_pay7]
  unfold k0_pay9 k0_pay8
  generalize k0_pay7 (F := Ideal) sh xx = V at hV ⊢
  have f0 : ∀ z : Fin 384, z.val = 48 * (r.val / 16) + r.val % 16 → V (ix2 z j) = y0 := fun z hz => (hV z ⟨13 + r.val, by omega⟩ (by dsimp only; omega)).trans h0
  have f1 : ∀ z : Fin 384, z.val = 48 * (r.val / 16) + 16 + r.val % 16 → V (ix2 z j) = y1 := fun z hz => (hV z ⟨14 + r.val, by omega⟩ (by dsimp only; omega)).trans h1
  have f2 : ∀ z : Fin 384, z.val = 48 * (r.val / 16) + 32 + r.val % 16 → V (ix2 z j) = y2 := fun z hz => (hV z ⟨15 + r.val, by omega⟩ (by dsimp only; omega)).trans h2
  clear hV h0 h1 h2 hsh
  pointwise [k0_pay10]
  rw [half_f32]
  refine congrArg (((1 / 2 : ℝ) : EReal) * ·) (add3 _ _ _ _ _ _ _ _ _ _ _ ?_ ?_ ?_)
  · clear f1 f2
    repeat' split
    all_goals exact f0 _ (by dsimp only; omega)
  · clear f0 f2
    repeat' split
    all_goals exact f1 _ (by dsimp only; omega)
  · clear f0 f1
    repeat' split
    all_goals exact f2 _ (by dsimp only; omega)

include ok hsh in
/-- The activation of a chunk: the matrix has put the rows before each row beside it. -/
theorem conv_apply (hcb : ∀ j, cb (ix2 0 j) = A.cb j) (h0 : ∀ j, w0 (ix2 0 j) = A.cw 0 j) (h1 : ∀ j, w1 (ix2 0 j) = A.cw 1 j) (h2 : ∀ j, w2 (ix2 0 j) = A.cw 2 j)
    (h3 : ∀ j, w3 (ix2 0 j) = A.cw 3 j) (hcur : ∀ (r : Fin 128) j, cur (ix2 r j) = A.tap (row k r) 3 j)
    (hxx : ∀ (r : Fin 128) (i : Fin 3) j, xx (ix2 ⟨13 + r.val + i.val, by omega⟩ j) = A.tap (row k r) i.castSucc j) (r : Fin 128) (j : Fin 4096) :
    convBlock (F := Ideal) sh xx cb w0 w1 w2 w3 cur (ix2 r j) = A.act (row k r) j := by
  pointwise [convBlock, k0_pay12, k0_pay11]
  rw [half_apply sh xx cur cb w0 w1 w2 w3 hsh r j _ _ _ (hxx r 0 j) ((congrArg (fun y => xx (ix2 y j)) (Fin.ext (by show 14 + r.val = 13 + r.val + 1; omega))).trans (hxx r 1 j))
    ((congrArg (fun y => xx (ix2 y j)) (Fin.ext (by show 15 + r.val = 13 + r.val + 2; omega))).trans (hxx r 2 j)), hcb, h0, h1, h2, h3, hcur]
  exact silu_tanh _ (ok.conv (row k r) j)

end Cert.Kernel3Ideal.Ssd

end
-- ==== Proof.Ssd.Group.lean ====
/- The results and the next state of a group over one chunk, at an index. -/
module

public import proofs.«01_k».proof.Proof.Ssd.Blocks
public import proofs.«01_k».proof.Proof.Ssd.Spec
public import proofs.«01_k».proof.Proof.Merge.Block

@[expose] public section

set_option maxRecDepth 16384

noncomputable section

namespace Cert.Kernel3Ideal.Ssd

open Idealize.ShloMosaic Idealize.ShloMosaic.TcCoe Idealize.ShloMosaic.Tactic
open Cert.Kernel3Ideal Cert.Kernel3Ideal.Gen Cert.Merge Cert.Ssd

theorem scoreBlock_apply (h : Fin 32) (ap : FVec Ideal S32x128 .f32) (acol cbm : FVec Ideal S128x128 .f32) (l s : Fin 128) :
    scoreBlock (F := Ideal) h ap acol cbm (ix2 l s) = cbm (ix2 l s) * Ideal.exp (if s.val ≤ l.val then acol (ix2 l ⟨h.val, by omega⟩) - ap (ix2 h s) else 0) := by
  pointwise [scoreBlock, k0_pay14]
  rw [Cert.Kernel2Ideal.Merge.causal]
theorem cbm_apply (b cc : FVec Ideal S128x128 .f32) (l s : Fin 128) :
    k0_pay37 (F := Ideal) k0_pay14 b cc (ix2 l s) = if s.val ≤ l.val then ∑ n : Fin 128, cc (ix2 l n) * b (ix2 s n) else 0 := by
  pointwise [k0_pay37, k0_pay14, k0_pay36, k0_pay35]
  rw [Cert.Kernel2Ideal.Merge.causal]
theorem cut (e : Fin 256) (lo hi : BitVec 32) (n : ℕ) (h : ∀ e : Fin 256, IntOp.andi (IntOp.cmpi CmpIPredicate.sge (BitVec.ofNat 32 e.val) lo) (IntOp.cmpi CmpIPredicate.slt (BitVec.ofNat 32 e.val) hi) = if e.val / 64 = n then 1#1 else 0#1) (x : EReal) :
    Scalar.select (IntOp.andi (IntOp.cmpi CmpIPredicate.sge (BitVec.ofNat 32 e.val) lo) (IntOp.cmpi CmpIPredicate.slt (BitVec.ofNat 32 e.val) hi)) x (0 : EReal) = if e.val / 64 = n then x else 0 := by
  rw [h]
  split <;> rfl
/-- The block-diagonal channels, by their four blocks of rows. -/
theorem diag_rows (xs : FVec Ideal S128x256 .f32) (x : Fin 512) (e : Fin 256) :
    diagBlock (F := Ideal) xs (ix2 x e) = if h : x.val < 128 then (if e.val / 64 = 0 then xs (ix2 ⟨x.val, h⟩ e) else (0 : EReal))
      else if h : x.val - 128 < 128 then (if e.val / 64 = 1 then xs (ix2 ⟨x.val - 128, h⟩ e) else (0 : EReal))
      else if h : x.val - 128 - 128 < 128 then (if e.val / 64 = 2 then xs (ix2 ⟨x.val - 128 - 128, h⟩ e) else (0 : EReal))
      else (if e.val / 64 = 3 then xs (ix2 ⟨x.val - 128 - 128 - 128, by omega⟩ e) else (0 : EReal)) := by
  have c0 := cut e 0#32 64#32 0 (by decide +kernel)
  have c1 := cut e 64#32 128#32 1 (by decide +kernel)
  have c2 := cut e 128#32 192#32 2 (by decide +kernel)
  have c3 := cut e 192#32 256#32 3 (by decide +kernel)
  simp only [← c0, ← c1, ← c2, ← c3]
  clear c0 c1 c2 c3
  pointwise [diagBlock, k0_pay43, k0_pay38, k0_pay40]
theorem diagBlock_apply (xs : FVec Ideal S128x256 .f32) (q : Fin 4) (s : Fin 128) (e : Fin 256) (x : Fin 512) (hx : x.val = 128 * q.val + s.val) :
    diagBlock (F := Ideal) xs (ix2 x e) = if e.val / 64 = q.val then xs (ix2 s e) else (0 : EReal) := by
  rw [diag_rows]
  have cg : ∀ (y : Fin 128) (n : ℕ), n = q.val → y = s → (if e.val / 64 = n then xs (ix2 y e) else (0 : EReal)) = if e.val / 64 = q.val then xs (ix2 s e) else 0 := fun y n h1 h2 => by rw [h1, h2]
  have hs := s.isLt
  split
  · exact cg _ _ (by omega) (Fin.ext (by show x.val = s.val; omega))
  split
  · exact cg _ _ (by omega) (Fin.ext (by show x.val - 128 = s.val; omega))
  split
  · exact cg _ _ (by omega) (Fin.ext (by show x.val - 128 - 128 = s.val; omega))
  · exact cg _ _ (by omega) (Fin.ext (by show x.val - 128 - 128 - 128 = s.val; omega))
theorem scoresBlock_apply (g : Fin 8) (ap : FVec Ideal S32x128 .f32) (acol cbm : FVec Ideal S128x128 .f32) (l : Fin 128) (q : Fin 4) (s : Fin 128) (x : Fin 512) (hx : x.val = 128 * q.val + s.val) :
    scoresBlock (F := Ideal) g ap acol cbm (ix2 l x) = scoreBlock ⟨4 * g.val + q.val, by omega⟩ ap acol cbm (ix2 l s) := by
  pointwise [scoresBlock]
  have cg : ∀ (y : Fin 128) (n : Fin 32), n.val = 4 * g.val + q.val → y = s → scoreBlock n ap acol cbm (ix2 l y) = scoreBlock ⟨4 * g.val + q.val, by omega⟩ ap acol cbm (ix2 l s) := fun y n h1 h2 => by
    have h3 : n = ⟨4 * g.val + q.val, by omega⟩ := Fin.ext h1
    rw [h2, h3]
  have hs := s.isLt
  split_ifs with h1 h2 h3 <;> refine cg _ _ ?_ (Fin.ext ?_) <;> dsimp only at * <;> omega
/-- The product of a group's scores with its block-diagonal channels is each channel's under its own head's scores. -/
theorem diag_sum (g : Fin 8) (ap : FVec Ideal S32x128 .f32) (acol cbm : FVec Ideal S128x128 .f32) (xs : FVec Ideal S128x256 .f32) (l : Fin 128) (e : Fin 256) :
    ∑ x : Fin 512, scoresBlock (F := Ideal) g ap acol cbm (ix2 l x) * diagBlock (F := Ideal) xs (ix2 x e)
      = ∑ s : Fin 128, scoreBlock ⟨4 * g.val + e.val / 64, by omega⟩ ap acol cbm (ix2 l s) * xs (ix2 s e) := by
  let f : Fin 512 → EReal := fun x => scoresBlock (F := Ideal) g ap acol cbm (ix2 l x) * diagBlock (F := Ideal) xs (ix2 x e)
  have h1 : ∑ x : Fin 512, f x = ∑ p : Fin 4 × Fin 128, f ⟨128 * p.1.val + p.2.val, by omega⟩ := by
    refine (Fintype.sum_equiv (finProdFinEquiv (m := 4) (n := 128)) _ _ fun p => congrArg f (Fin.ext ?_)).symm
    show 128 * p.1.val + p.2.val = p.2.val + 128 * p.1.val
    omega
  refine h1.trans ?_
  rw [Fintype.sum_prod_type, Finset.sum_eq_single (⟨e.val / 64, by omega⟩ : Fin 4)]
  · refine Finset.sum_congr rfl fun s _ => ?_
    show scoresBlock (F := Ideal) g ap acol cbm (ix2 l ⟨128 * (⟨e.val / 64, by omega⟩ : Fin 4).val + s.val, _⟩) * diagBlock (F := Ideal) xs (ix2 ⟨128 * (⟨e.val / 64, by omega⟩ : Fin 4).val + s.val, _⟩ e) = _
    rw [scoresBlock_apply g ap acol cbm l _ s _ rfl, diagBlock_apply xs _ s e _ rfl, if_pos rfl]
  · intro q _ hq
    refine Finset.sum_eq_zero fun s _ => ?_
    show scoresBlock (F := Ideal) g ap acol cbm (ix2 l ⟨128 * q.val + s.val, _⟩) * diagBlock (F := Ideal) xs (ix2 ⟨128 * q.val + s.val, _⟩ e) = 0
    rw [diagBlock_apply xs q s e _ rfl, if_neg fun h => hq (Fin.ext h.symm)]
    exact mul_zero _
  · exact fun h => absurd (Finset.mem_univ _) h

variable (A : Args) (ok : A.Ok) (k : Fin 128) (g : Fin 8)

/-- The channel of a group's column. -/
def chan (g : Fin 8) (e : Fin 256) : Fin 2048 := ⟨256 * g.val + e.val, by omega⟩
theorem group_chan (e : Fin 256) : group (chan g e) = g := Fin.ext (by show (256 * g.val + e.val) / 256 = g.val; omega)
theorem head_chan (e : Fin 256) : head (chan g e) = ⟨4 * g.val + e.val / 64, by omega⟩ := Fin.ext (by show (256 * g.val + e.val) / 64 = 4 * g.val + e.val / 64; omega)

section
variable (b : FVec Ideal S128x128 .f32) (xs : FVec Ideal S128x256 .f32) (h : FVec Ideal S1x128x256 .f32) (w1 : FVec Ideal S128x256 .f32) (wl : FVec Ideal S1x256 .f32)
variable (hb : ∀ l n, b (ix2 l n) = A.bm (row k l) g n) (hx : ∀ l e, xs (ix2 l e) = A.xs (row k l) (chan g e))
variable (hh : ∀ n e, h (ix3 0 n e) = A.state k.val (chan g e) n)
include hb hx hh in
theorem stateBlock_apply (hw1 : ∀ l e, w1 (ix2 l e) = A.dt (row k l) (head (chan g e)) * A.toEnd k (head (chan g e)) l)
    (hwl : ∀ e, wl (ix2 0 e) = Ideal.exp (A.cum k (head (chan g e)) 127)) (n : Fin 128) (e : Fin 256) :
    stateBlock (F := Ideal) b xs h w1 wl (ix3 0 n e) = A.state k.val (chan g e) n * Ideal.exp (A.cum k (head (chan g e)) 127) + A.step k (chan g e) n := by
  pointwise [stateBlock, k0_pay45, k0_pay44, k0_pay35]
  rw [hh, hwl]
  refine congrArg _ (Finset.sum_congr rfl fun l _ => ?_)
  rw [hb, hx, hw1, group_chan]

variable (ap : FVec Ideal S32x128 .f32) (acol : FVec Ideal S128x128 .f32) (cc : FVec Ideal S128x128 .f32) (w2 : FVec Ideal S128x256 .f32)
    (dsk : FVec Ideal S1x256 .f32) (z : FVec Ideal S128x256 .bf16) (nw : FVec Ideal S1x256 .f32)
variable (hap : ∀ h l, ap (ix2 h l) = A.cum k h l - Ideal.log (A.dt (row k l) h)) (hacol : ∀ (h : Fin 32) l, acol (ix2 l ⟨h.val, by omega⟩) = A.cum k h l)
variable (hc : ∀ l n, cc (ix2 l n) = A.cm (row k l) g n) (hw2 : ∀ l e, w2 (ix2 l e) = Ideal.exp (A.cum k (head (chan g e)) l))
variable (hdsk : ∀ e, dsk (ix2 0 e) = A.dsk (head (chan g e))) (hz : ∀ l e, z (ix2 l e) = A.gate (row k l) (chan g e)) (hnw : ∀ e, nw (ix2 0 e) = A.nw (chan g e))
include ok hb hx hap hacol hc in
theorem diag_apply (l : Fin 128) (e : Fin 256) :
    ∑ x : Fin 512, scoresBlock (F := Ideal) g ap acol (k0_pay37 k0_pay14 b cc) (ix2 l x) * diagBlock (F := Ideal) xs (ix2 x e) = A.diag k l (chan g e) := by
  rw [diag_sum]
  refine Finset.sum_congr rfl fun s _ => ?_
  rw [scoreBlock_apply, cbm_apply]
  obtain ⟨d, hd0, hd⟩ := A.dt_fin ok (row k s) (head (chan g e))
  split
  · rename_i hsl
    rw [hacol ⟨4 * g.val + e.val / 64, by omega⟩, hap, ← head_chan, hx, hd, exp_log _ _ _ (A.cum_anti ok k _ s l hsl) (A.cum_nonpos ok k _ s) hd0]
    rw [group_chan, mul_assoc, mul_assoc]
    refine congrArg (· * _) (Finset.sum_congr rfl fun n _ => ?_)
    rw [hc, hb]
  · rw [zero_mul, zero_mul]
include ok hb hx hh hap hacol hc hw2 hdsk hz in
theorem gated_apply (l : Fin 128) (e : Fin 256) :
    k0_pay46 (F := Ideal) (k0_pay36 cc) xs (scoresBlock g ap acol (k0_pay37 k0_pay14 b cc)) (diagBlock xs) h w2 dsk z (ix2 l e) = A.gated k l (chan g e) := by
  pointwise [k0_pay46, k0_pay44, k0_pay36]
  rw [diag_apply A ok k g b xs hb hx ap acol cc hap hacol hc, half_bf16, silu_tanh _ (by rw [hz]; exact ok.gate _ _), hz, hw2, hdsk, hx]
  unfold Args.gated Args.off
  rw [group_chan]
  simp only [hc, hh]
include ok hb hx hh hap hacol hc hw2 hdsk hz hnw in
theorem outBlock_apply (l : Fin 128) (e : Fin 256) : outBlock (F := Ideal) g ap acol b cc xs h w2 dsk z nw (ix2 l e) = A.out k l (chan g e) := by
  pointwise [outBlock, k0_pay48, k0_pay47]
  simp only [gated_apply A ok k g b xs h hb hx hh ap acol cc w2 dsk z hap hacol hc hw2 hdsk hz, hnw]
  unfold Args.out
  have hj : ∀ j : Fin 256, (⟨256 * ((chan g e).val / 256) + j.val, by omega⟩ : Fin 2048) = chan g j := fun j => Fin.ext (by show 256 * ((256 * g.val + e.val) / 256) + j.val = 256 * g.val + j.val; omega)
  simp only [hj]
end

end Cert.Kernel3Ideal.Ssd

end
-- ==== Proof.Ssd.Steps.lean ====
/- The time steps of a chunk, their running sums and the weights widened to the channels, at an index. -/
module

public import proofs.«01_k».proof.Proof.Ssd.Blocks
public import proofs.«01_k».proof.Proof.Ssd.Spec
public import proofs.«01_k».proof.Proof.Merge.Block

@[expose] public section

set_option maxRecDepth 16384

noncomputable section

namespace Cert.Kernel3Ideal.Ssd

open Idealize.ShloMosaic Idealize.ShloMosaic.TcCoe Idealize.ShloMosaic.Tactic
open Cert.Kernel3Ideal Cert.Kernel3Ideal.Gen Cert.Merge Cert.Ssd

/-- The running sum's weights. -/
theorem tri_apply (s l : Fin 128) : (k0_pay15 (F := Ideal) : FVec Ideal S128x128 .bf16) (ix2 s l) = if s.val ≤ l.val then (1 : EReal) else 0 := by
  have h : ∀ s l : Fin 128, IntOp.cmpi CmpIPredicate.sle (BitVec.ofNat 32 s.val) (BitVec.ofNat 32 l.val) = if s.val ≤ l.val then 1#1 else 0#1 := by
    decide +kernel
  pointwise [k0_pay15]
  rw [h]
  split
  · show (((BitVec.setWidth 32 1#1).toInt : ℝ) : EReal) = 1
    rw [show (BitVec.setWidth 32 1#1).toInt = 1 from by decide]; norm_num
  · show (((BitVec.setWidth 32 0#1).toInt : ℝ) : EReal) = 0
    rw [show (BitVec.setWidth 32 0#1).toInt = 0 from by decide]; norm_num

variable (A : Args) (ok : A.Ok) (k : Fin 128)
variable (d : FVec Ideal S32x128 .f32) (b a : FVec Ideal S32x1 .f32) (e3 : FVec Ideal S128x2048 .bf16)
variable (hd : ∀ h l, d (ix2 h l) = A.D h (row k l)) (hb : ∀ h, b (ix2 h 0) = A.dtb h) (ha : ∀ h, a (ix2 h 0) = A.al h)
variable (he : ∀ (x : Fin 128) (j : Fin 2048), e3 (ix2 x j) = if x.val % 32 = j.val / 64 ∧ x.val < 96 then (1 : EReal) else 0)

include hd hb in
theorem step_apply (h : Fin 32) (l : Fin 128) : k0_pay16 (F := Ideal) d b (ix2 h l) = A.dt (row k l) h := by
  pointwise [k0_pay16]
  rw [hd, hb]
  rfl
include hd hb ha in
theorem hi_apply (h : Fin 32) (l : Fin 128) : k0_pay22 (F := Ideal) d b a (ix2 h l) = A.adt (row k l) h := by
  pointwise [k0_pay22, k0_pay18, k0_pay17, k0_pay16]
  rw [hd, hb, ha]
  rfl
include hd hb ha in
theorem mid_apply (h : Fin 32) (l : Fin 128) : k0_pay20 (F := Ideal) d b a (ix2 h l) = A.adt (row k l) h - A.adt (row k l) h := by
  pointwise [k0_pay20, k0_pay19, k0_pay18, k0_pay17, k0_pay16]
  rw [hd, hb, ha]
  rfl
include hd hb ha in
theorem lo_apply (h : Fin 32) (l : Fin 128) : k0_pay21 (F := Ideal) d b a (ix2 h l)
    = A.adt (row k l) h - A.adt (row k l) h - (A.adt (row k l) h - A.adt (row k l) h) := by
  pointwise [k0_pay21, k0_pay20, k0_pay19, k0_pay18, k0_pay17, k0_pay16]
  rw [hd, hb, ha]
  rfl
include ok hd hb ha in
/-- The running sums: the three parts of each exponent add up to it. -/
theorem cum_apply (h : Fin 32) (l : Fin 128) :
    k0_pay23 (F := Ideal) k0_pay15 (k0_pay20 d b a) (k0_pay21 d b a) (k0_pay22 d b a) (ix2 h l) = A.cum k h l := by
  pointwise [k0_pay23]
  simp only [hi_apply A k d b a hd hb ha, mid_apply A k d b a hd hb ha, lo_apply A k d b a hd hb ha, tri_apply]
  rw [← Finset.sum_add_distrib, ← Finset.sum_add_distrib]
  refine Finset.sum_congr rfl fun j _ => ?_
  rw [split3 _ _ (A.adt_nonpos ok _ _) (by split <;> simp)]
  split <;> simp
include ok hd hb ha in
theorem rowBlock_apply (h : Fin 32) (l : Fin 128) : rowBlock (F := Ideal) d b a (ix2 h l) = A.cum k h l - Ideal.log (A.dt (row k l) h) := by
  pointwise [rowBlock, k0_pay24]
  rw [cum_apply A ok k d b a hd hb ha, step_apply A k d b hd hb]
include ok hd hb ha in
theorem colBlock_apply (h : Fin 32) (l : Fin 128) : colBlock (F := Ideal) d b a (ix2 l ⟨h.val, by omega⟩) = A.cum k h l := by
  pointwise [colBlock, k0_pay26]
  exact cum_apply A ok k d b a hd hb ha h l

/-- A rotated lane that is its own difference is zero. -/
theorem dite_sub {p : Prop} [Decidable p] (f : p → EReal) (h : ∀ q, f q - f q = 0) : (dite p f fun _ => 0) - (dite p f fun _ => 0) = (0 : EReal) := by
  split
  · exact h _
  · exact sub_zero _
include he in
/-- Over the first 32 lanes the widening picks the channel's head; over the others it meets zeros. -/
theorem pick (f : Fin 32 → EReal) (u : Fin 32 → Fin 128) (hu : ∀ x, (u x).val = x.val) (j : Fin 2048) :
    ∑ x : Fin 32, f x * e3 (ix2 (u x) j) = f (head j) := by
  rw [Finset.sum_eq_single (head j)]
  · rw [he, hu, if_pos ⟨by show j.val / 64 % 32 = j.val / 64; omega, by have := (head j).isLt; omega⟩]
    exact mul_one _
  · intro x _ hx
    rw [he, hu, if_neg fun h => hx (Fin.ext (by have := h.1; show x.val = j.val / 64; have := x.isLt; omega))]
    exact mul_zero _
  · exact fun h => absurd (Finset.mem_univ _) h
include ok hd hb ha he in
theorem wide1_apply (l : Fin 128) (j : Fin 2048) : wide1 (F := Ideal) d b a e3 (ix2 l j) = A.dt (row k l) (head j) * A.toEnd k (head j) l := by
  have fin : ∀ h l, A.dt (row k l) h * Ideal.exp (A.cum k h 127 - A.cum k h l) - A.dt (row k l) h * Ideal.exp (A.cum k h 127 - A.cum k h l) = 0 := fun h l => by
    obtain ⟨s, -, hs⟩ := A.dt_fin ok (row k l) h
    obtain ⟨r, hr⟩ := A.toEnd_fin ok k h l
    unfold Args.toEnd at hr
    rw [hs, hr, ← EReal.coe_mul, coe_sub_self]
  pointwise [wide1, k0_pay28, k0_pay27, k0_pay25]
  simp only [cum_apply A ok k d b a hd hb ha, step_apply A k d b hd hb]
  simp only [dite_sub _ fun _ => fin _ _, add_zero, sub_zero, zero_mul, Finset.sum_const_zero]
  exact pick e3 he (fun x => A.dt (row k l) x * Ideal.exp (A.cum k x 127 - A.cum k x l)) _ (fun x => rfl) j
include ok hd hb ha he in
theorem wide2_apply (l : Fin 128) (j : Fin 2048) : wide2 (F := Ideal) d b a e3 (ix2 l j) = Ideal.exp (A.cum k (head j) l) := by
  have fin : ∀ h l, Ideal.exp (A.cum k h l) - Ideal.exp (A.cum k h l) = 0 := fun h l => by
    obtain ⟨s, hs⟩ := Args.exp_fin _ (A.cum_nonpos ok k h l)
    rw [hs, coe_sub_self]
  pointwise [wide2, k0_pay34, k0_pay30, k0_pay32, k0_pay33, k0_pay29, k0_pay31, k0_pay27, k0_pay25]
  simp only [cum_apply A ok k d b a hd hb ha]
  simp only [dite_sub _ fun _ => fin _ _, add_zero, sub_zero, zero_mul, Finset.sum_const_zero]
  exact pick e3 he (fun x => Ideal.exp (A.cum k x l)) _ (fun x => rfl) j

end Cert.Kernel3Ideal.Ssd

end
-- ==== Proof.Ssd.Contents.lean ====
/- What one point leaves in the carried rows, the carried state and its block of results, from the entries its loads read. -/
module

public import proofs.«01_k».proof.Proof.Ssd.Conv
public import proofs.«01_k».proof.Proof.Ssd.Group
public import proofs.«01_k».proof.Proof.Ssd.Steps

@[expose] public section

set_option maxRecDepth 16384
set_option backward.proofsInPublic true

noncomputable section

namespace Cert.Kernel3Ideal.Ssd

open Idealize.ShloMosaic Idealize.ShloMosaic.TcCoe Idealize.ShloMosaic.Tactic
open Cert.Kernel3Ideal Cert.Kernel3Ideal.Gen Cert.Ssd

/-- A stored piece under one of its own indices. -/
theorem canon_hit {s : Shape} {e : EltTy} (r : Rect s) (w : r.shape.Idx → Elt Ideal e) (L : List (View.Piece (Elt Ideal) s e)) (y : s.Idx) (x : r.shape.Idx)
    (h : ∀ a, r.off a + r.stride a * (x a).val = (y a).val) : View.canon (⟨r, w⟩ :: L) y = w x := by
  rw [show y = r.emb x from funext fun a => Fin.ext (h a).symm]
  exact View.canon_cons_emb r w L x
/-- A stored piece away from its indices. -/
theorem canon_miss {s : Shape} {e : EltTy} (off size : Fin s.rank → ℕ) (inb) (w : (Rect.unit (s := s) off size inb).shape.Idx → Elt Ideal e) (L : List (View.Piece (Elt Ideal) s e)) (y : s.Idx)
    (a : Fin s.rank) (h : (y a).val < off a ∨ off a + size a ≤ (y a).val) : View.canon (⟨Rect.unit off size inb, w⟩ :: L) y = View.canon L y :=
  View.canon_cons_of_not_mem _ L fun hm => by
    have hm : y ∈ (Rect.unit off size inb).set := hm
    have := Rect.mem_set_unit.mp hm a
    omega

theorem ld17_apply (L : List (View.Piece (Elt Ideal) S144x4096 .bf16)) (x : Fin 144) (j : Fin 4096) : ld17 (F := Ideal) L (ix2 x j) = View.canon L (ix2 x j) := by
  unfold ld17
  rw [View.readCov_eq_canon']
  exact congrArg (View.canon L) (funext fun a => Fin.ext (by revert a; exact Fin.forall_fin_two.mpr ⟨by show 0 + 1 * x.val = x.val; omega, by show 0 + 1 * j.val = j.val; omega⟩))
theorem ld18_apply (L : List (View.Piece (Elt Ideal) S128x4096 .f32)) (o w : ℕ) (h) (r : Fin 128) (e : Fin w) (he : o + e.val < 4096) :
    ld18 (F := Ideal) L o w h (ix2 r e) = View.canon L (ix2 r ⟨o + e.val, he⟩) := by
  unfold ld18
  rw [View.readCov_eq_canon']
  exact congrArg (View.canon L) (funext fun a => Fin.ext (by revert a; exact Fin.forall_fin_two.mpr ⟨by show 0 + 1 * r.val = r.val; omega, by show o + 1 * e.val = o + e.val; omega⟩))
theorem ld20_apply (L : List (View.Piece (Elt Ideal) S256x2048 .f32)) (r o n : ℕ) (h) (l : Fin n) (e : Fin 256) (hl : r + l.val < 256) (he : o + e.val < 2048) :
    ld20 (F := Ideal) L r o n h (ix2 l e) = View.canon L (ix2 ⟨r + l.val, hl⟩ ⟨o + e.val, he⟩) := by
  unfold ld20
  rw [View.readCov_eq_canon']
  exact congrArg (View.canon L) (funext fun a => Fin.ext (by revert a; exact Fin.forall_fin_two.mpr ⟨by show r + 1 * l.val = r + l.val; omega, by show o + 1 * e.val = o + e.val; omega⟩))
theorem ld19_apply (L : List (View.Piece (Elt Ideal) S8x128x256 .f32)) (g : Fin 8) (n : Fin 128) (e : Fin 256) : ld19 (F := Ideal) L g (ix3 0 n e) = View.canon L (ix3 g n e) := by
  unfold ld19
  rw [View.readCov_eq_canon']
  exact congrArg (View.canon L) (funext fun a => Fin.ext (by
    match a with
    | ⟨0, _⟩ => show g.val + 1 * 0 = g.val; omega
    | ⟨1, _⟩ => show 0 + 1 * n.val = n.val; omega
    | ⟨2, _⟩ => show 0 + 1 * e.val = e.val; omega))

theorem pay6_apply (cur : Vec Ideal S128x4096 .bf16) (r : Fin 128) (j : Fin 4096) : k0_pay6 (F := Ideal) cur (ix2 r j) = cur (ix2 r j) := by
  pointwise [k0_pay6]
theorem pay13_apply (cur : Vec Ideal S128x4096 .bf16) (r : Fin 16) (j : Fin 4096) : k0_pay13 (F := Ideal) cur (ix2 r j) = cur (ix2 ⟨112 + r.val, by omega⟩ j) := by
  pointwise [k0_pay13]
theorem pay4_apply (r : Fin 16) (j : Fin 4096) : k0_pay4 (F := Ideal) (ix2 r j) = (0 : EReal) := by
  pointwise [k0_pay4]
theorem pay5_apply (g : Fin 8) (n : Fin 128) (e : Fin 256) : k0_pay5 (F := Ideal) (ix3 g n e) = (0 : EReal) := by
  pointwise [k0_pay5]

variable (m : (ℓ : Loc nD τ sig) → Buf (Elt Ideal) ℓ) (c : Dev nD) (t : Fin cfg0.N)

theorem point_lt (t : Fin cfg0.N) : t.val < 32 := lt_of_lt_of_eq t.isLt N_0
/-- The chunk number of a point's `i`-th chunk. -/
def chunkOf (t : Fin cfg0.N) (i : Fin 4) : Fin 128 := ⟨4 * t.val + i.val, by have := point_lt t; omega⟩

/-- The entries a point's loads read. -/
structure Reads (A : Args) : Prop where
  cur : ∀ i r j, curAt m c t i (ix2 r j) = A.tap (row (chunkOf t i) r) 3 j
  gate : ∀ i g l e, gateAt m c t i g (ix2 l e) = A.gate (row (chunkOf t i) l) (chan g e)
  step : ∀ i h l, stepAt m c t i (ix2 h l) = A.D h (row (chunkOf t i) l)
  bias : ∀ h, biasAt m c t (ix2 h 0) = A.dtb h
  rate : ∀ h, rateAt m c t (ix2 h 0) = A.al h
  shift : ∀ (o : Fin 384) (x : Fin 144), shiftAt m c t (ix2 o x) = if 13 + (16 * (o.val / 48) + o.val % 16) + o.val % 48 / 16 = x.val then (1 : EReal) else 0
  tap : ∀ i j, tapAt m c t i (ix2 0 j) = A.cw i j
  convBias : ∀ j, convBiasAt m c t (ix2 0 j) = A.cb j
  skip : ∀ g e, skipAt m c t g (ix2 0 e) = A.dsk (head (chan g e))
  norm : ∀ g e, normAt m c t g (ix2 0 e) = A.nw (chan g e)
  spread : ∀ (x : Fin 128) (j : Fin 2048), spreadAt m c t (ix2 x j) = if x.val % 32 = j.val / 64 ∧ x.val < 96 then (1 : EReal) else 0

/-- The pieces a point stores, in either case. -/
structure Stores where
  outs : List (View.Piece (Elt Ideal) S512x2048 .bf16)
  rows : List (View.Piece (Elt Ideal) S144x4096 .bf16)
  states : List (View.Piece (Elt Ideal) S8x128x256 .f32)
  convs : List (View.Piece (Elt Ideal) S128x4096 .f32)
  wides : List (View.Piece (Elt Ideal) S256x2048 .f32)
  xx : Fin 4 → Vec Ideal S144x4096 .bf16
  hin : Fin 4 → Fin 8 → Vec Ideal S1x128x256 .f32
  convs_drop : ∀ i : Fin 4, convs.drop (3 - i.val) = ⟨Rect.unit ![0, 0] S128x4096.size (by decide), convAt m c t i (xx i)⟩ :: convs.drop (4 - i.val)
  wides_drop : ∀ i : Fin 4, wides.drop (6 - 2 * i.val) = ⟨Rect.unit ![128, 0] S128x2048.size (by decide), wide2At m c t i⟩ ::
      ⟨Rect.unit ![0, 0] S128x2048.size (by decide), wide1At m c t i⟩ :: wides.drop (8 - 2 * i.val)
  rows_next : ∀ i : Fin 3, rows.drop (5 - 2 * i.val) = ⟨Rect.unit ![16, 0] S128x4096.size (by decide), k0_pay6 (curAt m c t i.succ)⟩ ::
    ⟨Rect.unit ![0, 0] S16x4096.size (by decide), k0_pay13 (curAt m c t i.castSucc)⟩ :: rows.drop (7 - 2 * i.val)
  rows_last : rows = ⟨Rect.unit ![0, 0] S16x4096.size (by decide), k0_pay13 (curAt m c t 3)⟩ :: rows.drop 1
  states_next : ∀ (i : Fin 4) (g : Fin 8), states.drop (31 - (8 * i.val + g.val)) = ⟨Rect.unit ![g.val, 0, 0] S1x128x256.size (inbState g), stateAt g (convs.drop (3 - i.val)) (wides.drop (6 - 2 * i.val)) (hin i g)⟩ ::
      states.drop (32 - (8 * i.val + g.val))
  outs_get : ∀ (i : Fin 4) (g : Fin 8), outs.drop (31 - (8 * i.val + g.val)) = ⟨Rect.unit ![128 * i.val, 256 * g.val] S128x256.size (by revert i g; decide),
      outAt m c t i g (convs.drop (3 - i.val)) (wides.drop (6 - 2 * i.val)) (hin i g)⟩ :: outs.drop (32 - (8 * i.val + g.val))
  xx_zero : ∀ r j, xx 0 (ix2 ⟨16 + r.val, by omega⟩ j) = k0_pay6 (curAt m c t 0) (ix2 (r : Fin 128) j)
  xx_succ : ∀ i : Fin 3, xx i.succ = ld17 (rows.drop (5 - 2 * i.val))
  hin_succ : ∀ (i : Fin 3) (g : Fin 8), hin i.succ g = ld19 (states.drop (32 - (8 * (i.val + 1) + g.val))) g

/-- The 16 rows of the input before chunk `k`: zero before a batch's first row. -/
def before (A : Args) (k : Fin 128) (x : Fin 16) (j : Fin 4096) : EReal :=
  if k.val % 32 = 0 then 0 else A.P ⟨128 * k.val + x.val - 16, by omega⟩ ⟨8192 + j.val, by omega⟩
/-- The state after chunk `k`. -/
def after (A : Args) (k : Fin 128) (e : Fin 2048) (n : Fin 128) : EReal :=
  A.state k.val e n * Ideal.exp (A.cum k (head e) 127) + A.step k e n
theorem state_next (A : Args) (k : Fin 128) (h : (k.val + 1) % 32 ≠ 0) (e : Fin 2048) (n : Fin 128) : A.state (k.val + 1) e n = after A k e n := by
  show (if (k.val + 1) % 32 = 0 then (0 : EReal) else _) = _
  rw [if_neg h, show chunk k.val = k from Fin.ext (Nat.mod_eq_of_lt k.isLt)]
  rfl
theorem tap_three (A : Args) (q : Fin 16384) (j : Fin 4096) : A.tap q 3 j = A.P q ⟨8192 + j.val, by omega⟩ := by
  unfold Args.tap
  rw [dif_pos (by show 3 ≤ q.val % 4096 + 3; omega)]
  exact congrArg (fun q => A.P q _) (Fin.ext (by show q.val + 3 - 3 = q.val; omega))

namespace Stores

variable {m c t} (S : Stores m c t) (A : Args) (ok : A.Ok) (R : Reads m c t A)
  (hx : ∀ x j, S.xx 0 (ix2 ⟨x.val, by omega⟩ j) = before A (chunkOf t 0) x j)
  (hs : ∀ g n e, S.hin 0 g (ix3 0 n e) = A.state (chunkOf t 0).val (chan g e) n)

include R in
theorem tail_value (i : Fin 4) (hi : (chunkOf t i).val + 1 < 128) (hn : ((chunkOf t i).val + 1) % 32 ≠ 0) (x : Fin 16) (j : Fin 4096) :
    k0_pay13 (curAt m c t i) (ix2 x j) = before A ⟨(chunkOf t i).val + 1, hi⟩ x j := by
  rw [pay13_apply, R.cur, tap_three]
  unfold before
  rw [if_neg hn]
  exact congrArg (fun q => A.P q _) (Fin.ext (by show 128 * (chunkOf t i).val + (112 + x.val) = 128 * ((chunkOf t i).val + 1) + x.val - 16; omega))

include R hx in
theorem xx_before (i : Fin 4) (x : Fin 16) (j : Fin 4096) : S.xx i (ix2 ⟨x.val, by omega⟩ j) = before A (chunkOf t i) x j := by
  refine Fin.cases (hx x j) (fun i => ?_) i
  have ht := point_lt t
  rw [S.xx_succ, ld17_apply, S.rows_next, canon_miss _ _ _ _ _ _ 0 (Or.inl (by show x.val < 16; omega)),
    canon_hit _ _ _ _ (ix2 x j) (Fin.forall_fin_two.mpr ⟨by show 0 + 1 * x.val = x.val; omega, by show 0 + 1 * j.val = j.val; omega⟩)]
  rw [tail_value A R i.castSucc (by show 4 * t.val + i.val + 1 < 128; omega) (by show (4 * t.val + i.val + 1) % 32 ≠ 0; omega)]
  exact congrArg (fun k => before A k x j) (Fin.ext (by show 4 * t.val + i.val + 1 = 4 * t.val + (i.val + 1); omega))
include R in
theorem xx_own (i : Fin 4) (r : Fin 128) (j : Fin 4096) : S.xx i (ix2 ⟨16 + r.val, by omega⟩ j) = A.tap (row (chunkOf t i) r) 3 j := by
  rw [← R.cur, ← pay6_apply (curAt m c t i)]
  refine Fin.cases (S.xx_zero r j) (fun i => ?_) i
  rw [S.xx_succ, ld17_apply, S.rows_next,
    canon_hit _ _ _ _ (ix2 r j) (Fin.forall_fin_two.mpr ⟨by show 16 + 1 * r.val = 16 + r.val; omega, by show 0 + 1 * j.val = j.val; omega⟩)]

include ok R hx in
theorem conv_value (i : Fin 4) (r : Fin 128) (j : Fin 4096) : convAt m c t i (S.xx i) (ix2 r j) = A.act (row (chunkOf t i) r) j := by
  unfold convAt
  refine conv_apply A ok (chunkOf t i) _ _ _ _ _ _ _ _ R.shift R.convBias (R.tap 0) (R.tap 1) (R.tap 2) (R.tap 3) (R.cur i) (fun r d j => ?_) r j
  by_cases h : 3 ≤ r.val + d.val
  · have e := S.xx_own A R i ⟨r.val + d.val - 3, by omega⟩ j
    rw [show (⟨13 + r.val + d.val, by omega⟩ : Fin 144) = ⟨16 + (⟨r.val + d.val - 3, by omega⟩ : Fin 128).val, by show 16 + (r.val + d.val - 3) < 144; omega⟩ from Fin.ext (by show 13 + r.val + d.val = 16 + (r.val + d.val - 3); omega), e, tap_three]
    unfold Args.tap
    rw [dif_pos (by show 3 ≤ (128 * (chunkOf t i).val + r.val) % 4096 + d.val; omega)]
    exact congrArg (fun q => A.P q _) (Fin.ext (by show 128 * (chunkOf t i).val + (r.val + d.val - 3) = 128 * (chunkOf t i).val + r.val + d.val - 3; omega))
  · have e := S.xx_before A R hx i ⟨13 + r.val + d.val, by omega⟩ j
    refine e.trans ?_
    unfold before Args.tap
    by_cases hk : (chunkOf t i).val % 32 = 0
    · rw [if_pos hk, dif_neg (by show ¬3 ≤ (128 * (chunkOf t i).val + r.val) % 4096 + d.val; omega)]
    · rw [if_neg hk, dif_pos (by show 3 ≤ (128 * (chunkOf t i).val + r.val) % 4096 + d.val; omega)]
      exact congrArg (fun q => A.P q _) (Fin.ext (by show 128 * (chunkOf t i).val + (13 + r.val + d.val) - 16 = 128 * (chunkOf t i).val + r.val + d.val - 3; omega))

include ok R hx in
theorem conv_load (i : Fin 4) (o w : ℕ) (h) (r : Fin 128) (e : Fin w) (he : o + e.val < 4096) :
    ld18 (S.convs.drop (3 - i.val)) o w h (ix2 r e) = A.act (row (chunkOf t i) r) ⟨o + e.val, he⟩ := by
  rw [ld18_apply _ _ _ _ _ _ he, S.convs_drop, canon_hit _ _ _ _ (ix2 r ⟨o + e.val, he⟩) (Fin.forall_fin_two.mpr ⟨by show 0 + 1 * r.val = r.val; omega, by show 0 + 1 * (o + e.val) = o + e.val; omega⟩)]
  exact S.conv_value A ok R hx i r _

include ok R in
theorem wide1_load (i : Fin 4) (g : Fin 8) (h) (l : Fin 128) (e : Fin 256) :
    ld20 (S.wides.drop (6 - 2 * i.val)) 0 (256 * g.val) 128 h (ix2 l e) = A.dt (row (chunkOf t i) l) (head (chan g e)) * A.toEnd (chunkOf t i) (head (chan g e)) l := by
  rw [ld20_apply _ _ _ _ _ _ _ (by omega) (by omega), S.wides_drop, canon_miss _ _ _ _ _ _ 0 (Or.inl (by show 0 + l.val < 128; omega)),
    canon_hit _ _ _ _ (ix2 l (chan g e)) (Fin.forall_fin_two.mpr ⟨by show 0 + 1 * l.val = 0 + l.val; omega, by show 0 + 1 * (256 * g.val + e.val) = 256 * g.val + e.val; omega⟩)]
  exact wide1_apply A ok _ _ _ _ _ (R.step i) R.bias R.rate R.spread l _
include ok R in
theorem wide2_load (i : Fin 4) (g : Fin 8) (o n : ℕ) (h) (l : Fin n) (e : Fin 256) (x : Fin 128) (hl : o + l.val = 128 + x.val) :
    ld20 (S.wides.drop (6 - 2 * i.val)) o (256 * g.val) n h (ix2 l e) = Ideal.exp (A.cum (chunkOf t i) (head (chan g e)) x) := by
  rw [ld20_apply _ _ _ _ _ _ _ (by omega) (by omega), S.wides_drop,
    canon_hit _ _ _ _ (ix2 x (chan g e)) (Fin.forall_fin_two.mpr ⟨by show 128 + 1 * x.val = o + l.val; omega, by show 0 + 1 * (256 * g.val + e.val) = 256 * g.val + e.val; omega⟩)]
  exact wide2_apply A ok _ _ _ _ _ (R.step i) R.bias R.rate R.spread x _

include ok R hx in
theorem state_value (i : Fin 4) (g : Fin 8) (hh : ∀ n e, S.hin i g (ix3 0 n e) = A.state (chunkOf t i).val (chan g e) n) (n : Fin 128) (e : Fin 256) :
    stateAt g (S.convs.drop (3 - i.val)) (S.wides.drop (6 - 2 * i.val)) (S.hin i g) (ix3 0 n e) = after A (chunkOf t i) (chan g e) n := by
  unfold stateAt
  exact stateBlock_apply A (chunkOf t i) g _ _ _ _ _ (fun l n => S.conv_load A ok R hx i _ _ _ l n (by omega)) (fun l e => S.conv_load A ok R hx i _ _ _ l e (by omega)) hh
    (fun l e => S.wide1_load A ok R i g _ l e) (fun e => S.wide2_load A ok R i g _ _ _ 0 e 127 rfl) n e
include ok R hx in
theorem out_value (i : Fin 4) (g : Fin 8) (hh : ∀ n e, S.hin i g (ix3 0 n e) = A.state (chunkOf t i).val (chan g e) n) (l : Fin 128) (e : Fin 256) :
    outAt m c t i g (S.convs.drop (3 - i.val)) (S.wides.drop (6 - 2 * i.val)) (S.hin i g) (ix2 l e) = A.out (chunkOf t i) l (chan g e) := by
  unfold outAt
  exact outBlock_apply A ok (chunkOf t i) g _ _ _ (fun l n => S.conv_load A ok R hx i _ _ _ l n (by omega)) (fun l e => S.conv_load A ok R hx i _ _ _ l e (by omega)) hh
    _ _ _ _ _ _ _ (fun h l => rowBlock_apply A ok _ _ _ _ (R.step i) R.bias R.rate h l) (fun h l => colBlock_apply A ok _ _ _ _ (R.step i) R.bias R.rate h l)
    (fun l n => S.conv_load A ok R hx i _ _ _ l n (by omega)) (fun l e => S.wide2_load A ok R i g _ _ _ l e l rfl) (R.skip g) (R.gate i g) (R.norm g) l e

include ok R hx hs in
theorem states_upto (s : ℕ) (h32 : s ≤ 32) : ∀ (i : Fin 4) (g : Fin 8) (n : Fin 128) (e : Fin 256), 8 * i.val + g.val < s → s ≤ 8 * i.val + g.val + 8 →
    View.canon (S.states.drop (32 - s)) (ix3 g n e) = after A (chunkOf t i) (chan g e) n := by
  induction s with
  | zero => intro i g n e h; omega
  | succ s ih =>
    intro i g n e hl hu
    have ih := ih (by omega)
    have d := S.states_next ⟨s / 8, by omega⟩ ⟨s % 8, by omega⟩
    rw [show 31 - (8 * (s / 8) + s % 8) = 32 - (s + 1) from by omega] at d
    rw [d]
    by_cases hg : s = 8 * i.val + g.val
    · rw [show (⟨s / 8, by omega⟩ : Fin 4) = i from Fin.ext (by show s / 8 = i.val; omega), show (⟨s % 8, by omega⟩ : Fin 8) = g from Fin.ext (by show s % 8 = g.val; omega)]
      rw [canon_hit _ _ _ _ (ix3 0 n e) (fun a => by
        match a with
        | ⟨0, _⟩ => show g.val + 1 * 0 = g.val; omega
        | ⟨1, _⟩ => show 0 + 1 * n.val = n.val; omega
        | ⟨2, _⟩ => show 0 + 1 * e.val = e.val; omega)]
      refine S.state_value A ok R hx i g ?_ n e
      intro n e
      clear d hl hu
      revert hg
      refine Fin.cases (fun _ => hs g n e) (fun i hg => ?_) i
      have ht := point_lt t
      have hg' : s = 8 * (i.val + 1) + g.val := hg
      rw [S.hin_succ, ld19_apply, ← hg', ih i.castSucc g n e (by show 8 * i.val + g.val < s; omega) (by show s ≤ 8 * i.val + g.val + 8; omega)]
      exact (state_next A (chunkOf t i.castSucc) (by show (4 * t.val + i.val + 1) % 32 ≠ 0; omega) _ n).symm
    · rw [canon_miss _ _ _ _ _ _ 0 (by show g.val < s % 8 ∨ s % 8 + 1 ≤ g.val; omega)]
      rw [show 32 - (8 * (s / 8) + s % 8) = 32 - s from by omega]
      exact ih i g n e (by omega) (by omega)
include ok R hx hs in
theorem hin_value (i : Fin 4) (g : Fin 8) (n : Fin 128) (e : Fin 256) : S.hin i g (ix3 0 n e) = A.state (chunkOf t i).val (chan g e) n := by
  refine Fin.cases (hs g n e) (fun i => ?_) i
  have ht := point_lt t
  rw [S.hin_succ, ld19_apply, S.states_upto A ok R hx hs (8 * (i.val + 1) + g.val) (by omega) i.castSucc g n e (by show 8 * i.val + g.val < _; omega) (by show _ ≤ 8 * i.val + g.val + 8; omega)]
  exact (state_next A (chunkOf t i.castSucc) (by show (4 * t.val + i.val + 1) % 32 ≠ 0; omega) _ n).symm

include ok R hx hs in
theorem outs_upto (s : ℕ) (h32 : s ≤ 32) : ∀ (i : Fin 4) (g : Fin 8) (l : Fin 128) (e : Fin 256), 8 * i.val + g.val < s →
    View.canon (S.outs.drop (32 - s)) (ix2 ⟨128 * i.val + l.val, by omega⟩ (chan g e)) = A.out (chunkOf t i) l (chan g e) := by
  induction s with
  | zero => intro i g l e h; omega
  | succ s ih =>
    intro i g l e hl
    have ih := ih (by omega)
    have d := S.outs_get ⟨s / 8, by omega⟩ ⟨s % 8, by omega⟩
    rw [show 31 - (8 * (s / 8) + s % 8) = 32 - (s + 1) from by omega] at d
    rw [d]
    by_cases hg : s = 8 * i.val + g.val
    · rw [show (⟨s / 8, by omega⟩ : Fin 4) = i from Fin.ext (by show s / 8 = i.val; omega), show (⟨s % 8, by omega⟩ : Fin 8) = g from Fin.ext (by show s % 8 = g.val; omega)]
      rw [canon_hit _ _ _ _ (ix2 l e) (Fin.forall_fin_two.mpr ⟨by show 128 * i.val + 1 * l.val = 128 * i.val + l.val; omega, by show 256 * g.val + 1 * e.val = 256 * g.val + e.val; omega⟩)]
      exact S.out_value A ok R hx i g (S.hin_value A ok R hx hs i g) l e
    · rw [show 32 - (8 * (s / 8) + s % 8) = 32 - s from by omega]
      by_cases hi : s / 8 = i.val
      · rw [canon_miss _ _ _ _ _ _ 1 (by show 256 * g.val + e.val < 256 * (s % 8) ∨ 256 * (s % 8) + 256 ≤ 256 * g.val + e.val; omega)]
        exact ih i g l e (by omega)
      · rw [canon_miss _ _ _ _ _ _ 0 (by show 128 * i.val + l.val < 128 * (s / 8) ∨ 128 * (s / 8) + 128 ≤ 128 * i.val + l.val; omega)]
        exact ih i g l e (by omega)

include ok R hx hs in
/-- A point's results. -/
theorem outs_value (i : Fin 4) (g : Fin 8) (l : Fin 128) (e : Fin 256) :
    View.canon S.outs (ix2 ⟨128 * i.val + l.val, by omega⟩ (chan g e)) = A.out (chunkOf t i) l (chan g e) :=
  S.outs_upto A ok R hx hs 32 le_rfl i g l e (by omega)
include ok R hx hs in
/-- The state a point leaves. -/
theorem states_value (g : Fin 8) (n : Fin 128) (e : Fin 256) : View.canon S.states (ix3 g n e) = after A (chunkOf t 3) (chan g e) n :=
  S.states_upto A ok R hx hs 32 le_rfl 3 g n e (by show 24 + g.val < 32; omega) (by show 32 ≤ 24 + g.val + 8; omega)
/-- The rows a point leaves. -/
theorem rows_value (x : Fin 16) (j : Fin 4096) : View.canon S.rows (ix2 ⟨x.val, by omega⟩ j) = k0_pay13 (curAt m c t 3) (ix2 x j) := by
  rw [S.rows_last]
  rw [canon_hit _ _ _ _ (ix2 x j) (Fin.forall_fin_two.mpr ⟨by show 0 + 1 * x.val = x.val; omega, by show 0 + 1 * j.val = j.val; omega⟩)]

end Stores

end Cert.Kernel3Ideal.Ssd
-- ==== Proof.Ssd.Points.lean ====
/- What each point leaves in the carried rows, the carried state and its block of results: by induction over the points. -/
module

public import proofs.«01_k».proof.Proof.Ssd.PiecesA
public import proofs.«01_k».proof.Proof.Ssd.PiecesB
public import proofs.«01_k».proof.Proof.Ssd.Contents
public import Idealize.ShloMosaic.Lib.WritesUnit

@[expose] public section

set_option maxRecDepth 65536
set_option backward.proofsInPublic true
set_option maxHeartbeats 400000

noncomputable section

namespace Cert.Kernel3Ideal.Ssd

open Idealize.ShloMosaic Idealize.ShloMosaic.TcCoe Idealize.ShloMosaic.Tactic
open Cert.Kernel3Ideal Cert.Kernel3Ideal.Gen Cert.Ssd

variable (m : (ℓ : Loc nD τ sig) → Buf (Elt Ideal) ℓ) (c : Dev nD) (t : Fin cfg0.N)

theorem view_hit {κ : Kind} {sp : Space} (v : View sig κ sp S144x4096 .bf16) (f : v.ty.Contents (Elt Ideal)) (w : Vec Ideal S128x4096 .bf16) (L : List (View.Piece (Elt Ideal) S144x4096 .bf16)) (r : Fin 128) (j : Fin 4096) (y : S144x4096.Idx)
    (h0 : (y 0).val = 16 + r.val) (h1 : (y 1).val = j.val) :
    v.read (Elt Ideal) (v.writes (Elt Ideal) f (⟨Rect.unit ![16, 0] S128x4096.size (by decide), w⟩ :: L)) y = w (ix2 r j) :=
  View.read_writes_cons_unit_of_mem v f _ w L y (ix2 r j) rfl (Fin.forall_fin_two.mpr ⟨h0, h1.trans (Nat.zero_add _).symm⟩)
theorem view_miss {κ : Kind} {sp : Space} (v : View sig κ sp S144x4096 .bf16) (f : v.ty.Contents (Elt Ideal)) (w : Vec Ideal S128x4096 .bf16) (y : S144x4096.Idx)
    (h0 : (y 0).val < 16) :
    v.read (Elt Ideal) (v.writes (Elt Ideal) f [⟨Rect.unit ![16, 0] S128x4096.size (by decide), w⟩]) y = v.read (Elt Ideal) f y :=
  View.read_writes_cons_unit_of_not_mem v f _ w [] y rfl 0 (Or.inl h0)
theorem view_at {κ : Kind} {sp : Space} (v : View sig κ sp S144x4096 .bf16) (f : v.ty.Contents (Elt Ideal)) (y : S144x4096.Idx) :
    View.readAt (Elt Ideal) v (Rect.unit (s := S144x4096) ![0, 0] S144x4096.size (by decide)).toLoadRect f y = v.read (Elt Ideal) f y := by
  refine (View.readAt_apply (v := v) (Rect.unit (s := S144x4096) ![0, 0] S144x4096.size (by decide)).toLoadRect f y).trans (congrArg (v.read (Elt Ideal) f) (funext fun a => Fin.ext ?_))
  revert a
  exact Fin.forall_fin_two.mpr ⟨by show 0 + 1 * (y 0).val = (y 0).val; omega, by show 0 + 1 * (y 1).val = (y 1).val; omega⟩

/-- A batch's first point. -/
def storesA (h0 : t.val % 8 = 0) : Stores m c t where
  outs := outsA m c t h0
  rows := rowsA m c t h0
  states := statesA m c t h0
  convs := convsA m c t h0
  wides := widesA m c t h0
  xx := xxA m c t h0
  hin := hinA m c t h0
  convs_drop := convsA_drop m c t h0
  wides_drop := widesA_drop m c t h0
  rows_next := rowsA_next m c t h0
  rows_last := rowsA_last m c t h0
  states_next := statesA_next m c t h0
  outs_get := outsA_get m c t h0
  xx_zero r j := by
    unfold xxA
    rw [ld17_apply]
    show View.canon ((rowsA m c t h0).drop 7) _ = _
    rw [rowsA_first, canon_hit _ _ _ _ (ix2 r j) (Fin.forall_fin_two.mpr ⟨by show 16 + 1 * r.val = 16 + r.val; omega, by show 0 + 1 * j.val = j.val; omega⟩)]
  xx_succ i := by
    unfold xxA
    rw [show 7 - 2 * i.succ.val = 5 - 2 * i.val from by show 7 - 2 * (i.val + 1) = _; omega]
  hin_succ i g := rfl

/-- A later point, over the rows and the state left to it. -/
def storesB (h0 : ¬t.val % 8 = 0) (rows : Vec Ideal S144x4096 .bf16) (st : Vec Ideal S8x128x256 .f32) : Stores m c t where
  outs := outsB m c t h0 rows st
  rows := rowsB m c t h0 rows st
  states := statesB m c t h0 rows st
  convs := convsB m c t h0 rows st
  wides := widesB m c t h0 rows st
  xx := xxB m c t h0 rows st
  hin := hinB m c t h0 rows st
  convs_drop := convsB_drop m c t h0 rows st
  wides_drop := widesB_drop m c t h0 rows st
  rows_next := rowsB_next m c t h0 rows st
  rows_last := rowsB_last m c t h0 rows st
  states_next := statesB_next m c t h0 rows st
  outs_get := outsB_get m c t h0 rows st
  xx_zero r j := by
    unfold xxB
    rw [if_pos (show (0 : Fin 4).val = 0 from rfl), rowsB_first]
    refine (view_at _ _ _).trans ?_
    exact view_hit _ _ _ [] r j _ rfl rfl
  xx_succ i := by
    unfold xxB
    rw [if_neg (by show ¬ i.val + 1 = 0; omega), show 7 - 2 * i.succ.val = 5 - 2 * i.val from by show 7 - 2 * (i.val + 1) = _; omega]
  hin_succ i g := by
    unfold hinB
    rw [if_neg (by show ¬ i.val + 1 = 0; omega)]
    rfl

theorem storesA_outs (h0 : t.val % 8 = 0) : (storesA m c t h0).outs = outsA m c t h0 := by
  dsimp only [storesA]
theorem storesA_rows (h0 : t.val % 8 = 0) : (storesA m c t h0).rows = rowsA m c t h0 := by
  dsimp only [storesA]
theorem storesA_states (h0 : t.val % 8 = 0) : (storesA m c t h0).states = statesA m c t h0 := by
  dsimp only [storesA]
theorem storesA_xx (h0 : t.val % 8 = 0) : (storesA m c t h0).xx = xxA m c t h0 := by
  dsimp only [storesA]
theorem storesA_hin (h0 : t.val % 8 = 0) : (storesA m c t h0).hin = hinA m c t h0 := by
  dsimp only [storesA]
theorem storesB_outs (h0 : ¬t.val % 8 = 0) (rows : Vec Ideal S144x4096 .bf16) (st : Vec Ideal S8x128x256 .f32) : (storesB m c t h0 rows st).outs = outsB m c t h0 rows st := by
  dsimp only [storesB]
theorem storesB_rows (h0 : ¬t.val % 8 = 0) (rows : Vec Ideal S144x4096 .bf16) (st : Vec Ideal S8x128x256 .f32) : (storesB m c t h0 rows st).rows = rowsB m c t h0 rows st := by
  dsimp only [storesB]
theorem storesB_states (h0 : ¬t.val % 8 = 0) (rows : Vec Ideal S144x4096 .bf16) (st : Vec Ideal S8x128x256 .f32) : (storesB m c t h0 rows st).states = statesB m c t h0 rows st := by
  dsimp only [storesB]
theorem storesB_xx (h0 : ¬t.val % 8 = 0) (rows : Vec Ideal S144x4096 .bf16) (st : Vec Ideal S8x128x256 .f32) : (storesB m c t h0 rows st).xx = xxB m c t h0 rows st := by
  dsimp only [storesB]
theorem storesB_hin (h0 : ¬t.val % 8 = 0) (rows : Vec Ideal S144x4096 .bf16) (st : Vec Ideal S8x128x256 .f32) : (storesB m c t h0 rows st).hin = hinB m c t h0 rows st := by
  dsimp only [storesB]

theorem state_start (A : Args) (k : ℕ) (h : k % 32 = 0) (e : Fin 2048) (n : Fin 128) : A.state k e n = 0 := by
  cases k with
  | zero => rfl
  | succ k =>
    show (if (k + 1) % 32 = 0 then (0 : EReal) else _) = _
    rw [if_pos h]

theorem rowsA_before (A : Args) (h0 : t.val % 8 = 0) (x : Fin 16) (j : Fin 4096) : (storesA m c t h0).xx 0 (ix2 ⟨x.val, by omega⟩ j) = before A (chunkOf t 0) x j := by
  unfold before
  rw [if_pos (by show (4 * t.val + 0) % 32 = 0; omega)]
  rw [storesA_xx]
  unfold xxA
  rw [ld17_apply]
  show View.canon ((rowsA m c t h0).drop 7) _ = _
  rw [rowsA_first, canon_miss _ _ _ _ _ _ 0 (Or.inl (by show x.val < 16; omega)),
    canon_hit _ _ _ _ (ix2 x j) (Fin.forall_fin_two.mpr ⟨by show 0 + 1 * x.val = x.val; omega, by show 0 + 1 * j.val = j.val; omega⟩), pay4_apply]
theorem statesA_zero (h0 : t.val % 8 = 0) (g : Fin 8) (n : Fin 128) (e : Fin 256) (k : ℕ) (hk : k ≤ g.val) : View.canon ((statesA m c t h0).drop (32 - k)) (ix3 g n e) = (0 : EReal) := by
  induction k with
  | zero =>
    show View.canon ((statesA m c t h0).drop 32) _ = _
    rw [statesA_first, canon_hit _ _ _ _ (ix3 g n e) (fun a => by
      match a with
      | ⟨0, _⟩ => show 0 + 1 * g.val = g.val; omega
      | ⟨1, _⟩ => show 0 + 1 * n.val = n.val; omega
      | ⟨2, _⟩ => show 0 + 1 * e.val = e.val; omega), pay5_apply]
  | succ k ih =>
    have d := statesA_next m c t h0 0 ⟨k, by omega⟩
    rw [show 31 - (8 * (0 : Fin 4).val + (⟨k, by omega⟩ : Fin 8).val) = 32 - (k + 1) from by show 31 - (8 * 0 + k) = _; omega,
      show 32 - (8 * (0 : Fin 4).val + (⟨k, by omega⟩ : Fin 8).val) = 32 - k from by show 32 - (8 * 0 + k) = _; omega] at d
    rw [d, canon_miss _ _ _ _ _ _ 0 (Or.inr (by show k + 1 ≤ g.val; omega))]
    exact ih (by omega)
theorem statesA_before (A : Args) (h0 : t.val % 8 = 0) (g : Fin 8) (n : Fin 128) (e : Fin 256) : (storesA m c t h0).hin 0 g (ix3 0 n e) = A.state (chunkOf t 0).val (chan g e) n := by
  rw [state_start A _ (by show (4 * t.val + 0) % 32 = 0; omega)]
  rw [storesA_hin]
  unfold hinA
  rw [ld19_apply, show 32 - (8 * (0 : Fin 4).val + g.val) = 32 - g.val from by show 32 - (8 * 0 + g.val) = _; omega]
  exact statesA_zero m c t h0 g n e g.val le_rfl

theorem rowsB_before (h0 : ¬t.val % 8 = 0) (rows : Vec Ideal S144x4096 .bf16) (st : Vec Ideal S8x128x256 .f32) (x : Fin 16) (j : Fin 4096) :
    (storesB m c t h0 rows st).xx 0 (ix2 ⟨x.val, by omega⟩ j) = rows (ix2 ⟨x.val, by omega⟩ j) := by
  rw [storesB_xx]
  unfold xxB
  rw [if_pos (show (0 : Fin 4).val = 0 from rfl), rowsB_first]
  refine (view_at _ _ _).trans ((view_miss _ _ _ _ x.isLt).trans ?_)
  rw [Memref.IsWhole.read_unread]
theorem statesB_before (h0 : ¬t.val % 8 = 0) (rows : Vec Ideal S144x4096 .bf16) (st : Vec Ideal S8x128x256 .f32) (g : Fin 8) (n : Fin 128) (e : Fin 256) :
    (storesB m c t h0 rows st).hin 0 g (ix3 0 n e) = st (ix3 g n e) := by
  rw [storesB_hin]
  unfold hinB
  rw [if_pos (show (0 : Fin 4).val = 0 from rfl), View.readAt_apply, Memref.IsWhole.read_unread]
  exact congrArg st (funext fun a => Fin.ext (by
    match a with
    | ⟨0, _⟩ => show g.val + 1 * 0 = g.val; omega
    | ⟨1, _⟩ => show 0 + 1 * n.val = n.val; omega
    | ⟨2, _⟩ => show 0 + 1 * e.val = e.val; omega))

theorem outs_A (h0 : t.val % 8 = 0) (y : S512x2048.Idx) : (outsAt0 m c t.val t.isLt).1 y = View.canon (outsA m c t h0) y := by
  rw [outsAt0_A m c t h0]
  unfold outsA
  dsimp only
  unfold out0_A_12
  exact View.read_writes_junk_apply_eq_canon VO0_12 y _
theorem rows_A (h0 : t.val % 8 = 0) (y : S144x4096.Idx) : (outsAt0 m c t.val t.isLt).2.2.2.1 y = View.canon (rowsA m c t h0) y := by
  rw [outsAt0_A m c t h0]
  unfold rowsA
  dsimp only
  unfold sout0_A_0
  exact View.read_writes_junk_apply_eq_canon VS0_0 y _
theorem states_A (h0 : t.val % 8 = 0) (y : S8x128x256.Idx) : (outsAt0 m c t.val t.isLt).2.2.2.2 y = View.canon (statesA m c t h0) y := by
  rw [outsAt0_A m c t h0]
  unfold statesA
  dsimp only
  unfold sout0_A_2
  exact View.read_writes_junk_apply_eq_canon VS0_2 y _

/-- What the point before left. -/
abbrev prev := outsAt0 m c (t.val - 1) (Nat.lt_of_le_of_lt (Nat.sub_le _ _) t.isLt)
theorem outs_B (h0 : ¬t.val % 8 = 0) (y : S512x2048.Idx) : (outsAt0 m c t.val t.isLt).1 y = View.canon (outsB m c t h0 (prev m c t).2.2.2.1 (prev m c t).2.2.2.2) y := by
  rw [outsAt0_B m c t h0]
  unfold outsB
  dsimp only
  unfold out0_B_12
  exact View.read_writes_junk_apply_eq_canon VO0_12 y _
theorem rows_B (h0 : ¬t.val % 8 = 0) (y : S144x4096.Idx) : (outsAt0 m c t.val t.isLt).2.2.2.1 y = View.canon (rowsB m c t h0 (prev m c t).2.2.2.1 (prev m c t).2.2.2.2) y := by
  rw [outsAt0_B m c t h0]
  unfold rowsB
  dsimp only
  unfold sout0_B_0
  exact View.read_writes_junk_apply_eq_canon VS0_0 y _
theorem states_B (h0 : ¬t.val % 8 = 0) (y : S8x128x256.Idx) : (outsAt0 m c t.val t.isLt).2.2.2.2 y = View.canon (statesB m c t h0 (prev m c t).2.2.2.1 (prev m c t).2.2.2.2) y := by
  rw [outsAt0_B m c t h0]
  unfold statesB
  dsimp only
  unfold sout0_B_2
  exact View.read_writes_junk_apply_eq_canon VS0_2 y _

/-- What a point leaves. -/
structure Leaves (A : Args) : Prop where
  outs : ∀ (i : Fin 4) (g : Fin 8) (l : Fin 128) (e : Fin 256), (outsAt0 m c t.val t.isLt).1 (ix2 ⟨128 * i.val + l.val, by omega⟩ (chan g e)) = A.out (chunkOf t i) l (chan g e)
  rows : ∀ (x : Fin 16) (j : Fin 4096), (outsAt0 m c t.val t.isLt).2.2.2.1 (ix2 ⟨x.val, by omega⟩ j) = k0_pay13 (F := Ideal) (curAt m c t 3) (ix2 x j)
  states : ∀ (g : Fin 8) (n : Fin 128) (e : Fin 256), (outsAt0 m c t.val t.isLt).2.2.2.2 (ix3 g n e) = after A (chunkOf t 3) (chan g e) n

theorem leavesA (A : Args) (ok : A.Ok) (R : Reads m c t A) (h0 : t.val % 8 = 0) : Leaves m c t A where
  outs i g l e := by
    rw [outs_A m c t h0, ← storesA_outs]
    exact ((storesA m c t h0).outs_value A ok R (rowsA_before m c t A h0) (statesA_before m c t A h0) i g l e)
  rows x j := by
    rw [rows_A m c t h0, ← storesA_rows]
    exact (storesA m c t h0).rows_value x j
  states g n e := by
    rw [states_A m c t h0, ← storesA_states]
    exact ((storesA m c t h0).states_value A ok R (rowsA_before m c t A h0) (statesA_before m c t A h0) g n e)

theorem leavesB (A : Args) (ok : A.Ok) (R : Reads m c t A) (h0 : ¬t.val % 8 = 0)
    (hx : ∀ (x : Fin 16) (j : Fin 4096), (prev m c t).2.2.2.1 (ix2 ⟨x.val, by omega⟩ j) = before A (chunkOf t 0) x j)
    (hs : ∀ (g : Fin 8) (n : Fin 128) (e : Fin 256), (prev m c t).2.2.2.2 (ix3 g n e) = A.state (chunkOf t 0).val (chan g e) n) : Leaves m c t A := by
  have hx' : ∀ (x : Fin 16) (j : Fin 4096), (storesB m c t h0 (prev m c t).2.2.2.1 (prev m c t).2.2.2.2).xx 0 (ix2 ⟨x.val, by omega⟩ j) = before A (chunkOf t 0) x j :=
    fun x j => (rowsB_before m c t h0 _ _ x j).trans (hx x j)
  have hs' : ∀ (g : Fin 8) (n : Fin 128) (e : Fin 256), (storesB m c t h0 (prev m c t).2.2.2.1 (prev m c t).2.2.2.2).hin 0 g (ix3 0 n e) = A.state (chunkOf t 0).val (chan g e) n :=
    fun g n e => (statesB_before m c t h0 _ _ g n e).trans (hs g n e)
  exact {
    outs := fun i g l e => by
      rw [outs_B m c t h0, ← storesB_outs]
      exact (storesB m c t h0 _ _).outs_value A ok R hx' hs' i g l e
    rows := fun x j => by
      rw [rows_B m c t h0, ← storesB_rows]
      exact (storesB m c t h0 _ _).rows_value x j
    states := fun g n e => by
      rw [states_B m c t h0, ← storesB_states]
      exact (storesB m c t h0 _ _).states_value A ok R hx' hs' g n e }

/-- Every point leaves its rows, its state and its results. -/
theorem leaves (A : Args) (ok : A.Ok) (R : ∀ t, Reads m c t A) (n : ℕ) : ∀ hn : n < cfg0.N, Leaves m c ⟨n, hn⟩ A := by
  induction n with
  | zero => exact fun hn => leavesA m c ⟨0, hn⟩ A ok (R _) rfl
  | succ n ih =>
    intro hn
    have ih := ih (by omega)
    have hN : n + 1 < 32 := point_lt ⟨n + 1, hn⟩
    by_cases h0 : (n + 1) % 8 = 0
    · exact leavesA m c ⟨n + 1, hn⟩ A ok (R _) h0
    · refine leavesB m c ⟨n + 1, hn⟩ A ok (R _) h0 (fun x j => ?_) (fun g k e => ?_)
      · refine (ih.rows x j).trans ((Stores.tail_value A (R _) 3 (by show 4 * n + 3 + 1 < 128; omega) (by show (4 * n + 3 + 1) % 32 ≠ 0; omega) x j).trans ?_)
        exact congrArg (fun k => before A k x j) (Fin.ext (by show 4 * n + 3 + 1 = 4 * (n + 1) + 0; omega))
      · refine (ih.states g k e).trans ((state_next A (chunkOf ⟨n, by omega⟩ 3) (by show (4 * n + 3 + 1) % 32 ≠ 0; omega) _ k).symm.trans ?_)
        exact congrArg (fun q => A.state q (chan g e) k) (by show 4 * n + 3 + 1 = 4 * (n + 1) + 0; omega)

end Cert.Kernel3Ideal.Ssd

end
-- ==== Proof.Ssd.HostArrays.lean ====
/- What the host lines before the scan leave in the arrays its windows read. -/
module

public import proofs.«01_k».proof.Proof.Ssd.Contents

@[expose] public section

set_option maxRecDepth 65536

noncomputable section

namespace Cert.Kernel3Ideal.Ssd

open Idealize.ShloMosaic Idealize.ShloMosaic.TcCoe Idealize.ShloMosaic.Tactic
open Cert.Kernel3Ideal Cert.Kernel3Ideal.Gen Cert.Ssd

variable (m : (ℓ : Loc nD τ sig) → Buf (Elt Ideal) ℓ) (c : Dev nD)

/-! What the host lines before the scan leave in the arrays its windows read. -/

theorem V_bias : V m c main_v36 = broadcastInDim S32x1 ![0] bcast_S32_S32x1_0 (shapeCast S32 (m ((c : Thread nD τ).loc main_arg4) : FVec Ideal S1x32 .f32) shapeCasts_S1x32_S32) := by
  rfl
theorem V_rate : V m c main_v38 = broadcastInDim S32x1 ![0] bcast_S32_S32x1_0 (shapeCast S32 (m ((c : Thread nD τ).loc main_arg5) : FVec Ideal S1x32 .f32) shapeCasts_S1x32_S32) := by
  rfl
theorem V_tap : V m c main_v39 = shapeCast S4x4096 (m ((c : Thread nD τ).loc main_arg2) : FVec Ideal S1x4x4096 .f32) shapeCasts_S1x4x4096_S4x4096 := by
  rfl
theorem V_convBias : V m c main_v41 = broadcastInDim S1x4096 ![1] bcast_S4096_S1x4096_1 (shapeCast S4096 (m ((c : Thread nD τ).loc main_arg3) : FVec Ideal S1x4096 .f32) shapeCasts_S1x4096_S4096) := by
  rfl
theorem V_skip : V m c main_v45 = broadcastInDim S1x2048 ![1] bcast_S2048_S1x2048_1 (shapeCast S2048 (broadcastInDim S32x64 ![0] bcast_S32_S32x64_0 (shapeCast S32 (m ((c : Thread nD τ).loc main_arg6) : FVec Ideal S1x32 .f32) shapeCasts_S1x32_S32)) shapeCasts_S32x64_S2048) := by
  rfl
theorem V_norm : V m c main_v47 = broadcastInDim S1x2048 ![1] bcast_S2048_S1x2048_1 (shapeCast S2048 (m ((c : Thread nD τ).loc main_arg7) : FVec Ideal S1x2048 .f32) shapeCasts_S1x2048_S2048) := by
  rfl
theorem V_branch : V m c main_v49 = shapeCast S4096x2048 (shapeCast S2x2048x2048 (m ((c : Thread nD τ).loc main_arg8) : FVec Ideal S1x2x2048x2048 .f32) shapeCasts_S1x2x2048x2048_S2x2048x2048) shapeCasts_S2x2048x2048_S4096x2048 := by
  rfl
theorem V_project : V m c main_v50 = shapeCast S2048x2048 (m ((c : Thread nD τ).loc main_arg9) : FVec Ideal S1x2048x2048 .f32) shapeCasts_S1x2048x2048_S2048x2048 := by
  rfl

/-- The quotient rounded down by one number. -/
def floorDiv {s : Shape} (h : S_.BroadcastsInDim s (![] : Fin 0 → Fin s.rank)) (x : IVec s 32) (k : BitVec 32) : IVec s 32 :=
  select (andi (cmpi .ne (signi x) (broadcastInDim s ![] h (signi (constantI S_ 32 k)))) (cmpi .ne (Host.remsi x (broadcastInDim s ![] h (constantI S_ 32 k))) (broadcastInDim s ![] h (constantI S_ 32 0#32))))
    (subi (Host.divsi x (broadcastInDim s ![] h (constantI S_ 32 k))) (broadcastInDim s ![] h (constantI S_ 32 1#32))) (Host.divsi x (broadcastInDim s ![] h (constantI S_ 32 k)))
/-- The remainder rounded down by one number. -/
def floorRem {s : Shape} (h : S_.BroadcastsInDim s (![] : Fin 0 → Fin s.rank)) (x : IVec s 32) (k : BitVec 32) : IVec s 32 :=
  let d : IVec S_ 32 := select (cmpi .eq (constantI S_ 32 k) (constantI S_ 32 0#32)) (constantI S_ 32 1#32) (constantI S_ 32 k)
  let r := Host.remsi x (broadcastInDim s ![] h d)
  select (andi (cmpi .ne (cmpi .slt r (broadcastInDim s ![] h (constantI S_ 32 0#32))) (broadcastInDim s ![] h (cmpi .slt d (constantI S_ 32 0#32)))) (cmpi .ne r (broadcastInDim s ![] h (constantI S_ 32 0#32))))
    (addi r (broadcastInDim s ![] h d)) r

/-- The row of the window that entry `o` of the shifts picks. -/
def shiftRow : IVec S384 32 :=
  let r := floorRem bcast_S_S384 (iotaInDim S384 32 0) 48#32
  addi (subi (addi (broadcastInDim S384 ![] bcast_S_S384 (constantI S_ 32 16#32)) (addi (muli (floorDiv bcast_S_S384 (iotaInDim S384 32 0) 48#32) (broadcastInDim S384 ![] bcast_S_S384 (constantI S_ 32 16#32)))
    (floorRem bcast_S_S384 r 16#32))) (broadcastInDim S384 ![] bcast_S_S384 (constantI S_ 32 3#32))) (floorDiv bcast_S_S384 r 16#32)

set_option maxHeartbeats 2000000 in
theorem V_spread : V m c main_v14 = uitofp (F := Ideal) .bf16 (andi (cmpi .eq (broadcastInDim S128x2048 ![0, 1] bcast_S128x1_S128x2048_0_1 (floorRem bcast_S_S128x1 (broadcastInDim S128x1 ![0] bcast_S128_S128x1_0 (iotaInDim S128 32 0)) 32#32))
      (broadcastInDim S128x2048 ![0, 1] bcast_S1x2048_S128x2048_0_1 (broadcastInDim S1x2048 ![1] bcast_S2048_S1x2048_1 (floorDiv bcast_S_S2048 (iotaInDim S2048 32 0) 64#32))))
    (broadcastInDim S128x2048 ![0, 1] bcast_S128x1_S128x2048_0_1 (cmpi .slt (broadcastInDim S128x1 ![0] bcast_S128_S128x1_0 (iotaInDim S128 32 0)) (broadcastInDim S128x1 ![] bcast_S_S128x1 (constantI S_ 32 96#32))))) := by
  rfl
theorem shiftRow_apply : ∀ o : Fin 384, shiftRow (ix1 o) = BitVec.ofNat 32 (13 + (16 * (o.val / 48) + o.val % 16) + o.val % 48 / 16) := by
  decide +kernel

end Cert.Kernel3Ideal.Ssd

end
-- ==== Proof.Ssd.HostShift.lean ====
/- The array of the shifts, as the host lines leave it. -/
module

public import proofs.«01_k».proof.Proof.Ssd.HostArrays
public import Idealize.ShloMosaic.Lib.StableHlo.ReadAt

@[expose] public section

set_option maxRecDepth 65536

noncomputable section

namespace Cert.Kernel3Ideal.Ssd

open Idealize.ShloMosaic Idealize.ShloMosaic.TcCoe Idealize.ShloMosaic.Tactic
open Cert.Kernel3Ideal Cert.Kernel3Ideal.Gen Cert.Ssd

variable (m : (ℓ : Loc nD τ sig) → Buf (Elt Ideal) ℓ) (c : Dev nD)

theorem shift_mask : ∀ p q : Fin 144, IntOp.cmpi .eq (BitVec.ofNat 32 p.val) (BitVec.ofNat 32 q.val) = if p.val = q.val then 1#1 else 0#1 := by
  decide +kernel
theorem bit_one : FloatOps.uitofp (F := Ideal) .bf16 (1#1) = (1 : EReal) := by
  show (((1#1 : BitVec 1).toNat : ℝ) : EReal) = 1
  simp
theorem bit_zero : FloatOps.uitofp (F := Ideal) .bf16 (0#1) = (0 : EReal) := by
  show (((0#1 : BitVec 1).toNat : ℝ) : EReal) = 0
  simp

set_option maxHeartbeats 800000 in
theorem V_shiftArray : (V m c main_v34 : FVec Ideal S384x144 .bf16) = uitofp (F := Ideal) .bf16 (cmpi .eq (broadcastInDim S384x144 ![0,1] bcast_S384x1_S384x144_0_1 (broadcastInDim S384x1 ![0] bcast_S384_S384x1_0 shiftRow)) (broadcastInDim S384x144 ![0,1] bcast_S1x144_S384x144_0_1 (broadcastInDim S1x144 ![1] bcast_S144_S1x144_1 (iotaInDim S144 32 0)))) := by
  unfold V
  after_reads_simp
  simp -implicitDefEqProofs only [StableHlo.TRef.toBuf, StableHlo.TRef.ofBuf, cast_cast, cast_eq]
  clean_types
  unfold shiftRow floorRem floorDiv
  simp -implicitDefEqProofs only [id_eq] <;> with_reducible rfl

theorem mask_apply (R : IVec S384 32) (o : Fin 384) (x : Fin 144) :
    (uitofp (F := Ideal) .bf16 (cmpi .eq (broadcastInDim S384x144 ![0,1] bcast_S384x1_S384x144_0_1 (broadcastInDim S384x1 ![0] bcast_S384_S384x1_0 R)) (broadcastInDim S384x144 ![0,1] bcast_S1x144_S384x144_0_1 (broadcastInDim S1x144 ![1] bcast_S144_S1x144_1 (iotaInDim S144 32 0)))) : FVec Ideal S384x144 .bf16) (ix2 o x)
    = FloatOps.uitofp (F := Ideal) .bf16 (IntOp.cmpi .eq (R (ix1 o)) (BitVec.ofNat 32 x.val)) := by
  pointwise

theorem V_shift (o : Fin 384) (x : Fin 144) : (V m c main_v34 : FVec Ideal S384x144 .bf16) (ix2 o x)
    = if 13 + (16 * (o.val / 48) + o.val % 16) + o.val % 48 / 16 = x.val then (1 : EReal) else 0 := by
  have hq : 13 + (16 * (o.val / 48) + o.val % 16) + o.val % 48 / 16 < 144 := by omega
  have e : IntOp.cmpi .eq (shiftRow (ix1 o)) (BitVec.ofNat 32 x.val) = if 13 + (16 * (o.val / 48) + o.val % 16) + o.val % 48 / 16 = x.val then 1#1 else 0#1 := by
    rw [shiftRow_apply]
    exact shift_mask ⟨_, hq⟩ x
  refine (congrFun (V_shiftArray m c) (ix2 o x)).trans ((mask_apply shiftRow o x).trans ?_)
  rw [e]
  by_cases h : 13 + (16 * (o.val / 48) + o.val % 16) + o.val % 48 / 16 = x.val
  · rw [if_pos h, if_pos h]
    exact bit_one
  · rw [if_neg h, if_neg h]
    exact bit_zero

end Cert.Kernel3Ideal.Ssd

end
-- ==== Proof.Ssd.Reads.lean ====
/- What the blocks of the scan's operands hold, as entries of the arguments. -/
module

public import proofs.«01_k».proof.Proof.Gen.Kernel3Ideal.Value
public import Idealize.ShloMosaic.Lib.Pipeline.ValueKit
public import proofs.«01_k».proof.Proof.Ssd.HostShift

@[expose] public section

set_option maxRecDepth 65536

noncomputable section

namespace Cert.Kernel3Ideal.Ssd

open Idealize.ShloMosaic Idealize.ShloMosaic.TcCoe Idealize.ShloMosaic.Tactic
open Cert.Kernel3Ideal Cert.Kernel3Ideal.Gen Cert.Ssd

/-- The scan's windows over its 32 points of 512 rows. -/
theorem index : ∀ t : Fin cfg0.N, win0_0.index t = ![t.val, 1] ∧ win0_1.index t = ![0, t.val] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

variable (m : (ℓ : Loc nD τ sig) → Buf (Elt Ideal) ℓ) (c : Dev nD) (t : Fin cfg0.N)

theorem cast_tap (X : FVec Ideal S1x4x4096 .f32) (i : Fin 4) (j : Fin 4096) : (shapeCast S4x4096 X shapeCasts_S1x4x4096_S4x4096 : FVec Ideal S4x4096 .f32) (ix2 i j) = X (ix3 0 i j) := by
  pointwise
theorem spread_row : ∀ x : Fin 128, floorRem bcast_S_S128x1 (broadcastInDim S128x1 ![0] bcast_S128_S128x1_0 (iotaInDim S128 32 0)) 32#32 (ix2 x 0) = BitVec.ofNat 32 (x.val % 32) := by
  decide +kernel
theorem spread_col : ∀ j : Fin 2048, floorDiv bcast_S_S2048 (iotaInDim S2048 32 0) 64#32 (ix1 j) = BitVec.ofNat 32 (j.val / 64) := by
  decide +kernel
theorem mask_eq : ∀ p q : Fin 32, IntOp.cmpi .eq (BitVec.ofNat 32 p.val) (BitVec.ofNat 32 q.val) = if p.val = q.val then 1#1 else 0#1 := by
  decide +kernel
theorem mask_lt : ∀ x : Fin 128, IntOp.cmpi .slt (BitVec.ofNat 32 x.val) 96#32 = if x.val < 96 then 1#1 else 0#1 := by
  decide +kernel
theorem uitofp_one : FloatOps.uitofp (F := Ideal) .bf16 (1#1) = (1 : EReal) := by
  show (((1#1 : BitVec 1).toNat : ℝ) : EReal) = 1
  simp
theorem uitofp_zero : FloatOps.uitofp (F := Ideal) .bf16 (0#1) = (0 : EReal) := by
  show (((0#1 : BitVec 1).toNat : ℝ) : EReal) = 0
  simp

/-- The arguments' entries, off the memory. -/
def args : Args where
  P q j := (m ((c : Thread nD τ).loc main_arg0) : FVec Ideal S16384x16384 .bf16) (ix2 q j)
  D h q := (m ((c : Thread nD τ).loc main_arg1) : FVec Ideal S32x16384 .f32) (ix2 h q)
  cw i j := (m ((c : Thread nD τ).loc main_arg2) : FVec Ideal S1x4x4096 .f32) (ix3 0 i j)
  cb j := (m ((c : Thread nD τ).loc main_arg3) : FVec Ideal S1x4096 .f32) (ix2 0 j)
  dtb h := (m ((c : Thread nD τ).loc main_arg4) : FVec Ideal S1x32 .f32) (ix2 0 h)
  al h := (m ((c : Thread nD τ).loc main_arg5) : FVec Ideal S1x32 .f32) (ix2 0 h)
  dsk h := (m ((c : Thread nD τ).loc main_arg6) : FVec Ideal S1x32 .f32) (ix2 0 h)
  nw e := (m ((c : Thread nD τ).loc main_arg7) : FVec Ideal S1x2048 .f32) (ix2 0 e)

theorem rows_block (r : Fin 512) (j : Fin 6144) (q : Fin 16384) (hq : q.val = 512 * t.val + r.val) (x : Fin 16384) (hx : x.val = 6144 + j.val) :
    (X0_0 m c t : FVec Ideal S512x6144 .bf16) (ix2 r j) = (args m c).P q x := by
  obtain ⟨h, -⟩ := index t
  unfold X0_0 Pipeline.Window.fill args
  rw [dif_pos (moved0_0 t _)]
  blk_point [iblk, V, h]
theorem steps_block (h : Fin 32) (r : Fin 512) (q : Fin 16384) (hq : q.val = 512 * t.val + r.val) :
    (iblk m c 1 t : FVec Ideal S32x512 .f32) (ix2 h r) = (args m c).D h q := by
  obtain ⟨-, hi, -⟩ := index t
  unfold args
  blk_point [iblk, V, hi]
theorem bias_block (h : Fin 32) : (iblk m c 2 t : FVec Ideal S32x1 .f32) (ix2 h 0) = (args m c).dtb h := by
  obtain ⟨-, -, hi, -⟩ := index t
  have e : (iblk m c 2 t : FVec Ideal S32x1 .f32) (ix2 h 0) = (V m c main_v36 : FVec Ideal S32x1 .f32) (ix2 h 0) := by
    unfold iblk
    blk_point [hi]
  rw [e, V_bias]
  pointwise
  rfl
theorem rate_block (h : Fin 32) : (iblk m c 3 t : FVec Ideal S32x1 .f32) (ix2 h 0) = (args m c).al h := by
  obtain ⟨-, -, -, hi, -⟩ := index t
  have e : (iblk m c 3 t : FVec Ideal S32x1 .f32) (ix2 h 0) = (V m c main_v38 : FVec Ideal S32x1 .f32) (ix2 h 0) := by
    unfold iblk
    blk_point [hi]
  rw [e, V_rate]
  pointwise
  rfl
theorem shift_block (o : Fin 384) (x : Fin 144) : (iblk m c 4 t : FVec Ideal S384x144 .bf16) (ix2 o x)
    = if 13 + (16 * (o.val / 48) + o.val % 16) + o.val % 48 / 16 = x.val then (1 : EReal) else 0 := by
  obtain ⟨-, -, -, -, hi, -⟩ := index t
  have e : (iblk m c 4 t : FVec Ideal S384x144 .bf16) (ix2 o x) = (V m c main_v34 : FVec Ideal S384x144 .bf16) (ix2 o x) := by
    unfold iblk
    blk_point [hi]
  exact e.trans (V_shift m c o x)
theorem tap_block (i : Fin 4) (j : Fin 4096) : (iblk m c 5 t : FVec Ideal S4x4096 .f32) (ix2 i j) = (args m c).cw i j := by
  obtain ⟨-, -, -, -, -, hi, -⟩ := index t
  have e : (iblk m c 5 t : FVec Ideal S4x4096 .f32) (ix2 i j) = (V m c main_v39 : FVec Ideal S4x4096 .f32) (ix2 i j) := by
    unfold iblk
    blk_point [hi]
  rw [e, V_tap]
  exact cast_tap _ i j
theorem convBias_block (j : Fin 4096) : (iblk m c 6 t : FVec Ideal S1x4096 .f32) (ix2 0 j) = (args m c).cb j := by
  obtain ⟨-, -, -, -, -, -, hi, -⟩ := index t
  have e : (iblk m c 6 t : FVec Ideal S1x4096 .f32) (ix2 0 j) = (V m c main_v41 : FVec Ideal S1x4096 .f32) (ix2 0 j) := by
    unfold iblk
    blk_point [hi]
  rw [e, V_convBias]
  pointwise
  rfl
theorem skip_block (e : Fin 2048) : (iblk m c 7 t : FVec Ideal S1x2048 .f32) (ix2 0 e) = (args m c).dsk (head e) := by
  obtain ⟨-, -, -, -, -, -, -, hi, -⟩ := index t
  have e : (iblk m c 7 t : FVec Ideal S1x2048 .f32) (ix2 0 e) = (V m c main_v45 : FVec Ideal S1x2048 .f32) (ix2 0 e) := by
    unfold iblk
    blk_point [hi]
  rw [e, V_skip]
  pointwise
  rfl
theorem norm_block (e : Fin 2048) : (iblk m c 8 t : FVec Ideal S1x2048 .f32) (ix2 0 e) = (args m c).nw e := by
  obtain ⟨-, -, -, -, -, -, -, -, hi, -⟩ := index t
  have e : (iblk m c 8 t : FVec Ideal S1x2048 .f32) (ix2 0 e) = (V m c main_v47 : FVec Ideal S1x2048 .f32) (ix2 0 e) := by
    unfold iblk
    blk_point [hi]
  rw [e, V_norm]
  pointwise
  rfl
theorem spread_block (x : Fin 128) (j : Fin 2048) : (iblk m c 9 t : FVec Ideal S128x2048 .bf16) (ix2 x j)
    = if x.val % 32 = j.val / 64 ∧ x.val < 96 then (1 : EReal) else 0 := by
  obtain ⟨-, -, -, -, -, -, -, -, -, hi, -⟩ := index t
  have e : (iblk m c 9 t : FVec Ideal S128x2048 .bf16) (ix2 x j) = (V m c main_v14 : FVec Ideal S128x2048 .bf16) (ix2 x j) := by
    unfold iblk
    blk_point [hi]
  rw [e, V_spread]
  pointwise
  rw [spread_row, spread_col, mask_lt, mask_eq ⟨x.val % 32, by omega⟩ ⟨j.val / 64, by omega⟩]
  by_cases h1 : x.val % 32 = j.val / 64
  · by_cases h2 : x.val < 96
    · have hc : x.val % 32 = j.val / 64 ∧ x.val < 96 := ⟨h1, h2⟩
      rw [if_pos h1, if_pos h2, if_pos hc]
      exact uitofp_one
    · have hc : ¬(x.val % 32 = j.val / 64 ∧ x.val < 96) := fun h => h2 h.2
      rw [if_pos h1, if_neg h2, if_neg hc]
      exact uitofp_zero
  · have hc : ¬(x.val % 32 = j.val / 64 ∧ x.val < 96) := fun h => h1 h.1
    rw [if_neg h1, if_neg hc]
    by_cases h2 : x.val < 96
    · rw [if_pos h2]
      exact uitofp_zero
    · rw [if_neg h2]
      exact uitofp_zero

/-- A read of a whole array's contents through a rectangle. -/
theorem readAt_eq {n0 n1 : ℕ} {e : EltTy} {mr : Memref sig .tc .vmem ⟨2, ![n0, n1]⟩ e} (h : mr.IsWhole) (X : Vec Ideal ⟨2, ![n0, n1]⟩ e)
    (B : LoadRect ⟨2, ![n0, n1]⟩) (x : B.shape.Idx) (i : Fin n0) (j : Fin n1) (h0 : (B.idx x 0).val = i.val) (h1 : (B.idx x 1).val = j.val) :
    View.readAt (Elt Ideal) mr.view B (h.unread X) x = X (ix2 i j) := by
  rw [View.readAt_apply, Memref.IsWhole.read_unread]
  refine congrArg X (funext fun a => Fin.ext ?_)
  revert a
  exact Fin.forall_fin_two.mpr ⟨h0, h1⟩

/-- The scan's reads are of the arguments' entries. -/
theorem reads : Reads m c t (args m c) where
  cur i r j := by
    rw [tap_three]
    unfold curAt
    refine Eq.trans (readAt_eq (hs0_0 t) (X0_0 m c t) _ _ ⟨128 * i.val + r.val, by omega⟩ ⟨2048 + j.val, by omega⟩ ?_ ?_) (rows_block m c t _ _ _ ?_ _ ?_)
    · show 0 + 128 * i.val + 1 * r.val = 128 * i.val + r.val; omega
    · show 2048 + 0 + 1 * j.val = 2048 + j.val; omega
    · show 128 * (4 * t.val + i.val) + r.val = 512 * t.val + (128 * i.val + r.val); omega
    · show 8192 + j.val = 6144 + (2048 + j.val); omega
  gate i g l e := by
    unfold gateAt
    refine Eq.trans (readAt_eq (hs0_0 t) (X0_0 m c t) _ _ ⟨128 * i.val + l.val, by omega⟩ ⟨256 * g.val + e.val, by omega⟩ ?_ ?_) (rows_block m c t _ _ _ ?_ _ ?_)
    · show 0 + 128 * i.val + 1 * l.val = 128 * i.val + l.val; omega
    · show 0 + 256 * g.val + 1 * e.val = 256 * g.val + e.val; omega
    · show 128 * (4 * t.val + i.val) + l.val = 512 * t.val + (128 * i.val + l.val); omega
    · rfl
  step i h l := by
    unfold stepAt
    refine Eq.trans (readAt_eq (hs0_1 t) _ _ _ h ⟨128 * i.val + l.val, by omega⟩ ?_ ?_) (steps_block m c t _ _ _ ?_)
    · show 0 + 1 * h.val = h.val; omega
    · show 128 * i.val + 1 * l.val = 128 * i.val + l.val; omega
    · show 128 * (4 * t.val + i.val) + l.val = 512 * t.val + (128 * i.val + l.val); omega
  bias h := by
    unfold biasAt
    refine Eq.trans (readAt_eq (hs0_2 t) _ _ _ h 0 ?_ ?_) (bias_block m c t h)
    · show 0 + 1 * h.val = h.val; omega
    · rfl
  rate h := by
    unfold rateAt
    refine Eq.trans (readAt_eq (hs0_3 t) _ _ _ h 0 ?_ ?_) (rate_block m c t h)
    · show 0 + 1 * h.val = h.val; omega
    · rfl
  shift o x := by
    unfold shiftAt
    refine Eq.trans (readAt_eq (hs0_4 t) _ _ _ o x ?_ ?_) (shift_block m c t o x)
    · show 0 + 1 * o.val = o.val; omega
    · show 0 + 1 * x.val = x.val; omega
  tap i j := by
    unfold tapAt
    refine Eq.trans (readAt_eq (hs0_5 t) _ _ _ i j ?_ ?_) (tap_block m c t i j)
    · show i.val + 1 * 0 = i.val; omega
    · show 0 + 1 * j.val = j.val; omega
  convBias j := by
    unfold convBiasAt
    refine Eq.trans (readAt_eq (hs0_6 t) _ _ _ 0 j ?_ ?_) (convBias_block m c t j)
    · rfl
    · show 0 + 1 * j.val = j.val; omega
  skip g e := by
    unfold skipAt
    refine Eq.trans (readAt_eq (hs0_7 t) _ _ _ 0 (chan g e) ?_ ?_) (skip_block m c t _)
    · rfl
    · show 256 * g.val + 1 * e.val = 256 * g.val + e.val; omega
  norm g e := by
    unfold normAt
    refine Eq.trans (readAt_eq (hs0_8 t) _ _ _ 0 (chan g e) ?_ ?_) (norm_block m c t _)
    · rfl
    · show 256 * g.val + 1 * e.val = 256 * g.val + e.val; omega
  spread x j := by
    unfold spreadAt
    refine Eq.trans (readAt_eq (hs0_9 t) _ _ _ x j ?_ ?_) (spread_block m c t x j)
    · show 0 + 1 * x.val = x.val; omega
    · show 0 + 1 * j.val = j.val; omega

end Cert.Kernel3Ideal.Ssd

end
-- ==== Proof.Ssd.Result.lean ====
/- The scan's three results, entry by entry. -/
module

public import proofs.«01_k».proof.Proof.Ssd.Points
public import proofs.«01_k».proof.Proof.Ssd.Reads

@[expose] public section

set_option maxRecDepth 65536
set_option backward.proofsInPublic true
set_option maxHeartbeats 1000000

noncomputable section

namespace Cert.Kernel3Ideal.Ssd

open Idealize.ShloMosaic Idealize.ShloMosaic.TcCoe Idealize.ShloMosaic.Tactic
open Cert.Kernel3Ideal Cert.Kernel3Ideal.Gen Cert.Kernel3Ideal.Value Cert.Ssd

variable (m : (ℓ : Loc nD τ sig) → Buf (Elt Ideal) ℓ) (c : Dev nD) (t : Fin cfg0.N)

/-- The first result is the gated, normalized scan. -/
theorem scan_entry (ok : (args m c).Ok) (k : Fin 128) (l : Fin 128) (e : Fin 2048) :
    (G12 m c : FVec Ideal S16384x2048 .bf16) (ix2 (row k l) e) = (args m c).out k l e := by
  have hp : pt12Of (ix2 (row k l) e) = k.val / 4 := by
    show 1 * ((128 * k.val + l.val) / 512 - 0) + 1 * (e.val / 2048 - 0) = k.val / 4
    omega
  have h : pt12Of (ix2 (row k l) e) < cfg0.N := by
    rw [hp]
    exact lt_of_lt_of_eq (by omega) N_0.symm
  unfold G12
  rw [dif_pos h, ← outsAt0_sweep m c _ h]
  have key := (leaves m c (args m c) ok (reads m c) _ h).outs ⟨k.val % 4, by omega⟩ ⟨e.val / 256, by omega⟩ l ⟨e.val % 256, by omega⟩
  rw [show chunkOf ⟨_, h⟩ ⟨k.val % 4, by omega⟩ = k from Fin.ext (by show 4 * pt12Of (ix2 (row k l) e) + k.val % 4 = k.val; rw [hp]; omega),
    show chan ⟨e.val / 256, by omega⟩ ⟨e.val % 256, by omega⟩ = e from Fin.ext (by show 256 * (e.val / 256) + e.val % 256 = e.val; omega)] at key
  refine Eq.trans (congrArg (outsAt0 m c _ h).1 (funext fun a => Fin.ext ?_)) key
  revert a
  exact Fin.forall_fin_two.mpr ⟨by show (128 * k.val + l.val) % 512 = 128 * (k.val % 4) + l.val; omega, by show e.val % 2048 = e.val; omega⟩

theorem pay2_apply (x : Vec Ideal S128x2048 .f32) (r : Fin 128) (e : Fin 2048) : k0_pay2 (F := Ideal) x (ix2 r e) = x (ix2 r e) := by
  pointwise [k0_pay2]
theorem pay3_apply (x : Vec Ideal S64x2048 .f32) (r : Fin 64) (e : Fin 2048) : k0_pay3 (F := Ideal) x (ix2 r e) = x (ix2 r e) := by
  pointwise [k0_pay3]

/-- What a point loads of the two matrices it hands on. -/
def branchAt : Vec Ideal S128x2048 .f32 :=
  View.readAt (Elt Ideal) (ms0_10 t).view (Rect.unit (s := S128x2048) ![0, 0] S128x2048.size (by decide)).toLoadRect ((hs0_10 t).unread (iblk m c 10 t))
def projectAt : Vec Ideal S64x2048 .f32 :=
  View.readAt (Elt Ideal) (ms0_11 t).view (Rect.unit (s := S64x2048) ![0, 0] S64x2048.size (by decide)).toLoadRect ((hs0_11 t).unread (iblk m c 11 t))
theorem branchAt_apply (r : Fin 128) (e : Fin 2048) (q : Fin 4096) (hq : q.val = 128 * t.val + r.val) : branchAt m c t (ix2 r e) = (V m c main_v49 : FVec Ideal S4096x2048 .f32) (ix2 q e) := by
  obtain ⟨-, -, -, -, -, -, -, -, -, -, hi, -⟩ := index t
  have h : (iblk m c 10 t : FVec Ideal S128x2048 .f32) (ix2 r e) = (V m c main_v49 : FVec Ideal S4096x2048 .f32) (ix2 q e) := by
    unfold iblk
    blk_point [hi]
  unfold branchAt
  refine Eq.trans (readAt_eq (hs0_10 t) _ _ _ r e ?_ ?_) h
  · show 0 + 1 * r.val = r.val; omega
  · show 0 + 1 * e.val = e.val; omega
theorem projectAt_apply (r : Fin 64) (e : Fin 2048) (q : Fin 2048) (hq : q.val = 64 * t.val + r.val) : projectAt m c t (ix2 r e) = (V m c main_v50 : FVec Ideal S2048x2048 .f32) (ix2 q e) := by
  obtain ⟨-, -, -, -, -, -, -, -, -, -, -, hi, -⟩ := index t
  have h : (iblk m c 11 t : FVec Ideal S64x2048 .f32) (ix2 r e) = (V m c main_v50 : FVec Ideal S2048x2048 .f32) (ix2 q e) := by
    unfold iblk
    blk_point [hi]
  unfold projectAt
  refine Eq.trans (readAt_eq (hs0_11 t) _ _ _ r e ?_ ?_) h
  · show 0 + 1 * r.val = r.val; omega
  · show 0 + 1 * e.val = e.val; omega

/-- The stores of the two matrices handed on. -/
def branchesA (h0 : t.val % 8 = 0) : List (View.Piece (Elt Ideal) S128x2048 .bf16) := (runA m c t h0).2.1
def branchesB (h0 : ¬t.val % 8 = 0) (rows : Vec Ideal S144x4096 .bf16) (st : Vec Ideal S8x128x256 .f32) : List (View.Piece (Elt Ideal) S128x2048 .bf16) := (runB m c t h0 rows st).2.1
def projectsA (h0 : t.val % 8 = 0) : List (View.Piece (Elt Ideal) S64x2048 .bf16) := (runA m c t h0).2.2.1
def projectsB (h0 : ¬t.val % 8 = 0) (rows : Vec Ideal S144x4096 .bf16) (st : Vec Ideal S8x128x256 .f32) : List (View.Piece (Elt Ideal) S64x2048 .bf16) := (runB m c t h0 rows st).2.2.1
theorem branchesA_eq (h0 : t.val % 8 = 0) : branchesA m c t h0 = [⟨Rect.unit ![0, 0] S128x2048.size (by decide), k0_pay2 (branchAt m c t)⟩] := by sl_kernel_rfl
theorem branchesB_eq (h0 : ¬t.val % 8 = 0) (rows : Vec Ideal S144x4096 .bf16) (st : Vec Ideal S8x128x256 .f32) :
    branchesB m c t h0 rows st = [⟨Rect.unit ![0, 0] S128x2048.size (by decide), k0_pay2 (branchAt m c t)⟩] := by sl_kernel_rfl
theorem projectsA_eq (h0 : t.val % 8 = 0) : projectsA m c t h0 = [⟨Rect.unit ![0, 0] S64x2048.size (by decide), k0_pay3 (projectAt m c t)⟩] := by sl_kernel_rfl
theorem projectsB_eq (h0 : ¬t.val % 8 = 0) (rows : Vec Ideal S144x4096 .bf16) (st : Vec Ideal S8x128x256 .f32) :
    projectsB m c t h0 rows st = [⟨Rect.unit ![0, 0] S64x2048.size (by decide), k0_pay3 (projectAt m c t)⟩] := by sl_kernel_rfl
theorem branch_A (h0 : t.val % 8 = 0) (y : S128x2048.Idx) : (outsAt0 m c t.val t.isLt).2.1 y = View.canon (branchesA m c t h0) y := by
  rw [outsAt0_A m c t h0]
  unfold branchesA
  dsimp only
  unfold out0_A_13
  exact View.read_writes_junk_apply_eq_canon VO0_13 y _
theorem branch_B (h0 : ¬t.val % 8 = 0) (y : S128x2048.Idx) : (outsAt0 m c t.val t.isLt).2.1 y = View.canon (branchesB m c t h0 (prev m c t).2.2.2.1 (prev m c t).2.2.2.2) y := by
  rw [outsAt0_B m c t h0]
  unfold branchesB
  dsimp only
  unfold out0_B_13
  exact View.read_writes_junk_apply_eq_canon VO0_13 y _
theorem project_A (h0 : t.val % 8 = 0) (y : S64x2048.Idx) : (outsAt0 m c t.val t.isLt).2.2.1 y = View.canon (projectsA m c t h0) y := by
  rw [outsAt0_A m c t h0]
  unfold projectsA
  dsimp only
  unfold out0_A_14
  exact View.read_writes_junk_apply_eq_canon VO0_14 y _
theorem project_B (h0 : ¬t.val % 8 = 0) (y : S64x2048.Idx) : (outsAt0 m c t.val t.isLt).2.2.1 y = View.canon (projectsB m c t h0 (prev m c t).2.2.2.1 (prev m c t).2.2.2.2) y := by
  rw [outsAt0_B m c t h0]
  unfold projectsB
  dsimp only
  unfold out0_B_14
  exact View.read_writes_junk_apply_eq_canon VO0_14 y _

theorem branch_hit (w : Vec Ideal S128x2048 .bf16) (r : Fin 128) (e : Fin 2048) : View.canon (Val := Elt Ideal) [⟨Rect.unit (s := S128x2048) ![0, 0] S128x2048.size (by decide), w⟩] (ix2 r e) = w (ix2 r e) := by
  rw [canon_hit _ _ _ _ (ix2 r e) (Fin.forall_fin_two.mpr ⟨by show 0 + 1 * r.val = r.val; omega, by show 0 + 1 * e.val = e.val; omega⟩)]
theorem branch_left (r : Fin 128) (e : Fin 2048) : (outsAt0 m c t.val t.isLt).2.1 (ix2 r e) = branchAt m c t (ix2 r e) := by
  by_cases h0 : t.val % 8 = 0
  · rw [branch_A m c t h0, branchesA_eq, branch_hit, pay2_apply]
  · rw [branch_B m c t h0, branchesB_eq, branch_hit, pay2_apply]
theorem project_hit (w : Vec Ideal S64x2048 .bf16) (r : Fin 64) (e : Fin 2048) : View.canon (Val := Elt Ideal) [⟨Rect.unit (s := S64x2048) ![0, 0] S64x2048.size (by decide), w⟩] (ix2 r e) = w (ix2 r e) := by
  rw [canon_hit _ _ _ _ (ix2 r e) (Fin.forall_fin_two.mpr ⟨by show 0 + 1 * r.val = r.val; omega, by show 0 + 1 * e.val = e.val; omega⟩)]
theorem project_left (r : Fin 64) (e : Fin 2048) : (outsAt0 m c t.val t.isLt).2.2.1 (ix2 r e) = projectAt m c t (ix2 r e) := by
  by_cases h0 : t.val % 8 = 0
  · rw [project_A m c t h0, projectsA_eq, project_hit, pay3_apply]
  · rw [project_B m c t h0, projectsB_eq, project_hit, pay3_apply]

/-- The second result is the branch matrices, one above the other. -/
theorem branch_entry (q : Fin 4096) (e : Fin 2048) : (G13 m c : FVec Ideal S4096x2048 .bf16) (ix2 q e) = (V m c main_v49 : FVec Ideal S4096x2048 .f32) (ix2 q e) := by
  have hp : pt13Of (ix2 q e) = q.val / 128 := by
    show 1 * (q.val / 128 - 0) + 1 * (e.val / 2048 - 0) = q.val / 128
    omega
  have h : pt13Of (ix2 q e) < cfg0.N := by
    rw [hp]
    exact lt_of_lt_of_eq (by omega) N_0.symm
  unfold G13
  rw [dif_pos h, ← outsAt0_sweep m c _ h]
  refine Eq.trans (congrArg (outsAt0 m c _ h).2.1 (funext fun a => Fin.ext ?_)) ((branch_left m c ⟨_, h⟩ ⟨q.val % 128, by omega⟩ e).trans (branchAt_apply m c ⟨_, h⟩ _ e q (by show q.val = 128 * pt13Of (ix2 q e) + q.val % 128; rw [hp]; omega)))
  revert a
  exact Fin.forall_fin_two.mpr ⟨rfl, by show e.val % 2048 = e.val; omega⟩
/-- The third result is the projection matrix. -/
theorem project_entry (q : Fin 2048) (e : Fin 2048) : (G14 m c : FVec Ideal S2048x2048 .bf16) (ix2 q e) = (V m c main_v50 : FVec Ideal S2048x2048 .f32) (ix2 q e) := by
  have hp : pt14Of (ix2 q e) = q.val / 64 := by
    show 1 * (q.val / 64 - 0) + 1 * (e.val / 2048 - 0) = q.val / 64
    omega
  have h : pt14Of (ix2 q e) < cfg0.N := by
    rw [hp]
    exact lt_of_lt_of_eq (by omega) N_0.symm
  unfold G14
  rw [dif_pos h, ← outsAt0_sweep m c _ h]
  refine Eq.trans (congrArg (outsAt0 m c _ h).2.2.1 (funext fun a => Fin.ext ?_)) ((project_left m c ⟨_, h⟩ ⟨q.val % 64, by omega⟩ e).trans (projectAt_apply m c ⟨_, h⟩ _ e q (by show q.val = 64 * pt14Of (ix2 q e) + q.val % 64; rw [hp]; omega)))
  revert a
  exact Fin.forall_fin_two.mpr ⟨rfl, by show e.val % 2048 = e.val; omega⟩

end Cert.Kernel3Ideal.Ssd

end
-- ==== Proof.Ssd.Equation.lean ====
/- The reference's result of the scan at an index. -/
module

public import proofs.«01_k».proof.Proof.Ssd.Spec
public import proofs.«01_k».proof.Proof.Gen.Reference3Ideal.Run

@[expose] public section

set_option maxRecDepth 16384

noncomputable section

namespace Cert.Reference3Ideal.Ssd

open Idealize.ShloMosaic Idealize.ShloMosaic.TcCoe Idealize.ShloMosaic.Tactic
open Cert.Reference3Ideal Cert.Reference3Ideal.Gen Cert.Reference3Ideal.Value Cert.Merge Cert.Ssd

variable (V0 : Valuation τ sig (Elt Ideal))

/-- The arguments' entries, off the contents. -/
def args : Args where
  P q j := (V0 (Proc.devRef .tc main_arg0) : FVec Ideal S16384x16384 .bf16) (ix2 q j)
  D h q := (V0 (Proc.devRef .tc main_arg1) : FVec Ideal S32x16384 .f32) (ix2 h q)
  cw i j := (V0 (Proc.devRef .tc main_arg2) : FVec Ideal S1x4x4096 .f32) (ix3 0 i j)
  cb j := (V0 (Proc.devRef .tc main_arg3) : FVec Ideal S1x4096 .f32) (ix2 0 j)
  dtb h := (V0 (Proc.devRef .tc main_arg4) : FVec Ideal S1x32 .f32) (ix2 0 h)
  al h := (V0 (Proc.devRef .tc main_arg5) : FVec Ideal S1x32 .f32) (ix2 0 h)
  dsk h := (V0 (Proc.devRef .tc main_arg6) : FVec Ideal S1x32 .f32) (ix2 0 h)
  nw e := (V0 (Proc.devRef .tc main_arg7) : FVec Ideal S1x2048 .f32) (ix2 0 e)

/-- A row by batch and position. -/
def at' (a : Fin 4) (s : Fin 4096) : Fin 16384 := ⟨a.val * 4096 + s.val, by omega⟩
def pos (c : Fin 32) (l : Fin 128) : Fin 4096 := ⟨c.val * 128 + l.val, by omega⟩
def chunk' (a : Fin 4) (c : Fin 32) : Fin 128 := ⟨32 * a.val + c.val, by omega⟩
def head' (g : Fin 8) (k : Fin 4) : Fin 32 := ⟨g.val * 4 + k.val, by omega⟩
def chan' (g : Fin 8) (k : Fin 4) (p : Fin 64) : Fin 2048 := ⟨(g.val * 4 + k.val) * 64 + p.val, by omega⟩

theorem at_pos (a : Fin 4) (c : Fin 32) (l : Fin 128) : at' a (pos c l) = row (chunk' a c) l :=
  Fin.ext (by show a.val * 4096 + (c.val * 128 + l.val) = 128 * (32 * a.val + c.val) + l.val; omega)
theorem head_chan (g : Fin 8) (k : Fin 4) (p : Fin 64) : head (chan' g k p) = head' g k :=
  Fin.ext (by show ((g.val * 4 + k.val) * 64 + p.val) / 64 = g.val * 4 + k.val; omega)
theorem group_chan (g : Fin 8) (k : Fin 4) (p : Fin 64) : group (chan' g k p) = g :=
  Fin.ext (by show ((g.val * 4 + k.val) * 64 + p.val) / 256 = g.val; omega)

theorem v1_apply (a : Fin 4) (s : Fin 4096) (j : Fin 16384) : res_main_v1 (F := Ideal) V0 (ix3 a s j) = (args V0).P (at' a s) j := by
  pointwise [res_main_v1]
  simp only [args, at']
theorem v2_apply (a : Fin 4) (s : Fin 4096) (e : Fin 2048) : res_main_v2 (F := Ideal) V0 (ix3 a s e) = (args V0).gate (at' a s) e := by
  pointwise [res_main_v2]
  rw [v1_apply]
  unfold Args.gate
  rfl
theorem v4_apply (a : Fin 4) (s : Fin 4099) (j : Fin 4096) : res_main_v4 (F := Ideal) V0 (ix3 a s j)
    = if h : 3 ≤ s.val then (args V0).P ⟨a.val * 4096 + (s.val - 3), by omega⟩ ⟨8192 + j.val, by omega⟩ else 0 := by
  pointwise [res_main_v4]
  by_cases h : 3 ≤ s.val
  · rw [dif_pos ⟨h, by omega⟩, dif_pos h, v1_apply]
    rfl
  · rw [dif_neg (fun e => h e.1), dif_neg h]
    show (((0#32 : BitVec 32).toInt : ℝ) : EReal) = 0
    simp
theorem v4_tap (a : Fin 4) (s : Fin 4096) (i : Fin 4) (j : Fin 4096) (u : Fin 4099) (hu : u.val = s.val + i.val) : res_main_v4 (F := Ideal) V0 (ix3 a u j)
    = (args V0).tap (at' a s) i j := by
  rw [v4_apply]
  unfold Args.tap
  have e : (at' a s).val % 4096 = s.val := by show (a.val * 4096 + s.val) % 4096 = s.val; omega
  by_cases h : 3 ≤ s.val + i.val
  · rw [dif_pos (by omega), dif_pos (by omega)]
    exact congrArg (fun q => (args V0).P q _) (Fin.ext (by show a.val * 4096 + (u.val - 3) = a.val * 4096 + s.val + i.val - 3; omega))
  · rw [dif_neg (by omega), dif_neg (by omega)]
theorem v35_apply (a : Fin 4) (s : Fin 4096) (j : Fin 4096) : res_main_v35 (F := Ideal) V0 (ix3 a s j) = (args V0).conv (at' a s) j := by
  pointwise [res_main_v35]
  rw [v4_tap V0 a s 0 j _ rfl, v4_tap V0 a s 1 j _ (Nat.add_comm _ _), v4_tap V0 a s 2 j _ (Nat.add_comm _ _), v4_tap V0 a s 3 j _ (Nat.add_comm _ _)]
  unfold Args.conv
  simp only [args]
theorem v36_apply (a : Fin 4) (s : Fin 4096) (j : Fin 4096) : res_main_v36 (F := Ideal) V0 (ix3 a s j) = (args V0).act (at' a s) j := by
  pointwise [res_main_v36]
  rw [v35_apply]
  rfl
theorem v38_apply (a : Fin 4) (s : Fin 4096) (h : Fin 32) (p : Fin 64) : res_main_v38 (F := Ideal) V0 (ix4 a s h p) = (args V0).xs (at' a s) ⟨h.val * 64 + p.val, by omega⟩ := by
  pointwise [res_main_v38]
  rw [v36_apply]
  rfl
theorem v40_apply (a : Fin 4) (c : Fin 32) (l : Fin 128) (g : Fin 8) (n : Fin 128) : res_main_v40 (F := Ideal) V0 (ix5 a c l g n) = (args V0).bm (row (chunk' a c) l) g n := by
  pointwise [res_main_v40]
  rw [v36_apply, ← at_pos]
  exact congrArg ((args V0).act _) (Fin.ext (by show 2048 + (g.val * 128 + n.val) = 2048 + 128 * g.val + n.val; omega))
theorem v42_apply (a : Fin 4) (c : Fin 32) (l : Fin 128) (g : Fin 8) (n : Fin 128) : res_main_v42 (F := Ideal) V0 (ix5 a c l g n) = (args V0).cm (row (chunk' a c) l) g n := by
  pointwise [res_main_v42]
  rw [v36_apply, ← at_pos]
  exact congrArg ((args V0).act _) (Fin.ext (by show 3072 + (g.val * 128 + n.val) = 3072 + 128 * g.val + n.val; omega))
theorem v48_apply (a : Fin 4) (s : Fin 4096) (h : Fin 32) : res_main_v48 (F := Ideal) V0 (ix3 a s h) = (args V0).D h (at' a s) + (args V0).dtb h := by
  pointwise [res_main_v48]
  simp only [args, at']
theorem v49_apply (a : Fin 4) (s : Fin 4096) (h : Fin 32) : res_main_v49 (F := Ideal) V0 (ix3 a s h) = (args V0).dt (at' a s) h := by
  pointwise [res_main_v49, res_main_call2_v3, res_main_call2_cst]
  rw [v48_apply]
  rw [if_neg (fun e => e rfl)]
  unfold Args.dt softplus
  generalize (args V0).D h (at' a s) + (args V0).dtb h = x
  rw [zero_sub]
  rfl
theorem v56_apply (a : Fin 4) (c : Fin 32) (l : Fin 128) (g : Fin 8) (k : Fin 4) (p : Fin 64) : res_main_v56 (F := Ideal) V0 (ix6 a c l g k p)
    = (args V0).xs (row (chunk' a c) l) (chan' g k p) * (args V0).dt (row (chunk' a c) l) (head' g k) := by
  pointwise [res_main_v56]
  rw [v38_apply, v49_apply, ← at_pos]
  rfl
theorem select_one (x y : EReal) : Scalar.select 1#1 x y = x := rfl
theorem select_zero (x y : EReal) : Scalar.select 0#1 x y = y := rfl
theorem v58_apply (l s : Fin 128) : res_main_v58 (F := Ideal) V0 (ix2 l s) = if s.val ≤ l.val then 1#1 else 0#1 := by
  pointwise [res_main_v58]
  have h : ∀ r s : Fin 128, Scalar.select (IntOp.cmpi CmpIPredicate.sge (IntOp.addi (BitVec.ofNat 32 r.val) 0#32) (BitVec.ofNat 32 s.val)) 1#1 0#1
      = if s.val ≤ r.val then 1#1 else 0#1 := by decide +kernel
  exact h l s

/-- The source indices of a sum along the last axis. -/
theorem fiber_last (a : Fin 4) (c : Fin 32) (g : Fin 8) (k : Fin 4) (l : Fin 128) (i : S4x32x8x4x128x128.Idx) :
    reducesTo_S4x32x8x4x128x128_S4x32x8x4x128_d5.drop i = ix5 a c g k l ↔ ∃ s : Fin 128, ix6 a c g k l s = i := by
  constructor
  · intro e
    refine ⟨i 5, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨s, rfl⟩
    funext b
    apply Fin.ext
    match b with
    | ⟨0, _⟩ => rfl
    | ⟨1, _⟩ => rfl
    | ⟨2, _⟩ => rfl
    | ⟨3, _⟩ => rfl
    | ⟨4, _⟩ => rfl
theorem sum_last (v : S4x32x8x4x128x128.Idx → EReal) (z : EReal) (a : Fin 4) (c : Fin 32) (g : Fin 8) (k : Fin 4) (l : Fin 128) :
    Ideal.hostReduceAdd reducesTo_S4x32x8x4x128x128_S4x32x8x4x128_d5 v z (ix5 a c g k l) = z + ∑ s : Fin 128, v (ix6 a c g k l s) :=
  congrArg (z + ·) (Finset.sum_filter_eq_sum_of_fiber _ (fun s : Fin 128 => ix6 a c g k l s) (fun _ _ e => congrFun e 5) (fiber_last a c g k l) v)

theorem v66_apply (a : Fin 4) (c : Fin 32) (g : Fin 8) (k : Fin 4) (l : Fin 128) : res_main_v66 (F := Ideal) V0 (ix5 a c g k l) = (args V0).cum (chunk' a c) (head' g k) l := by
  pointwise [res_main_v66]
  rw [sum_last]
  refine (zero_add (M := EReal) _).trans ?_
  unfold Args.cum
  refine Finset.sum_congr (M := EReal) rfl fun s _ => ?_
  pointwise
  rw [v58_apply, v49_apply]
  unfold Args.adt
  rw [← at_pos]
  by_cases h : s.val ≤ l.val
  · rw [if_pos h, if_pos h, zero_sub]
    rfl
  · rw [if_neg h, if_neg h]
    exact Ideal.ofBits_zero_f32
theorem v67_apply (a : Fin 4) (c : Fin 32) (l : Fin 128) (g : Fin 8) (k : Fin 4) : res_main_v67 (F := Ideal) V0 (ix5 a c l g k) = (args V0).cum (chunk' a c) (head' g k) l := by
  pointwise [res_main_v67]
  exact v66_apply V0 a c g k l
theorem v91_apply (a : Fin 4) (c : Fin 32) (g : Fin 8) (k : Fin 4) (p : Fin 64) (n : Fin 128) : res_main_v91 (F := Ideal) V0 (ix6 a c g k p n) = (args V0).step (chunk' a c) (chan' g k p) n := by
  pointwise [res_main_v91]
  unfold Args.step Args.toEnd
  rw [head_chan, group_chan]
  refine Finset.sum_congr (M := EReal) rfl fun l _ => ?_
  rw [v56_apply, v67_apply, v67_apply, v40_apply, mul_comm, mul_assoc ((args V0).xs _ _)]
theorem v96_apply (a : Fin 4) (c : Fin 32) (g : Fin 8) (k : Fin 4) (p : Fin 64) (n : Fin 128) : res_main_v96 (F := Ideal) V0 (ix6 a c g k p n) = Ideal.exp ((args V0).cum (chunk' a c) (head' g k) 127) := by
  pointwise [res_main_v96]
  exact congrArg Ideal.exp (v66_apply V0 a c g k 127)

/-- One step of the carried state. -/
def stepOf (i : Fin 31) (x : Vec Ideal S4x8x4x64x128 .f32) : Vec Ideal S4x8x4x64x128 .f32 :=
  addf (F := Ideal) (φ := .f32) (mulf (F := Ideal) (φ := .f32) x (shapeCast S4x8x4x64x128 (extractStridedSlice S4x1x8x4x64x128 ![0, i.val, 0, 0, 0, 0] (res_main_v96 (F := Ideal) V0) (by revert i; decide)) shapeCasts_S4x1x8x4x64x128_S4x8x4x64x128))
    (shapeCast S4x8x4x64x128 (extractStridedSlice S4x1x8x4x64x128 ![0, i.val, 0, 0, 0, 0] (res_main_v91 (F := Ideal) V0) (by revert i; decide)) shapeCasts_S4x1x8x4x64x128_S4x8x4x64x128)
/-- The state after a number of steps. -/
def stateOf : ℕ → Vec Ideal S4x8x4x64x128 .f32
  | 0 => res_main_v97 (F := Ideal) V0
  | i + 1 => if h : i < 31 then stepOf V0 ⟨i, h⟩ (stateOf i) else stateOf i

theorem stepOf_apply (i : Fin 31) (x : Vec Ideal S4x8x4x64x128 .f32) (a : Fin 4) (g : Fin 8) (k : Fin 4) (p : Fin 64) (n : Fin 128) :
    stepOf V0 i x (ix5 a g k p n) = (x (ix5 a g k p n) : EReal) * Ideal.exp ((args V0).cum (chunk' a ⟨i.val, by omega⟩) (head' g k) 127) + (args V0).step (chunk' a ⟨i.val, by omega⟩) (chan' g k p) n := by
  pointwise [stepOf]
  rw [v96_apply, v91_apply]
theorem stateOf_apply (i : ℕ) (hi : i < 32) (a : Fin 4) (g : Fin 8) (k : Fin 4) (p : Fin 64) (n : Fin 128) :
    (stateOf V0 i (ix5 a g k p n) : EReal) = (args V0).state (32 * a.val + i) (chan' g k p) n := by
  induction i with
  | zero =>
    have e : (stateOf V0 0 (ix5 a g k p n) : EReal) = 0 := by
      unfold stateOf
      pointwise [res_main_v97]
    rw [e]
    have h0 : (32 * a.val + 0) % 32 = 0 := by omega
    generalize 32 * a.val + 0 = k at h0
    cases k with
    | zero => rfl
    | succ k => exact (if_pos h0).symm
  | succ i ih =>
    unfold stateOf
    rw [dif_pos (by omega), stepOf_apply, ih (by omega)]
    refine Eq.trans ?_ (if_neg (show ¬(32 * a.val + i + 1) % 32 = 0 by omega)).symm
    rw [head_chan]
    have e : chunk (32 * a.val + i) = chunk' a ⟨i, by omega⟩ := Fin.ext (by show (32 * a.val + i) % 128 = 32 * a.val + i; omega)
    exact e ▸ rfl
/-- Thirty-two states stacked along the chunks. -/
def stackOf (f : ℕ → Vec Ideal S4x8x4x64x128 .f32) : Vec Ideal S4x32x8x4x64x128 .f32 :=
  concatenate S4x32x8x4x64x128 1 [⟨S4x16x8x4x64x128, concatenate S4x16x8x4x64x128 1 [⟨S4x1x8x4x64x128, broadcastInDim S4x1x8x4x64x128 ![0, 2, 3, 4, 5] bcast_S4x8x4x64x128_S4x1x8x4x64x128_0_2_3_4_5 (f 0)⟩, ⟨S4x1x8x4x64x128, broadcastInDim S4x1x8x4x64x128 ![0, 2, 3, 4, 5] bcast_S4x8x4x64x128_S4x1x8x4x64x128_0_2_3_4_5 (f 1)⟩, ⟨S4x1x8x4x64x128, broadcastInDim S4x1x8x4x64x128 ![0, 2, 3, 4, 5] bcast_S4x8x4x64x128_S4x1x8x4x64x128_0_2_3_4_5 (f 2)⟩, ⟨S4x1x8x4x64x128, broadcastInDim S4x1x8x4x64x128 ![0, 2, 3, 4, 5] bcast_S4x8x4x64x128_S4x1x8x4x64x128_0_2_3_4_5 (f 3)⟩, ⟨S4x1x8x4x64x128, broadcastInDim S4x1x8x4x64x128 ![0, 2, 3, 4, 5] bcast_S4x8x4x64x128_S4x1x8x4x64x128_0_2_3_4_5 (f 4)⟩, ⟨S4x1x8x4x64x128, broadcastInDim S4x1x8x4x64x128 ![0, 2, 3, 4, 5] bcast_S4x8x4x64x128_S4x1x8x4x64x128_0_2_3_4_5 (f 5)⟩, ⟨S4x1x8x4x64x128, broadcastInDim S4x1x8x4x64x128 ![0, 2, 3, 4, 5] bcast_S4x8x4x64x128_S4x1x8x4x64x128_0_2_3_4_5 (f 6)⟩, ⟨S4x1x8x4x64x128, broadcastInDim S4x1x8x4x64x128 ![0, 2, 3, 4, 5] bcast_S4x8x4x64x128_S4x1x8x4x64x128_0_2_3_4_5 (f 7)⟩, ⟨S4x1x8x4x64x128, broadcastInDim S4x1x8x4x64x128 ![0, 2, 3, 4, 5] bcast_S4x8x4x64x128_S4x1x8x4x64x128_0_2_3_4_5 (f 8)⟩, ⟨S4x1x8x4x64x128, broadcastInDim S4x1x8x4x64x128 ![0, 2, 3, 4, 5] bcast_S4x8x4x64x128_S4x1x8x4x64x128_0_2_3_4_5 (f 9)⟩, ⟨S4x1x8x4x64x128, broadcastInDim S4x1x8x4x64x128 ![0, 2, 3, 4, 5] bcast_S4x8x4x64x128_S4x1x8x4x64x128_0_2_3_4_5 (f 10)⟩, ⟨S4x1x8x4x64x128, broadcastInDim S4x1x8x4x64x128 ![0, 2, 3, 4, 5] bcast_S4x8x4x64x128_S4x1x8x4x64x128_0_2_3_4_5 (f 11)⟩, ⟨S4x1x8x4x64x128, broadcastInDim S4x1x8x4x64x128 ![0, 2, 3, 4, 5] bcast_S4x8x4x64x128_S4x1x8x4x64x128_0_2_3_4_5 (f 12)⟩, ⟨S4x1x8x4x64x128, broadcastInDim S4x1x8x4x64x128 ![0, 2, 3, 4, 5] bcast_S4x8x4x64x128_S4x1x8x4x64x128_0_2_3_4_5 (f 13)⟩, ⟨S4x1x8x4x64x128, broadcastInDim S4x1x8x4x64x128 ![0, 2, 3, 4, 5] bcast_S4x8x4x64x128_S4x1x8x4x64x128_0_2_3_4_5 (f 14)⟩, ⟨S4x1x8x4x64x128, broadcastInDim S4x1x8x4x64x128 ![0, 2, 3, 4, 5] bcast_S4x8x4x64x128_S4x1x8x4x64x128_0_2_3_4_5 (f 15)⟩] concatenates_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x16x8x4x64x128_d1⟩,
    ⟨S4x16x8x4x64x128, concatenate S4x16x8x4x64x128 1 [⟨S4x1x8x4x64x128, broadcastInDim S4x1x8x4x64x128 ![0, 2, 3, 4, 5] bcast_S4x8x4x64x128_S4x1x8x4x64x128_0_2_3_4_5 (f 16)⟩, ⟨S4x1x8x4x64x128, broadcastInDim S4x1x8x4x64x128 ![0, 2, 3, 4, 5] bcast_S4x8x4x64x128_S4x1x8x4x64x128_0_2_3_4_5 (f 17)⟩, ⟨S4x1x8x4x64x128, broadcastInDim S4x1x8x4x64x128 ![0, 2, 3, 4, 5] bcast_S4x8x4x64x128_S4x1x8x4x64x128_0_2_3_4_5 (f 18)⟩, ⟨S4x1x8x4x64x128, broadcastInDim S4x1x8x4x64x128 ![0, 2, 3, 4, 5] bcast_S4x8x4x64x128_S4x1x8x4x64x128_0_2_3_4_5 (f 19)⟩, ⟨S4x1x8x4x64x128, broadcastInDim S4x1x8x4x64x128 ![0, 2, 3, 4, 5] bcast_S4x8x4x64x128_S4x1x8x4x64x128_0_2_3_4_5 (f 20)⟩, ⟨S4x1x8x4x64x128, broadcastInDim S4x1x8x4x64x128 ![0, 2, 3, 4, 5] bcast_S4x8x4x64x128_S4x1x8x4x64x128_0_2_3_4_5 (f 21)⟩, ⟨S4x1x8x4x64x128, broadcastInDim S4x1x8x4x64x128 ![0, 2, 3, 4, 5] bcast_S4x8x4x64x128_S4x1x8x4x64x128_0_2_3_4_5 (f 22)⟩, ⟨S4x1x8x4x64x128, broadcastInDim S4x1x8x4x64x128 ![0, 2, 3, 4, 5] bcast_S4x8x4x64x128_S4x1x8x4x64x128_0_2_3_4_5 (f 23)⟩, ⟨S4x1x8x4x64x128, broadcastInDim S4x1x8x4x64x128 ![0, 2, 3, 4, 5] bcast_S4x8x4x64x128_S4x1x8x4x64x128_0_2_3_4_5 (f 24)⟩, ⟨S4x1x8x4x64x128, broadcastInDim S4x1x8x4x64x128 ![0, 2, 3, 4, 5] bcast_S4x8x4x64x128_S4x1x8x4x64x128_0_2_3_4_5 (f 25)⟩, ⟨S4x1x8x4x64x128, broadcastInDim S4x1x8x4x64x128 ![0, 2, 3, 4, 5] bcast_S4x8x4x64x128_S4x1x8x4x64x128_0_2_3_4_5 (f 26)⟩, ⟨S4x1x8x4x64x128, broadcastInDim S4x1x8x4x64x128 ![0, 2, 3, 4, 5] bcast_S4x8x4x64x128_S4x1x8x4x64x128_0_2_3_4_5 (f 27)⟩, ⟨S4x1x8x4x64x128, broadcastInDim S4x1x8x4x64x128 ![0, 2, 3, 4, 5] bcast_S4x8x4x64x128_S4x1x8x4x64x128_0_2_3_4_5 (f 28)⟩, ⟨S4x1x8x4x64x128, broadcastInDim S4x1x8x4x64x128 ![0, 2, 3, 4, 5] bcast_S4x8x4x64x128_S4x1x8x4x64x128_0_2_3_4_5 (f 29)⟩, ⟨S4x1x8x4x64x128, broadcastInDim S4x1x8x4x64x128 ![0, 2, 3, 4, 5] bcast_S4x8x4x64x128_S4x1x8x4x64x128_0_2_3_4_5 (f 30)⟩, ⟨S4x1x8x4x64x128, broadcastInDim S4x1x8x4x64x128 ![0, 2, 3, 4, 5] bcast_S4x8x4x64x128_S4x1x8x4x64x128_0_2_3_4_5 (f 31)⟩] concatenates_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x1x8x4x64x128_S4x16x8x4x64x128_d1⟩] concatenates_S4x16x8x4x64x128_S4x16x8x4x64x128_S4x32x8x4x64x128_d1
theorem stackOf_apply (f : ℕ → Vec Ideal S4x8x4x64x128 .f32) (a : Fin 4) (c : Fin 32) (g : Fin 8) (k : Fin 4) (p : Fin 64) (n : Fin 128) :
    stackOf f (ix6 a c g k p n) = f c.val (ix5 a g k p n) := by
  pointwise [stackOf]
  fin_cases c <;> rfl
set_option maxHeartbeats 2000000 in
theorem v318_eq : res_main_v318 (F := Ideal) V0 = stackOf (stateOf V0) := by
  rfl
theorem v318_apply (a : Fin 4) (c : Fin 32) (g : Fin 8) (k : Fin 4) (p : Fin 64) (n : Fin 128) :
    (res_main_v318 (F := Ideal) V0 (ix6 a c g k p n) : EReal) = (args V0).state (chunk' a c).val (chan' g k p) n := by
  rw [v318_eq, stackOf_apply, stateOf_apply V0 c.val c.isLt]
  rfl
theorem div_pos (c : Fin 32) (l : Fin 128) (h : (pos c l).val / 128 < 32) : (⟨(pos c l).val / 128, h⟩ : Fin 32) = c :=
  Fin.ext (by show (c.val * 128 + l.val) / 128 = c.val; omega)
theorem mod_pos (c : Fin 32) (l : Fin 128) (h : (pos c l).val % 128 < 128) : (⟨(pos c l).val % 128, h⟩ : Fin 128) = l :=
  Fin.ext (by show (c.val * 128 + l.val) % 128 = l.val; omega)
theorem gated_apply (a : Fin 4) (c : Fin 32) (l : Fin 128) (g : Fin 8) (x : Fin 256) (k : Fin 4) (p : Fin 64) (hx : x.val = 64 * k.val + p.val) :
    res_main_v336 (F := Ideal) V0 (ix4 a (pos c l) g x) = (args V0).gated (chunk' a c) l (chan' g k p) := by
  have hk : ∀ h, (⟨(g.val * 256 + x.val) / 64 % 4, h⟩ : Fin 4) = k := fun h => Fin.ext (by show (g.val * 256 + x.val) / 64 % 4 = k.val; omega)
  have hp : ∀ h, (⟨(g.val * 256 + x.val) % 64, h⟩ : Fin 64) = p := fun h => Fin.ext (by show (g.val * 256 + x.val) % 64 = p.val; omega)
  have hh : ∀ h, (⟨(g.val * 256 + x.val) / 64, h⟩ : Fin 32) = head' g k := fun h => Fin.ext (by show (g.val * 256 + x.val) / 64 = g.val * 4 + k.val; omega)
  have he : ∀ h, (⟨g.val * 256 + x.val, h⟩ : Fin 2048) = chan' g k p := fun h => Fin.ext (by show g.val * 256 + x.val = (g.val * 4 + k.val) * 64 + p.val; omega)
  have hs : ∀ h, (⟨(head' g k).val * 64 + p.val, h⟩ : Fin 2048) = chan' g k p := fun h => rfl
  pointwise [res_main_v336]
  simp only [div_pos, mod_pos, hk, hp, hh, he, hs, v2_apply, v38_apply, v40_apply, v42_apply, v56_apply, v58_apply, v66_apply, v67_apply, v318_apply, at_pos]
  unfold Args.gated Args.diag Args.off
  rw [head_chan, group_chan]
  congr 1
  congr 1
  congr 1
  · refine Finset.sum_congr (M := EReal) rfl fun s _ => ?_
    by_cases h : s.val ≤ l.val
    · rw [if_pos h, if_pos h, select_one, select_one]
      rw [mul_comm, mul_assoc, mul_comm ((args V0).xs _ _)]
    · rw [if_neg h, if_neg h, select_zero]
  · refine congrArg (· * _) (Finset.sum_congr (M := EReal) rfl fun n _ => mul_comm _ _)
theorem v336_apply (a : Fin 4) (c : Fin 32) (l : Fin 128) (g : Fin 8) (x : Fin 256) (e : Fin 2048) (he : e.val = 256 * g.val + x.val) :
    res_main_v336 (F := Ideal) V0 (ix4 a (pos c l) g x) = (args V0).gated (chunk' a c) l e := by
  rw [gated_apply V0 a c l g x ⟨x.val / 64, by omega⟩ ⟨x.val % 64, by omega⟩ (by show x.val = 64 * (x.val / 64) + x.val % 64; omega)]
  exact congrArg _ (Fin.ext (by show (g.val * 4 + x.val / 64) * 64 + x.val % 64 = e.val; omega))
/-- The reference's result of the scan. -/
def result : FVec Ideal S16384x2048 .bf16 :=
  truncf .bf16 (mulf (shapeCast _ (mulf (res_main_v336 (F := Ideal) V0) (broadcastInDim S4x4096x8x256 ![0, 1, 2, 3] bcast_S4x4096x8x1_S4x4096x8x256_0_1_2_3 (Host.rsqrt (addf (Host.divf (broadcastInDim S4x4096x8x1 ![0, 1, 2] bcast_S4x4096x8_S4x4096x8x1_0_1_2 (Host.reduceAdd (mulf (res_main_v336 (F := Ideal) V0) (res_main_v336 (F := Ideal) V0)) (constant S_ .f32 0x00000000#32) reducesTo_S4x4096x8x256_S4x4096x8_d3 h_S_)) (broadcastInDim S4x4096x8x1 ![] bcast_S_S4x4096x8x1 (constant S_ .f32 0x43800000#32))) (broadcastInDim S4x4096x8x1 ![] bcast_S_S4x4096x8x1 (constant S_ .f32 0x3727C5AC#32)))))) shapeCasts_S4x4096x8x256_S16384x2048) (broadcastInDim S16384x2048 ![0, 1] bcast_S1x2048_S16384x2048_0_1 (broadcastInDim S1x2048 ![1] bcast_S2048_S1x2048_1 (shapeCast _ (V0 (Proc.devRef .tc main_arg7)) shapeCasts_S1x2048_S2048)))) bitsLt_bf16_f32
theorem result_apply (k l : Fin 128) (e : Fin 2048) : (result V0 (ix2 (row k l) e) : EReal) = (args V0).out k l e := by
  have hc : chunk' ⟨k.val / 32, by omega⟩ ⟨k.val % 32, by omega⟩ = k := Fin.ext (by show 32 * (k.val / 32) + k.val % 32 = k.val; omega)
  have ha : ∀ h, (⟨(row k l).val / 4096, h⟩ : Fin 4) = ⟨k.val / 32, by omega⟩ := fun h => Fin.ext (by show (128 * k.val + l.val) / 4096 = k.val / 32; omega)
  have hs : ∀ h, (⟨(row k l).val % 4096, h⟩ : Fin 4096) = pos ⟨k.val % 32, by omega⟩ l := fun h => Fin.ext (by show (128 * k.val + l.val) % 4096 = k.val % 32 * 128 + l.val; omega)
  pointwise [result]
  rw [ha, hs]
  have hg : ∀ x : Fin 256, res_main_v336 (F := Ideal) V0 (ix4 ⟨k.val / 32, by omega⟩ (pos ⟨k.val % 32, by omega⟩ l) ⟨e.val / 256, by omega⟩ x)
      = (args V0).gated k l ⟨256 * (e.val / 256) + x.val, by omega⟩ := fun x => by rw [v336_apply V0 _ _ l _ x ⟨256 * (e.val / 256) + x.val, by omega⟩ rfl, hc]
  rw [v336_apply V0 _ _ l _ _ e (by show e.val = 256 * (e.val / 256) + e.val % 256; omega), hc]
  simp only [hg]
  rfl
end Cert.Reference3Ideal.Ssd

end
-- ==== Proof.Ssd.Pre.lean ====
/- What the scan's precondition says of the arguments' entries. -/
module

public import proofs.«01_k».proof.Defs
public import proofs.«01_k».proof.Proof.Ssd.Spec
public import proofs.«01_k».proof.Proof.Gen.Pre_inputs_in_range

@[expose] public section

set_option maxRecDepth 65536

noncomputable section

namespace Cert.Ssd

open Idealize.ShloMosaic Idealize.ShloMosaic.TcCoe Idealize.ShloMosaic.Tactic
open Cert.Pre_inputs_in_range

theorem above (z : EReal) (h : BitVec.ofBool (decide (⊥ < z)) = 1#1) : z ≠ ⊥ := fun hx => by
  subst hx
  rw [decide_eq_false (lt_irrefl _)] at h
  exact absurd h (by decide)
theorem below (z : EReal) (h : BitVec.ofBool (decide (z < ⊤)) = 1#1) : z ≠ ⊤ := fun hx => by
  subst hx
  rw [decide_eq_false (lt_irrefl _)] at h
  exact absurd h (by decide)
theorem minus_infinity : Ideal.ofBits .f32 0xFF800000#32 = ⊥ := by simp [Ideal.ofBits, Ideal.ieee]
theorem plus_infinity : Ideal.ofBits .f32 0x7F800000#32 = ⊤ := by simp [Ideal.ofBits, Ideal.ieee]

variable (x0 : FVec Ideal S16384x16384 .bf16) (x1 : FVec Ideal S32x16384 .f32) (x2 : FVec Ideal S1x4x4096 .f32) (x3 : FVec Ideal S1x4096 .f32) (x4 x5 x6 : FVec Ideal S1x32 .f32) (x7 : FVec Ideal S1x2048 .f32)
  (x8 : FVec Ideal S1x2x2048x2048 .f32) (x9 : FVec Ideal S1x2048x2048 .f32)

/-- The entries of the scan's arguments. -/
def entries : Args where
  P q j := x0 (ix2 q j)
  D h q := x1 (ix2 h q)
  cw i j := x2 (ix3 0 i j)
  cb j := x3 (ix2 0 j)
  dtb h := x4 (ix2 0 h)
  al h := x5 (ix2 0 h)
  dsk h := x6 (ix2 0 h)
  nw e := x7 (ix2 0 e)

theorem gate_range (h : ∀ i, fn (F := Ideal) x0 x1 x2 x3 x4 x5 x6 x7 x8 x9 i = 1#1) (a : Fin 4) (s : Fin 4096) (e : Fin 2048) :
    x0 (ix2 ⟨a.val * 4096 + s.val, by omega⟩ ⟨6144 + e.val, by omega⟩) ≠ (⊥ : EReal) := by
  have h0 := h (ix3 a s ⟨e.val, by omega⟩)
  unfold fn fn_part1 fn_part2 fn_pad at h0
  pointwise at h0
  exact above _ (by rw [← minus_infinity]; exact h0)

theorem tap_pad (a : Fin 4) (s : Fin 4096) (i : Fin 4) (j : Fin 4096) (u : ℕ) (hu : u = s.val + i.val) :
    (if h : 3 ≤ u ∧ u - 3 < 4096 then x0 (ix2 ⟨a.val * 4096 + (u - 3), by omega⟩ ⟨8192 + j.val, by omega⟩) else FloatOps.sitofp (F := Ideal) .f32 (0#32) : EReal)
      = (entries x0 x1 x2 x3 x4 x5 x6 x7).tap ⟨a.val * 4096 + s.val, by omega⟩ i j := by
  unfold Args.tap
  have e : (a.val * 4096 + s.val) % 4096 = s.val := by omega
  by_cases h : 3 ≤ s.val + i.val
  · rw [dif_pos ⟨by omega, by omega⟩, dif_pos (by show 3 ≤ (a.val * 4096 + s.val) % 4096 + i.val; omega)]
    exact congrArg (fun q => x0 (ix2 q _)) (Fin.ext (by show a.val * 4096 + (u - 3) = a.val * 4096 + s.val + i.val - 3; omega))
  · rw [dif_neg (by omega), dif_neg (by show ¬3 ≤ (a.val * 4096 + s.val) % 4096 + i.val; omega)]
    show (((0#32 : BitVec 32).toInt : ℝ) : EReal) = 0
    simp
theorem tap_own (a : Fin 4) (s : Fin 4096) (j : Fin 4096) :
    (x0 (ix2 ⟨a.val * 4096 + s.val, by omega⟩ ⟨8192 + j.val, by omega⟩) : EReal) = (entries x0 x1 x2 x3 x4 x5 x6 x7).tap ⟨a.val * 4096 + s.val, by omega⟩ 3 j := by
  unfold Args.tap
  rw [dif_pos (by show 3 ≤ (a.val * 4096 + s.val) % 4096 + 3; omega)]
  exact congrArg (fun q => x0 (ix2 q _)) (Fin.ext (by show a.val * 4096 + s.val = a.val * 4096 + s.val + 3 - 3; omega))

theorem conv_range (h : ∀ i, fn (F := Ideal) x0 x1 x2 x3 x4 x5 x6 x7 x8 x9 i = 1#1) (a : Fin 4) (s : Fin 4096) (j : Fin 4096) :
    (entries x0 x1 x2 x3 x4 x5 x6 x7).conv ⟨a.val * 4096 + s.val, by omega⟩ j ≠ (⊥ : EReal) := by
  have h0 := h (ix3 a s ⟨2048 + j.val, by omega⟩)
  unfold fn fn_part1 fn_part2 fn_pad at h0
  pointwise at h0
  unfold Args.conv
  rw [← tap_pad x0 x1 x2 x3 x4 x5 x6 x7 a s 0 j s.val rfl, ← tap_pad x0 x1 x2 x3 x4 x5 x6 x7 a s 1 j (1 + s.val) (Nat.add_comm _ _),
    ← tap_pad x0 x1 x2 x3 x4 x5 x6 x7 a s 2 j (2 + s.val) (Nat.add_comm _ _), ← tap_own x0 x1 x2 x3 x4 x5 x6 x7 a s j]
  refine above _ ?_
  rw [← minus_infinity]
  exact h0
theorem step_range (h : ∀ i, fn (F := Ideal) x0 x1 x2 x3 x4 x5 x6 x7 x8 x9 i = 1#1) (a : Fin 4) (s : Fin 4096) (j : Fin 32) :
    x1 (ix2 j ⟨a.val * 4096 + s.val, by omega⟩) + x4 (ix2 0 j) ≠ (⊤ : EReal) := by
  have h0 := h (ix3 a s ⟨6144 + j.val, by omega⟩)
  unfold fn fn_part1 fn_part2 fn_pad at h0
  pointwise at h0
  have h1 : ¬6144 + j.val < 2048 := by omega
  have h2 : ¬6144 + j.val - 2048 < 4096 := by omega
  have h0 := (dif_neg h2).symm.trans ((dif_neg h1).symm.trans h0)
  rw [plus_infinity] at h0
  have hj : (⟨6144 + j.val - 2048 - 4096, by omega⟩ : Fin 32) = j := Fin.ext (by show 6144 + j.val - 2048 - 4096 = j.val; omega)
  exact fun hc => below _ h0 ((congrArg (fun k : Fin 32 => (x1 (ix2 k ⟨a.val * 4096 + s.val, by omega⟩) + x4 (ix2 0 k) : EReal)) hj).trans hc)

/-- The entries are in the range the scan is stated over. -/
theorem in_range (h : ∀ i, fn (F := Ideal) x0 x1 x2 x3 x4 x5 x6 x7 x8 x9 i = 1#1) : (entries x0 x1 x2 x3 x4 x5 x6 x7).Ok := by
  have hq : ∀ q : Fin 16384, (⟨(⟨q.val / 4096, by omega⟩ : Fin 4).val * 4096 + (⟨q.val % 4096, by omega⟩ : Fin 4096).val, by omega⟩ : Fin 16384) = q :=
    fun q => Fin.ext (by show q.val / 4096 * 4096 + q.val % 4096 = q.val; omega)
  refine ⟨fun q e => ?_, fun q j => ?_, fun q k => ?_⟩
  · have := gate_range x0 x1 x2 x3 x4 x5 x6 x7 x8 x9 h ⟨q.val / 4096, by omega⟩ ⟨q.val % 4096, by omega⟩ e
    rw [hq] at this
    exact this
  · have := conv_range x0 x1 x2 x3 x4 x5 x6 x7 x8 x9 h ⟨q.val / 4096, by omega⟩ ⟨q.val % 4096, by omega⟩ j
    rw [hq] at this
    exact this
  · have := step_range x0 x1 x2 x3 x4 x5 x6 x7 x8 x9 h ⟨q.val / 4096, by omega⟩ ⟨q.val % 4096, by omega⟩ k
    rw [hq] at this
    exact this

end Cert.Ssd

end
-- ==== Proof.Ssd.Claims.lean ====
/- The claims about the scan: the frames and the equation of the two programs' results. -/
module

public import proofs.«01_k».proof.Defs
public import proofs.«01_k».proof.Proof.Ssd.SameText
public import proofs.«01_k».proof.Proof.Ssd.Result
public import proofs.«01_k».proof.Proof.Ssd.Equation
public import proofs.«01_k».proof.Proof.Ssd.Pre

@[expose] public section

set_option maxRecDepth 65536
set_option maxHeartbeats 1000000

noncomputable section

namespace Cert.Ssd

open Idealize.ShloMosaic Idealize.ShloMosaic.TcCoe Idealize.ShloMosaic.StableHlo Idealize.SL.Sem
open Cert.Kernel3Ideal.Gen Cert.Kernel3Ideal.Value Cert.Kernel3Ideal.Ssd

/-- The scan terminates with its arguments unchanged and every semaphore at zero; its text is the idealized program's, so its run is that one at words. -/
theorem frame_kernel : Cert.quiescent_Kernel3 := by
  intro m ρ _
  rw [defs_same, main_same]
  exact Cert.Kernel3Ideal.Gen.frame (F := Bits) m ρ

theorem frame_kernelIdeal : Cert.quiescent_Kernel3Ideal :=
  fun m ρ _ => Cert.Kernel3Ideal.Gen.frame (F := Ideal) m ρ

/-- The reference terminates with its arguments unchanged; it has no semaphore. -/
theorem frame_referenceIdeal : Cert.quiescent_Reference3Ideal :=
  fun m ρ _ => (θ_run Cert.Reference3Ideal.defs _ _).mono
    (fun r h => ⟨fun c => (h c).2.2.2, sem_eq_zero_of_no_sems (by decide) r.2⟩)
    (Cert.Reference3Ideal.Value.run (F := Ideal) m ρ)

/-- Under the precondition the scan's entries are in range. -/
theorem args_in_range (m : (ℓ : Loc Cert.Kernel3Ideal.nD Cert.Kernel3Ideal.τ Cert.Kernel3Ideal.sig) → Buf (Elt Ideal) ℓ)
    (h : Cert.Pre_Kernel3Ideal_inputs_in_range m) (c : Dev Cert.Kernel3Ideal.nD) : (Cert.Kernel3Ideal.Ssd.args m c).Ok :=
  in_range _ _ _ _ _ _ _ _ _ _ (fun i => congrFun (h c) i)

/-- Equal arguments have equal entries. -/
theorem args_equal (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) :
    Cert.Reference3Ideal.Ssd.args (launchContents m' c) = Cert.Kernel3Ideal.Ssd.args m c := by
  have e : Cert.Reference3Ideal.Ssd.args (launchContents m' c) = entries (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) := rfl
  rw [e, h0, h1, h2, h3, h4, h5, h6, h7]
  rfl

/-- From equal arguments in range, the reference's scan is the kernel's. -/
theorem scan_equal (m : (ℓ : Loc Cert.Kernel3Ideal.nD Cert.Kernel3Ideal.τ Cert.Kernel3Ideal.sig) → Buf (Elt Ideal) ℓ) (hpre : Cert.Pre_Kernel3Ideal_inputs_in_range m) (c : Dev Cert.Kernel3Ideal.nD)
    (V0 : Valuation Cert.Reference3Ideal.τ Cert.Reference3Ideal.sig (Elt Ideal)) (h : Cert.Reference3Ideal.Ssd.args V0 = Cert.Kernel3Ideal.Ssd.args m c) :
    Cert.Reference3Ideal.Ssd.result V0 = (G12 m c : FVec Ideal Cert.Kernel3Ideal.S16384x2048 .bf16) := by
  have key : ∀ (q : Fin 16384) (e : Fin 2048), Cert.Reference3Ideal.Ssd.result V0 (ix2 q e) = (G12 m c : FVec Ideal Cert.Kernel3Ideal.S16384x2048 .bf16) (ix2 q e) := by
    intro q e
    obtain ⟨k, l, rfl⟩ : ∃ k l : Fin 128, q = row k l := ⟨⟨q.val / 128, by omega⟩, ⟨q.val % 128, by omega⟩, Fin.ext (by show q.val = 128 * (q.val / 128) + q.val % 128; omega)⟩
    refine Eq.trans (Cert.Reference3Ideal.Ssd.result_apply V0 k l e) (Eq.trans ?_ (scan_entry m c (args_in_range m hpre c) k l e).symm)
    rw [h]
  funext i
  obtain ⟨q, e, rfl⟩ : ∃ (q : Fin 16384) (e : Fin 2048), i = (ix2 q e : Cert.Kernel3Ideal.S16384x2048.Idx) := ⟨i 0, i 1, by blk_ext⟩
  exact key q e

/-- From equal arguments in range, both programs end with equal results, element by element. -/
theorem equal_results : Cert.algebraic_Kernel3Ideal_Reference3Ideal_pre_inputs_in_range := by
  intro m ρ m' ρ' hpre hagree
  refine ⟨fun c => G12 m c, fun c => G13 m c, fun c => G14 m c, Cert.Kernel3Ideal.Value.run (F := Ideal) m ρ, ?_⟩
  refine (θ_run Cert.Reference3Ideal.defs _ _).mono (fun _ h c => ⟨(h c).1.trans ?_, (h c).2.1.trans ?_, (h c).2.2.1.trans ?_, (h c).2.2.2⟩) (Cert.Reference3Ideal.Value.run (F := Ideal) m' ρ')
  · obtain ⟨h0, h1, h2, h3, h4, h5, h6, h7, -⟩ := hagree c
    refine Eq.trans ?_ (scan_equal m hpre c _ (args_equal m m' c h0 h1 h2 h3 h4 h5 h6 h7))
    unfold Cert.Reference3Ideal.Ssd.result
    with_reducible rfl
  · obtain ⟨-, -, -, -, -, -, -, -, h8, -⟩ := hagree c
    funext i
    obtain ⟨q, e, rfl⟩ : ∃ (q : Fin 4096) (e : Fin 2048), i = (ix2 q e : Cert.Kernel3Ideal.S4096x2048.Idx) := ⟨i 0, i 1, by blk_ext⟩
    refine Eq.trans ?_ (branch_entry m c q e).symm
    rw [V_branch, ← h8]
    rfl
  · obtain ⟨-, -, -, -, -, -, -, -, -, h9⟩ := hagree c
    funext i
    obtain ⟨q, e, rfl⟩ : ∃ (q : Fin 2048) (e : Fin 2048), i = (ix2 q e : Cert.Kernel3Ideal.S2048x2048.Idx) := ⟨i 0, i 1, by blk_ext⟩
    refine Eq.trans ?_ (project_entry m c q e).symm
    rw [V_project, ← h9]
    rfl

end Cert.Ssd

end
-- ==== Proof.lean ====
/- The proof of the certificate's claim: for the in-projection, the merge and the scan the frames, the idealization and the equation of the results,
   each from its module. -/
module

public import proofs.«01_k».proof.Defs
public import proofs.«01_k».proof.Proof.Gen.ReferenceIdeal.Run
public import proofs.«01_k».proof.Proof.Claims
public import proofs.«01_k».proof.Proof.Merge.Claims
public import proofs.«01_k».proof.Proof.Ssd.Claims

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_gate_above_minus_infinity.Gen.facts, Cert.Pre_inputs_in_range.Gen.facts,
  Cert.Inproj.frame_kernel, Cert.Inproj.frame_kernelIdeal, Cert.Inproj.frame_referenceIdeal,
  Cert.Merge.frame_kernel, Cert.Merge.frame_kernelIdeal, fun m ρ _ => Cert.Merge.frame_kernelIdeal m ρ trivial,
  Cert.Merge.frame_referenceIdeal, fun m ρ _ => Cert.Merge.frame_referenceIdeal m ρ trivial,
  Cert.Ssd.frame_kernel, Cert.Ssd.frame_kernelIdeal, fun m ρ _ => Cert.Ssd.frame_kernelIdeal m ρ trivial,
  Cert.Ssd.frame_referenceIdeal, fun m ρ _ => Cert.Ssd.frame_referenceIdeal m ρ trivial,
  trivial, Cert.Inproj.equal_results, trivial, Cert.Merge.equal_results, trivial, Cert.Ssd.equal_results⟩

end Cert.Proof

end
